-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4, 512]⟩ ⟨2, ![64, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S4x512 : Shape := ⟨2, ![4, 512]⟩
abbrev S3x512x1024 : Shape := ⟨3, ![3, 512, 1024]⟩
abbrev S3x1024x512 : Shape := ⟨3, ![3, 1024, 512]⟩
abbrev S16x4x512 : Shape := ⟨3, ![16, 4, 512]⟩
abbrev S6 : Shape := ⟨1, ![6]⟩
abbrev S_ : Shape := ⟨0, ![]⟩
abbrev S5 : Shape := ⟨1, ![5]⟩
abbrev S1 : Shape := ⟨1, ![1]⟩
abbrev S1x512x1024 : Shape := ⟨3, ![1, 512, 1024]⟩
abbrev S1x1024x512 : Shape := ⟨3, ![1, 1024, 512]⟩
abbrev S64x1024 : Shape := ⟨2, ![64, 1024]⟩
abbrev S1x4x512 : Shape := ⟨3, ![1, 4, 512]⟩

abbrev nBuf : Space → Nat
  | .hbm => 8
  | .vmem => 12
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S4x512, .f32⟩
  | .local _ .vmem, ⟨0, _⟩ => ⟨S64x512, .f32⟩
  | .local _ .vmem, ⟨1, _⟩ => ⟨S4x512, .f32⟩
  | .local _ .vmem, ⟨2, _⟩ => ⟨S3x512x1024, .f32⟩
  | .local _ .vmem, ⟨3, _⟩ => ⟨S3x1024x512, .f32⟩
  | .local _ .vmem, ⟨4, _⟩ => ⟨S3x512x1024, .bf16⟩
  | .local _ .vmem, ⟨5, _⟩ => ⟨S3x1024x512, .bf16⟩
  | .local _ .vmem, ⟨6, _⟩ => ⟨S16x4x512, .bf16⟩
  | .local _ .vmem, ⟨7, _⟩ => ⟨S16x4x512, .bf16⟩
  | .local _ .vmem, ⟨8, _⟩ => ⟨S16x4x512, .bf16⟩
  | .local _ .vmem, ⟨9, _⟩ => ⟨S16x4x512, .bf16⟩
  | .local _ .vmem, ⟨10, _⟩ => ⟨S16x4x512, .bf16⟩
  | .local _ .vmem, ⟨11, _⟩ => ⟨S16x4x512, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v28 : BitVec 32 := Scalar.addi v2 c1_i32_19
  let c16_i32_20 : BitVec 32 := 16#32
  let c0_i32_21 : BitVec 32 := 0#32
  let v29 : BitVec 1 := Scalar.cmpi .eq c16_i32_20 c0_i32_21
  let c1_i32_22 : BitVec 32 := 1#32
  let v30 : BitVec 32 := Scalar.select v29 c1_i32_22 c16_i32_20
  let v31 : BitVec 32 := Scalar.remsi v28 v30
  let c0_i32_24 : BitVec 32 := 0#32
  let v33 : BitVec 1 := Scalar.cmpi .slt v31 c0_i32_24
  let c0_i32_25 : BitVec 32 := 0#32
  let v34 : BitVec 1 := Scalar.cmpi .slt v30 c0_i32_25
  let v35 : BitVec 1 := Scalar.xori v33 v34
  let c0_i32_23 : BitVec 32 := 0#32
  let v32 : BitVec 1 := Scalar.cmpi .ne v31 c0_i32_23
  let v36 : BitVec 1 := Scalar.andi v35 v32
  let v37 : BitVec 32 := Scalar.addi v31 v30
  let v38 : BitVec 32 := Scalar.select v36 v37 v31
  let c1_i32_27 : BitVec 32 := 1#32
  let v39 : BitVec 32 := Scalar.muli v38 c1_i32_27
  let v40 : BitVec 32 := Scalar.addi c0_i32_28 v39
  v40.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_29 : BitVec 32 := 2#32
  let v41 : BitVec 32 := Scalar.addi v2 c2_i32_29
  let c16_i32_30 : BitVec 32 := 16#32
  let c0_i32_31 : BitVec 32 := 0#32
  let v42 : BitVec 1 := Scalar.cmpi .eq c16_i32_30 c0_i32_31
  let c1_i32_32 : BitVec 32 := 1#32
  let v43 : BitVec 32 := Scalar.select v42 c1_i32_32 c16_i32_30
  let v44 : BitVec 32 := Scalar.remsi v41 v43
  let c0_i32_34 : BitVec 32 := 0#32
  let v46 : BitVec 1 := Scalar.cmpi .slt v44 c0_i32_34
  let c0_i32_35 : BitVec 32 := 0#32
  let v47 : BitVec 1 := Scalar.cmpi .slt v43 c0_i32_35
  let v48 : BitVec 1 := Scalar.xori v46 v47
  let c0_i32_33 : BitVec 32 := 0#32
  let v45 : BitVec 1 := Scalar.cmpi .ne v44 c0_i32_33
  let v49 : BitVec 1 := Scalar.andi v48 v45
  let v50 : BitVec 32 := Scalar.addi v44 v43
  let v51 : BitVec 32 := Scalar.select v49 v50 v44
  let c1_i32_37 : BitVec 32 := 1#32
  let v52 : BitVec 32 := Scalar.muli v51 c1_i32_37
  let v53 : BitVec 32 := Scalar.addi c0_i32_38 v52
  v53.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_39 : BitVec 32 := 3#32
  let v54 : BitVec 32 := Scalar.addi v2 c3_i32_39
  let c16_i32_40 : BitVec 32 := 16#32
  let c0_i32_41 : BitVec 32 := 0#32
  let v55 : BitVec 1 := Scalar.cmpi .eq c16_i32_40 c0_i32_41
  let c1_i32_42 : BitVec 32 := 1#32
  let v56 : BitVec 32 := Scalar.select v55 c1_i32_42 c16_i32_40
  let v57 : BitVec 32 := Scalar.remsi v54 v56
  let c0_i32_44 : BitVec 32 := 0#32
  let v59 : BitVec 1 := Scalar.cmpi .slt v57 c0_i32_44
  let c0_i32_45 : BitVec 32 := 0#32
  let v60 : BitVec 1 := Scalar.cmpi .slt v56 c0_i32_45
  let v61 : BitVec 1 := Scalar.xori v59 v60
  let c0_i32_43 : BitVec 32 := 0#32
  let v58 : BitVec 1 := Scalar.cmpi .ne v57 c0_i32_43
  let v62 : BitVec 1 := Scalar.andi v61 v58
  let v63 : BitVec 32 := Scalar.addi v57 v56
  let v64 : BitVec 32 := Scalar.select v62 v63 v57
  let c1_i32_47 : BitVec 32 := 1#32
  let v65 : BitVec 32 := Scalar.muli v64 c1_i32_47
  let v66 : BitVec 32 := Scalar.addi c0_i32_48 v65
  v66.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_49 : BitVec 32 := 4#32
  let v67 : BitVec 32 := Scalar.addi v2 c4_i32_49
  let c16_i32_50 : BitVec 32 := 16#32
  let c0_i32_51 : BitVec 32 := 0#32
  let v68 : BitVec 1 := Scalar.cmpi .eq c16_i32_50 c0_i32_51
  let c1_i32_52 : BitVec 32 := 1#32
  let v69 : BitVec 32 := Scalar.select v68 c1_i32_52 c16_i32_50
  let v70 : BitVec 32 := Scalar.remsi v67 v69
  let c0_i32_54 : BitVec 32 := 0#32
  let v72 : BitVec 1 := Scalar.cmpi .slt v70 c0_i32_54
  let c0_i32_55 : BitVec 32 := 0#32
  let v73 : BitVec 1 := Scalar.cmpi .slt v69 c0_i32_55
  let v74 : BitVec 1 := Scalar.xori v72 v73
  let c0_i32_53 : BitVec 32 := 0#32
  let v71 : BitVec 1 := Scalar.cmpi .ne v70 c0_i32_53
  let v75 : BitVec 1 := Scalar.andi v74 v71
  let v76 : BitVec 32 := Scalar.addi v70 v69
  let v77 : BitVec 32 := Scalar.select v75 v76 v70
  let c1_i32_57 : BitVec 32 := 1#32
  let v78 : BitVec 32 := Scalar.muli v77 c1_i32_57
  let v79 : BitVec 32 := Scalar.addi c0_i32_58 v78
  v79.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_59 : BitVec 32 := 5#32
  let v80 : BitVec 32 := Scalar.addi v2 c5_i32_59
  let c16_i32_60 : BitVec 32 := 16#32
  let c0_i32_61 : BitVec 32 := 0#32
  let v81 : BitVec 1 := Scalar.cmpi .eq c16_i32_60 c0_i32_61
  let c1_i32_62 : BitVec 32 := 1#32
  let v82 : BitVec 32 := Scalar.select v81 c1_i32_62 c16_i32_60
  let v83 : BitVec 32 := Scalar.remsi v80 v82
  let c0_i32_64 : BitVec 32 := 0#32
  let v85 : BitVec 1 := Scalar.cmpi .slt v83 c0_i32_64
  let c0_i32_65 : BitVec 32 := 0#32
  let v86 : BitVec 1 := Scalar.cmpi .slt v82 c0_i32_65
  let v87 : BitVec 1 := Scalar.xori v85 v86
  let c0_i32_63 : BitVec 32 := 0#32
  let v84 : BitVec 1 := Scalar.cmpi .ne v83 c0_i32_63
  let v88 : BitVec 1 := Scalar.andi v87 v84
  let v89 : BitVec 32 := Scalar.addi v83 v82
  let v90 : BitVec 32 := Scalar.select v88 v89 v83
  let c1_i32_67 : BitVec 32 := 1#32
  let v91 : BitVec 32 := Scalar.muli v90 c1_i32_67
  let v92 : BitVec 32 := Scalar.addi c0_i32_68 v91
  v92.toNat
def k0_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v93 : BitVec 32 := Scalar.addi v2 c6_i32
  let c16_i32_69 : BitVec 32 := 16#32
  let c0_i32_70 : BitVec 32 := 0#32
  let v94 : BitVec 1 := Scalar.cmpi .eq c16_i32_69 c0_i32_70
  let c1_i32_71 : BitVec 32 := 1#32
  let v95 : BitVec 32 := Scalar.select v94 c1_i32_71 c16_i32_69
  let v96 : BitVec 32 := Scalar.remsi v93 v95
  let c0_i32_73 : BitVec 32 := 0#32
  let v98 : BitVec 1 := Scalar.cmpi .slt v96 c0_i32_73
  let c0_i32_74 : BitVec 32 := 0#32
  let v99 : BitVec 1 := Scalar.cmpi .slt v95 c0_i32_74
  let v100 : BitVec 1 := Scalar.xori v98 v99
  let c0_i32_72 : BitVec 32 := 0#32
  let v97 : BitVec 1 := Scalar.cmpi .ne v96 c0_i32_72
  let v101 : BitVec 1 := Scalar.andi v100 v97
  let v102 : BitVec 32 := Scalar.addi v96 v95
  let v103 : BitVec 32 := Scalar.select v101 v102 v96
  let c1_i32_76 : BitVec 32 := 1#32
  let v104 : BitVec 32 := Scalar.muli v103 c1_i32_76
  let v105 : BitVec 32 := Scalar.addi c0_i32_77 v104
  v105.toNat
def k0_dev7 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v106 : BitVec 32 := Scalar.addi v2 c7_i32
  let c16_i32_78 : BitVec 32 := 16#32
  let c0_i32_79 : BitVec 32 := 0#32
  let v107 : BitVec 1 := Scalar.cmpi .eq c16_i32_78 c0_i32_79
  let c1_i32_80 : BitVec 32 := 1#32
  let v108 : BitVec 32 := Scalar.select v107 c1_i32_80 c16_i32_78
  let v109 : BitVec 32 := Scalar.remsi v106 v108
  let c0_i32_82 : BitVec 32 := 0#32
  let v111 : BitVec 1 := Scalar.cmpi .slt v109 c0_i32_82
  let c0_i32_83 : BitVec 32 := 0#32
  let v112 : BitVec 1 := Scalar.cmpi .slt v108 c0_i32_83
  let v113 : BitVec 1 := Scalar.xori v111 v112
  let c0_i32_81 : BitVec 32 := 0#32
  let v110 : BitVec 1 := Scalar.cmpi .ne v109 c0_i32_81
  let v114 : BitVec 1 := Scalar.andi v113 v110
  let v115 : BitVec 32 := Scalar.addi v109 v108
  let v116 : BitVec 32 := Scalar.select v114 v115 v109
  let c1_i32_85 : BitVec 32 := 1#32
  let v117 : BitVec 32 := Scalar.muli v116 c1_i32_85
  let v118 : BitVec 32 := Scalar.addi c0_i32_86 v117
  v118.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v119 : BitVec 32 := Scalar.addi v2 c8_i32
  let c16_i32_87 : BitVec 32 := 16#32
  let c0_i32_88 : BitVec 32 := 0#32
  let v120 : BitVec 1 := Scalar.cmpi .eq c16_i32_87 c0_i32_88
  let c1_i32_89 : BitVec 32 := 1#32
  let v121 : BitVec 32 := Scalar.select v120 c1_i32_89 c16_i32_87
  let v122 : BitVec 32 := Scalar.remsi v119 v121
  let c0_i32_91 : BitVec 32 := 0#32
  let v124 : BitVec 1 := Scalar.cmpi .slt v122 c0_i32_91
  let c0_i32_92 : BitVec 32 := 0#32
  let v125 : BitVec 1 := Scalar.cmpi .slt v121 c0_i32_92
  let v126 : BitVec 1 := Scalar.xori v124 v125
  let c0_i32_90 : BitVec 32 := 0#32
  let v123 : BitVec 1 := Scalar.cmpi .ne v122 c0_i32_90
  let v127 : BitVec 1 := Scalar.andi v126 v123
  let v128 : BitVec 32 := Scalar.addi v122 v121
  let v129 : BitVec 32 := Scalar.select v127 v128 v122
  let c1_i32_94 : BitVec 32 := 1#32
  let v130 : BitVec 32 := Scalar.muli v129 c1_i32_94
  let v131 : BitVec 32 := Scalar.addi c0_i32_95 v130
  v131.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v132 : BitVec 32 := Scalar.addi v2 c9_i32
  let c16_i32_96 : BitVec 32 := 16#32
  let c0_i32_97 : BitVec 32 := 0#32
  let v133 : BitVec 1 := Scalar.cmpi .eq c16_i32_96 c0_i32_97
  let c1_i32_98 : BitVec 32 := 1#32
  let v134 : BitVec 32 := Scalar.select v133 c1_i32_98 c16_i32_96
  let v135 : BitVec 32 := Scalar.remsi v132 v134
  let c0_i32_100 : BitVec 32 := 0#32
  let v137 : BitVec 1 := Scalar.cmpi .slt v135 c0_i32_100
  let c0_i32_101 : BitVec 32 := 0#32
  let v138 : BitVec 1 := Scalar.cmpi .slt v134 c0_i32_101
  let v139 : BitVec 1 := Scalar.xori v137 v138
  let c0_i32_99 : BitVec 32 := 0#32
  let v136 : BitVec 1 := Scalar.cmpi .ne v135 c0_i32_99
  let v140 : BitVec 1 := Scalar.andi v139 v136
  let v141 : BitVec 32 := Scalar.addi v135 v134
  let v142 : BitVec 32 := Scalar.select v140 v141 v135
  let c1_i32_103 : BitVec 32 := 1#32
  let v143 : BitVec 32 := Scalar.muli v142 c1_i32_103
  let v144 : BitVec 32 := Scalar.addi c0_i32_104 v143
  v144.toNat
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v145 : BitVec 32 := Scalar.addi v2 c10_i32
  let c16_i32_105 : BitVec 32 := 16#32
  let c0_i32_106 : BitVec 32 := 0#32
  let v146 : BitVec 1 := Scalar.cmpi .eq c16_i32_105 c0_i32_106
  let c1_i32_107 : BitVec 32 := 1#32
  let v147 : BitVec 32 := Scalar.select v146 c1_i32_107 c16_i32_105
  let v148 : BitVec 32 := Scalar.remsi v145 v147
  let c0_i32_109 : BitVec 32 := 0#32
  let v150 : BitVec 1 := Scalar.cmpi .slt v148 c0_i32_109
  let c0_i32_110 : BitVec 32 := 0#32
  let v151 : BitVec 1 := Scalar.cmpi .slt v147 c0_i32_110
  let v152 : BitVec 1 := Scalar.xori v150 v151
  let c0_i32_108 : BitVec 32 := 0#32
  let v149 : BitVec 1 := Scalar.cmpi .ne v148 c0_i32_108
  let v153 : BitVec 1 := Scalar.andi v152 v149
  let v154 : BitVec 32 := Scalar.addi v148 v147
  let v155 : BitVec 32 := Scalar.select v153 v154 v148
  let c1_i32_112 : BitVec 32 := 1#32
  let v156 : BitVec 32 := Scalar.muli v155 c1_i32_112
  let v157 : BitVec 32 := Scalar.addi c0_i32_113 v156
  v157.toNat
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v158 : BitVec 32 := Scalar.addi v2 c11_i32
  let c16_i32_114 : BitVec 32 := 16#32
  let c0_i32_115 : BitVec 32 := 0#32
  let v159 : BitVec 1 := Scalar.cmpi .eq c16_i32_114 c0_i32_115
  let c1_i32_116 : BitVec 32 := 1#32
  let v160 : BitVec 32 := Scalar.select v159 c1_i32_116 c16_i32_114
  let v161 : BitVec 32 := Scalar.remsi v158 v160
  let c0_i32_118 : BitVec 32 := 0#32
  let v163 : BitVec 1 := Scalar.cmpi .slt v161 c0_i32_118
  let c0_i32_119 : BitVec 32 := 0#32
  let v164 : BitVec 1 := Scalar.cmpi .slt v160 c0_i32_119
  let v165 : BitVec 1 := Scalar.xori v163 v164
  let c0_i32_117 : BitVec 32 := 0#32
  let v162 : BitVec 1 := Scalar.cmpi .ne v161 c0_i32_117
  let v166 : BitVec 1 := Scalar.andi v165 v162
  let v167 : BitVec 32 := Scalar.addi v161 v160
  let v168 : BitVec 32 := Scalar.select v166 v167 v161
  let c1_i32_121 : BitVec 32 := 1#32
  let v169 : BitVec 32 := Scalar.muli v168 c1_i32_121
  let v170 : BitVec 32 := Scalar.addi c0_i32_122 v169
  v170.toNat
def k0_dev12 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v171 : BitVec 32 := Scalar.addi v2 c12_i32
  let c16_i32_123 : BitVec 32 := 16#32
  let c0_i32_124 : BitVec 32 := 0#32
  let v172 : BitVec 1 := Scalar.cmpi .eq c16_i32_123 c0_i32_124
  let c1_i32_125 : BitVec 32 := 1#32
  let v173 : BitVec 32 := Scalar.select v172 c1_i32_125 c16_i32_123
  let v174 : BitVec 32 := Scalar.remsi v171 v173
  let c0_i32_127 : BitVec 32 := 0#32
  let v176 : BitVec 1 := Scalar.cmpi .slt v174 c0_i32_127
  let c0_i32_128 : BitVec 32 := 0#32
  let v177 : BitVec 1 := Scalar.cmpi .slt v173 c0_i32_128
  let v178 : BitVec 1 := Scalar.xori v176 v177
  let c0_i32_126 : BitVec 32 := 0#32
  let v175 : BitVec 1 := Scalar.cmpi .ne v174 c0_i32_126
  let v179 : BitVec 1 := Scalar.andi v178 v175
  let v180 : BitVec 32 := Scalar.addi v174 v173
  let v181 : BitVec 32 := Scalar.select v179 v180 v174
  let c1_i32_130 : BitVec 32 := 1#32
  let v182 : BitVec 32 := Scalar.muli v181 c1_i32_130
  let v183 : BitVec 32 := Scalar.addi c0_i32_131 v182
  v183.toNat
def k0_dev13 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v184 : BitVec 32 := Scalar.addi v2 c13_i32
  let c16_i32_132 : BitVec 32 := 16#32
  let c0_i32_133 : BitVec 32 := 0#32
  let v185 : BitVec 1 := Scalar.cmpi .eq c16_i32_132 c0_i32_133
  let c1_i32_134 : BitVec 32 := 1#32
  let v186 : BitVec 32 := Scalar.select v185 c1_i32_134 c16_i32_132
  let v187 : BitVec 32 := Scalar.remsi v184 v186
  let c0_i32_136 : BitVec 32 := 0#32
  let v189 : BitVec 1 := Scalar.cmpi .slt v187 c0_i32_136
  let c0_i32_137 : BitVec 32 := 0#32
  let v190 : BitVec 1 := Scalar.cmpi .slt v186 c0_i32_137
  let v191 : BitVec 1 := Scalar.xori v189 v190
  let c0_i32_135 : BitVec 32 := 0#32
  let v188 : BitVec 1 := Scalar.cmpi .ne v187 c0_i32_135
  let v192 : BitVec 1 := Scalar.andi v191 v188
  let v193 : BitVec 32 := Scalar.addi v187 v186
  let v194 : BitVec 32 := Scalar.select v192 v193 v187
  let c1_i32_139 : BitVec 32 := 1#32
  let v195 : BitVec 32 := Scalar.muli v194 c1_i32_139
  let v196 : BitVec 32 := Scalar.addi c0_i32_140 v195
  v196.toNat
def k0_dev14 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v197 : BitVec 32 := Scalar.addi v2 c14_i32
  let c16_i32_141 : BitVec 32 := 16#32
  let c0_i32_142 : BitVec 32 := 0#32
  let v198 : BitVec 1 := Scalar.cmpi .eq c16_i32_141 c0_i32_142
  let c1_i32_143 : BitVec 32 := 1#32
  let v199 : BitVec 32 := Scalar.select v198 c1_i32_143 c16_i32_141
  let v200 : BitVec 32 := Scalar.remsi v197 v199
  let c0_i32_145 : BitVec 32 := 0#32
  let v202 : BitVec 1 := Scalar.cmpi .slt v200 c0_i32_145
  let c0_i32_146 : BitVec 32 := 0#32
  let v203 : BitVec 1 := Scalar.cmpi .slt v199 c0_i32_146
  let v204 : BitVec 1 := Scalar.xori v202 v203
  let c0_i32_144 : BitVec 32 := 0#32
  let v201 : BitVec 1 := Scalar.cmpi .ne v200 c0_i32_144
  let v205 : BitVec 1 := Scalar.andi v204 v201
  let v206 : BitVec 32 := Scalar.addi v200 v199
  let v207 : BitVec 32 := Scalar.select v205 v206 v200
  let c1_i32_148 : BitVec 32 := 1#32
  let v208 : BitVec 32 := Scalar.muli v207 c1_i32_148
  let v209 : BitVec 32 := Scalar.addi c0_i32_149 v208
  v209.toNat
def k0_dev15 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v210 : BitVec 32 := Scalar.addi v2 c15_i32
  let c16_i32_150 : BitVec 32 := 16#32
  let c0_i32_151 : BitVec 32 := 0#32
  let v211 : BitVec 1 := Scalar.cmpi .eq c16_i32_150 c0_i32_151
  let c1_i32_152 : BitVec 32 := 1#32
  let v212 : BitVec 32 := Scalar.select v211 c1_i32_152 c16_i32_150
  let v213 : BitVec 32 := Scalar.remsi v210 v212
  let c0_i32_154 : BitVec 32 := 0#32
  let v215 : BitVec 1 := Scalar.cmpi .slt v213 c0_i32_154
  let c0_i32_155 : BitVec 32 := 0#32
  let v216 : BitVec 1 := Scalar.cmpi .slt v212 c0_i32_155
  let v217 : BitVec 1 := Scalar.xori v215 v216
  let c0_i32_153 : BitVec 32 := 0#32
  let v214 : BitVec 1 := Scalar.cmpi .ne v213 c0_i32_153
  let v218 : BitVec 1 := Scalar.andi v217 v214
  let v219 : BitVec 32 := Scalar.addi v213 v212
  let v220 : BitVec 32 := Scalar.select v218 v219 v213
  let c1_i32_157 : BitVec 32 := 1#32
  let v221 : BitVec 32 := Scalar.muli v220 c1_i32_157
  let v222 : BitVec 32 := Scalar.addi c0_i32_158 v221
  v222.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_202 : BitVec 32 := 0#32
  let c0_i32_203 : BitVec 32 := 0#32
  ![v2.toNat, 0, 0]
def k0_off2 (d0 : Dev nD) (c1_i32_192 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v260 : BitVec 32 := Scalar.addi v2 c1_i32_192
  let c16_i32_193 : BitVec 32 := 16#32
  let c0_i32_194 : BitVec 32 := 0#32
  let v261 : BitVec 1 := Scalar.cmpi .eq c16_i32_193 c0_i32_194
  let c1_i32_195 : BitVec 32 := 1#32
  let v262 : BitVec 32 := Scalar.select v261 c1_i32_195 c16_i32_193
  let v263 : BitVec 32 := Scalar.remsi v260 v262
  let c0_i32_197 : BitVec 32 := 0#32
  let v265 : BitVec 1 := Scalar.cmpi .slt v263 c0_i32_197
  let c0_i32_198 : BitVec 32 := 0#32
  let v266 : BitVec 1 := Scalar.cmpi .slt v262 c0_i32_198
  let v267 : BitVec 1 := Scalar.xori v265 v266
  let c0_i32_196 : BitVec 32 := 0#32
  let v264 : BitVec 1 := Scalar.cmpi .ne v263 c0_i32_196
  let v268 : BitVec 1 := Scalar.andi v267 v264
  let v269 : BitVec 32 := Scalar.addi v263 v262
  let v270 : BitVec 32 := Scalar.select v268 v269 v263
  let c0_i32_204 : BitVec 32 := 0#32
  let c0_i32_205 : BitVec 32 := 0#32
  ![v270.toNat, 0, 0]
def k0_dev16 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_192 : BitVec 32 := 1#32
  let v260 : BitVec 32 := Scalar.addi v2 c1_i32_192
  let c16_i32_193 : BitVec 32 := 16#32
  let c0_i32_194 : BitVec 32 := 0#32
  let v261 : BitVec 1 := Scalar.cmpi .eq c16_i32_193 c0_i32_194
  let c1_i32_195 : BitVec 32 := 1#32
  let v262 : BitVec 32 := Scalar.select v261 c1_i32_195 c16_i32_193
  let v263 : BitVec 32 := Scalar.remsi v260 v262
  let c0_i32_197 : BitVec 32 := 0#32
  let v265 : BitVec 1 := Scalar.cmpi .slt v263 c0_i32_197
  let c0_i32_198 : BitVec 32 := 0#32
  let v266 : BitVec 1 := Scalar.cmpi .slt v262 c0_i32_198
  let v267 : BitVec 1 := Scalar.xori v265 v266
  let c0_i32_196 : BitVec 32 := 0#32
  let v264 : BitVec 1 := Scalar.cmpi .ne v263 c0_i32_196
  let v268 : BitVec 1 := Scalar.andi v267 v264
  let v269 : BitVec 32 := Scalar.addi v263 v262
  let v270 : BitVec 32 := Scalar.select v268 v269 v263
  let c1_i32_200 : BitVec 32 := 1#32
  let v271 : BitVec 32 := Scalar.muli v270 c1_i32_200
  let v272 : BitVec 32 := Scalar.addi c0_i32_201 v271
  v272.toNat
def k0_dev17 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_206 : BitVec 32 := 2#32
  let v279 : BitVec 32 := Scalar.addi v2 c2_i32_206
  let c16_i32_207 : BitVec 32 := 16#32
  let c0_i32_208 : BitVec 32 := 0#32
  let v280 : BitVec 1 := Scalar.cmpi .eq c16_i32_207 c0_i32_208
  let c1_i32_209 : BitVec 32 := 1#32
  let v281 : BitVec 32 := Scalar.select v280 c1_i32_209 c16_i32_207
  let v282 : BitVec 32 := Scalar.remsi v279 v281
  let c0_i32_211 : BitVec 32 := 0#32
  let v284 : BitVec 1 := Scalar.cmpi .slt v282 c0_i32_211
  let c0_i32_212 : BitVec 32 := 0#32
  let v285 : BitVec 1 := Scalar.cmpi .slt v281 c0_i32_212
  let v286 : BitVec 1 := Scalar.xori v284 v285
  let c0_i32_210 : BitVec 32 := 0#32
  let v283 : BitVec 1 := Scalar.cmpi .ne v282 c0_i32_210
  let v287 : BitVec 1 := Scalar.andi v286 v283
  let v288 : BitVec 32 := Scalar.addi v282 v281
  let v289 : BitVec 32 := Scalar.select v287 v288 v282
  let c1_i32_214 : BitVec 32 := 1#32
  let v290 : BitVec 32 := Scalar.muli v289 c1_i32_214
  let v291 : BitVec 32 := Scalar.addi c0_i32_215 v290
  v291.toNat
def k0_dev18 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_220 : BitVec 32 := 3#32
  let v298 : BitVec 32 := Scalar.addi v2 c3_i32_220
  let c16_i32_221 : BitVec 32 := 16#32
  let c0_i32_222 : BitVec 32 := 0#32
  let v299 : BitVec 1 := Scalar.cmpi .eq c16_i32_221 c0_i32_222
  let c1_i32_223 : BitVec 32 := 1#32
  let v300 : BitVec 32 := Scalar.select v299 c1_i32_223 c16_i32_221
  let v301 : BitVec 32 := Scalar.remsi v298 v300
  let c0_i32_225 : BitVec 32 := 0#32
  let v303 : BitVec 1 := Scalar.cmpi .slt v301 c0_i32_225
  let c0_i32_226 : BitVec 32 := 0#32
  let v304 : BitVec 1 := Scalar.cmpi .slt v300 c0_i32_226
  let v305 : BitVec 1 := Scalar.xori v303 v304
  let c0_i32_224 : BitVec 32 := 0#32
  let v302 : BitVec 1 := Scalar.cmpi .ne v301 c0_i32_224
  let v306 : BitVec 1 := Scalar.andi v305 v302
  let v307 : BitVec 32 := Scalar.addi v301 v300
  let v308 : BitVec 32 := Scalar.select v306 v307 v301
  let c1_i32_228 : BitVec 32 := 1#32
  let v309 : BitVec 32 := Scalar.muli v308 c1_i32_228
  let v310 : BitVec 32 := Scalar.addi c0_i32_229 v309
  v310.toNat
def k0_dev19 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_234 : BitVec 32 := 4#32
  let v317 : BitVec 32 := Scalar.addi v2 c4_i32_234
  let c16_i32_235 : BitVec 32 := 16#32
  let c0_i32_236 : BitVec 32 := 0#32
  let v318 : BitVec 1 := Scalar.cmpi .eq c16_i32_235 c0_i32_236
  let c1_i32_237 : BitVec 32 := 1#32
  let v319 : BitVec 32 := Scalar.select v318 c1_i32_237 c16_i32_235
  let v320 : BitVec 32 := Scalar.remsi v317 v319
  let c0_i32_239 : BitVec 32 := 0#32
  let v322 : BitVec 1 := Scalar.cmpi .slt v320 c0_i32_239
  let c0_i32_240 : BitVec 32 := 0#32
  let v323 : BitVec 1 := Scalar.cmpi .slt v319 c0_i32_240
  let v324 : BitVec 1 := Scalar.xori v322 v323
  let c0_i32_238 : BitVec 32 := 0#32
  let v321 : BitVec 1 := Scalar.cmpi .ne v320 c0_i32_238
  let v325 : BitVec 1 := Scalar.andi v324 v321
  let v326 : BitVec 32 := Scalar.addi v320 v319
  let v327 : BitVec 32 := Scalar.select v325 v326 v320
  let c1_i32_242 : BitVec 32 := 1#32
  let v328 : BitVec 32 := Scalar.muli v327 c1_i32_242
  let v329 : BitVec 32 := Scalar.addi c0_i32_243 v328
  v329.toNat
def k0_dev20 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_248 : BitVec 32 := 5#32
  let v336 : BitVec 32 := Scalar.addi v2 c5_i32_248
  let c16_i32_249 : BitVec 32 := 16#32
  let c0_i32_250 : BitVec 32 := 0#32
  let v337 : BitVec 1 := Scalar.cmpi .eq c16_i32_249 c0_i32_250
  let c1_i32_251 : BitVec 32 := 1#32
  let v338 : BitVec 32 := Scalar.select v337 c1_i32_251 c16_i32_249
  let v339 : BitVec 32 := Scalar.remsi v336 v338
  let c0_i32_253 : BitVec 32 := 0#32
  let v341 : BitVec 1 := Scalar.cmpi .slt v339 c0_i32_253
  let c0_i32_254 : BitVec 32 := 0#32
  let v342 : BitVec 1 := Scalar.cmpi .slt v338 c0_i32_254
  let v343 : BitVec 1 := Scalar.xori v341 v342
  let c0_i32_252 : BitVec 32 := 0#32
  let v340 : BitVec 1 := Scalar.cmpi .ne v339 c0_i32_252
  let v344 : BitVec 1 := Scalar.andi v343 v340
  let v345 : BitVec 32 := Scalar.addi v339 v338
  let v346 : BitVec 32 := Scalar.select v344 v345 v339
  let c1_i32_256 : BitVec 32 := 1#32
  let v347 : BitVec 32 := Scalar.muli v346 c1_i32_256
  let v348 : BitVec 32 := Scalar.addi c0_i32_257 v347
  v348.toNat
def k0_dev21 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_262 : BitVec 32 := 6#32
  let v355 : BitVec 32 := Scalar.addi v2 c6_i32_262
  let c16_i32_263 : BitVec 32 := 16#32
  let c0_i32_264 : BitVec 32 := 0#32
  let v356 : BitVec 1 := Scalar.cmpi .eq c16_i32_263 c0_i32_264
  let c1_i32_265 : BitVec 32 := 1#32
  let v357 : BitVec 32 := Scalar.select v356 c1_i32_265 c16_i32_263
  let v358 : BitVec 32 := Scalar.remsi v355 v357
  let c0_i32_267 : BitVec 32 := 0#32
  let v360 : BitVec 1 := Scalar.cmpi .slt v358 c0_i32_267
  let c0_i32_268 : BitVec 32 := 0#32
  let v361 : BitVec 1 := Scalar.cmpi .slt v357 c0_i32_268
  let v362 : BitVec 1 := Scalar.xori v360 v361
  let c0_i32_266 : BitVec 32 := 0#32
  let v359 : BitVec 1 := Scalar.cmpi .ne v358 c0_i32_266
  let v363 : BitVec 1 := Scalar.andi v362 v359
  let v364 : BitVec 32 := Scalar.addi v358 v357
  let v365 : BitVec 32 := Scalar.select v363 v364 v358
  let c1_i32_270 : BitVec 32 := 1#32
  let v366 : BitVec 32 := Scalar.muli v365 c1_i32_270
  let v367 : BitVec 32 := Scalar.addi c0_i32_271 v366
  v367.toNat
def k0_dev22 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_276 : BitVec 32 := 7#32
  let v374 : BitVec 32 := Scalar.addi v2 c7_i32_276
  let c16_i32_277 : BitVec 32 := 16#32
  let c0_i32_278 : BitVec 32 := 0#32
  let v375 : BitVec 1 := Scalar.cmpi .eq c16_i32_277 c0_i32_278
  let c1_i32_279 : BitVec 32 := 1#32
  let v376 : BitVec 32 := Scalar.select v375 c1_i32_279 c16_i32_277
  let v377 : BitVec 32 := Scalar.remsi v374 v376
  let c0_i32_281 : BitVec 32 := 0#32
  let v379 : BitVec 1 := Scalar.cmpi .slt v377 c0_i32_281
  let c0_i32_282 : BitVec 32 := 0#32
  let v380 : BitVec 1 := Scalar.cmpi .slt v376 c0_i32_282
  let v381 : BitVec 1 := Scalar.xori v379 v380
  let c0_i32_280 : BitVec 32 := 0#32
  let v378 : BitVec 1 := Scalar.cmpi .ne v377 c0_i32_280
  let v382 : BitVec 1 := Scalar.andi v381 v378
  let v383 : BitVec 32 := Scalar.addi v377 v376
  let v384 : BitVec 32 := Scalar.select v382 v383 v377
  let c1_i32_284 : BitVec 32 := 1#32
  let v385 : BitVec 32 := Scalar.muli v384 c1_i32_284
  let v386 : BitVec 32 := Scalar.addi c0_i32_285 v385
  v386.toNat
def k0_dev23 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_290 : BitVec 32 := 8#32
  let v393 : BitVec 32 := Scalar.addi v2 c8_i32_290
  let c16_i32_291 : BitVec 32 := 16#32
  let c0_i32_292 : BitVec 32 := 0#32
  let v394 : BitVec 1 := Scalar.cmpi .eq c16_i32_291 c0_i32_292
  let c1_i32_293 : BitVec 32 := 1#32
  let v395 : BitVec 32 := Scalar.select v394 c1_i32_293 c16_i32_291
  let v396 : BitVec 32 := Scalar.remsi v393 v395
  let c0_i32_295 : BitVec 32 := 0#32
  let v398 : BitVec 1 := Scalar.cmpi .slt v396 c0_i32_295
  let c0_i32_296 : BitVec 32 := 0#32
  let v399 : BitVec 1 := Scalar.cmpi .slt v395 c0_i32_296
  let v400 : BitVec 1 := Scalar.xori v398 v399
  let c0_i32_294 : BitVec 32 := 0#32
  let v397 : BitVec 1 := Scalar.cmpi .ne v396 c0_i32_294
  let v401 : BitVec 1 := Scalar.andi v400 v397
  let v402 : BitVec 32 := Scalar.addi v396 v395
  let v403 : BitVec 32 := Scalar.select v401 v402 v396
  let c1_i32_298 : BitVec 32 := 1#32
  let v404 : BitVec 32 := Scalar.muli v403 c1_i32_298
  let v405 : BitVec 32 := Scalar.addi c0_i32_299 v404
  v405.toNat
def k0_dev24 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_304 : BitVec 32 := 9#32
  let v412 : BitVec 32 := Scalar.addi v2 c9_i32_304
  let c16_i32_305 : BitVec 32 := 16#32
  let c0_i32_306 : BitVec 32 := 0#32
  let v413 : BitVec 1 := Scalar.cmpi .eq c16_i32_305 c0_i32_306
  let c1_i32_307 : BitVec 32 := 1#32
  let v414 : BitVec 32 := Scalar.select v413 c1_i32_307 c16_i32_305
  let v415 : BitVec 32 := Scalar.remsi v412 v414
  let c0_i32_309 : BitVec 32 := 0#32
  let v417 : BitVec 1 := Scalar.cmpi .slt v415 c0_i32_309
  let c0_i32_310 : BitVec 32 := 0#32
  let v418 : BitVec 1 := Scalar.cmpi .slt v414 c0_i32_310
  let v419 : BitVec 1 := Scalar.xori v417 v418
  let c0_i32_308 : BitVec 32 := 0#32
  let v416 : BitVec 1 := Scalar.cmpi .ne v415 c0_i32_308
  let v420 : BitVec 1 := Scalar.andi v419 v416
  let v421 : BitVec 32 := Scalar.addi v415 v414
  let v422 : BitVec 32 := Scalar.select v420 v421 v415
  let c1_i32_312 : BitVec 32 := 1#32
  let v423 : BitVec 32 := Scalar.muli v422 c1_i32_312
  let v424 : BitVec 32 := Scalar.addi c0_i32_313 v423
  v424.toNat
def k0_dev25 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_318 : BitVec 32 := 10#32
  let v431 : BitVec 32 := Scalar.addi v2 c10_i32_318
  let c16_i32_319 : BitVec 32 := 16#32
  let c0_i32_320 : BitVec 32 := 0#32
  let v432 : BitVec 1 := Scalar.cmpi .eq c16_i32_319 c0_i32_320
  let c1_i32_321 : BitVec 32 := 1#32
  let v433 : BitVec 32 := Scalar.select v432 c1_i32_321 c16_i32_319
  let v434 : BitVec 32 := Scalar.remsi v431 v433
  let c0_i32_323 : BitVec 32 := 0#32
  let v436 : BitVec 1 := Scalar.cmpi .slt v434 c0_i32_323
  let c0_i32_324 : BitVec 32 := 0#32
  let v437 : BitVec 1 := Scalar.cmpi .slt v433 c0_i32_324
  let v438 : BitVec 1 := Scalar.xori v436 v437
  let c0_i32_322 : BitVec 32 := 0#32
  let v435 : BitVec 1 := Scalar.cmpi .ne v434 c0_i32_322
  let v439 : BitVec 1 := Scalar.andi v438 v435
  let v440 : BitVec 32 := Scalar.addi v434 v433
  let v441 : BitVec 32 := Scalar.select v439 v440 v434
  let c1_i32_326 : BitVec 32 := 1#32
  let v442 : BitVec 32 := Scalar.muli v441 c1_i32_326
  let v443 : BitVec 32 := Scalar.addi c0_i32_327 v442
  v443.toNat
def k0_dev26 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_332 : BitVec 32 := 11#32
  let v450 : BitVec 32 := Scalar.addi v2 c11_i32_332
  let c16_i32_333 : BitVec 32 := 16#32
  let c0_i32_334 : BitVec 32 := 0#32
  let v451 : BitVec 1 := Scalar.cmpi .eq c16_i32_333 c0_i32_334
  let c1_i32_335 : BitVec 32 := 1#32
  let v452 : BitVec 32 := Scalar.select v451 c1_i32_335 c16_i32_333
  let v453 : BitVec 32 := Scalar.remsi v450 v452
  let c0_i32_337 : BitVec 32 := 0#32
  let v455 : BitVec 1 := Scalar.cmpi .slt v453 c0_i32_337
  let c0_i32_338 : BitVec 32 := 0#32
  let v456 : BitVec 1 := Scalar.cmpi .slt v452 c0_i32_338
  let v457 : BitVec 1 := Scalar.xori v455 v456
  let c0_i32_336 : BitVec 32 := 0#32
  let v454 : BitVec 1 := Scalar.cmpi .ne v453 c0_i32_336
  let v458 : BitVec 1 := Scalar.andi v457 v454
  let v459 : BitVec 32 := Scalar.addi v453 v452
  let v460 : BitVec 32 := Scalar.select v458 v459 v453
  let c1_i32_340 : BitVec 32 := 1#32
  let v461 : BitVec 32 := Scalar.muli v460 c1_i32_340
  let v462 : BitVec 32 := Scalar.addi c0_i32_341 v461
  v462.toNat
def k0_dev27 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_346 : BitVec 32 := 12#32
  let v469 : BitVec 32 := Scalar.addi v2 c12_i32_346
  let c16_i32_347 : BitVec 32 := 16#32
  let c0_i32_348 : BitVec 32 := 0#32
  let v470 : BitVec 1 := Scalar.cmpi .eq c16_i32_347 c0_i32_348
  let c1_i32_349 : BitVec 32 := 1#32
  let v471 : BitVec 32 := Scalar.select v470 c1_i32_349 c16_i32_347
  let v472 : BitVec 32 := Scalar.remsi v469 v471
  let c0_i32_351 : BitVec 32 := 0#32
  let v474 : BitVec 1 := Scalar.cmpi .slt v472 c0_i32_351
  let c0_i32_352 : BitVec 32 := 0#32
  let v475 : BitVec 1 := Scalar.cmpi .slt v471 c0_i32_352
  let v476 : BitVec 1 := Scalar.xori v474 v475
  let c0_i32_350 : BitVec 32 := 0#32
  let v473 : BitVec 1 := Scalar.cmpi .ne v472 c0_i32_350
  let v477 : BitVec 1 := Scalar.andi v476 v473
  let v478 : BitVec 32 := Scalar.addi v472 v471
  let v479 : BitVec 32 := Scalar.select v477 v478 v472
  let c1_i32_354 : BitVec 32 := 1#32
  let v480 : BitVec 32 := Scalar.muli v479 c1_i32_354
  let v481 : BitVec 32 := Scalar.addi c0_i32_355 v480
  v481.toNat
def k0_dev28 (d0 : Dev nD) : Nat :=
  let c0_i32_369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_360 : BitVec 32 := 13#32
  let v488 : BitVec 32 := Scalar.addi v2 c13_i32_360
  let c16_i32_361 : BitVec 32 := 16#32
  let c0_i32_362 : BitVec 32 := 0#32
  let v489 : BitVec 1 := Scalar.cmpi .eq c16_i32_361 c0_i32_362
  let c1_i32_363 : BitVec 32 := 1#32
  let v490 : BitVec 32 := Scalar.select v489 c1_i32_363 c16_i32_361
  let v491 : BitVec 32 := Scalar.remsi v488 v490
  let c0_i32_365 : BitVec 32 := 0#32
  let v493 : BitVec 1 := Scalar.cmpi .slt v491 c0_i32_365
  let c0_i32_366 : BitVec 32 := 0#32
  let v494 : BitVec 1 := Scalar.cmpi .slt v490 c0_i32_366
  let v495 : BitVec 1 := Scalar.xori v493 v494
  let c0_i32_364 : BitVec 32 := 0#32
  let v492 : BitVec 1 := Scalar.cmpi .ne v491 c0_i32_364
  let v496 : BitVec 1 := Scalar.andi v495 v492
  let v497 : BitVec 32 := Scalar.addi v491 v490
  let v498 : BitVec 32 := Scalar.select v496 v497 v491
  let c1_i32_368 : BitVec 32 := 1#32
  let v499 : BitVec 32 := Scalar.muli v498 c1_i32_368
  let v500 : BitVec 32 := Scalar.addi c0_i32_369 v499
  v500.toNat
def k0_dev29 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_374 : BitVec 32 := 14#32
  let v507 : BitVec 32 := Scalar.addi v2 c14_i32_374
  let c16_i32_375 : BitVec 32 := 16#32
  let c0_i32_376 : BitVec 32 := 0#32
  let v508 : BitVec 1 := Scalar.cmpi .eq c16_i32_375 c0_i32_376
  let c1_i32_377 : BitVec 32 := 1#32
  let v509 : BitVec 32 := Scalar.select v508 c1_i32_377 c16_i32_375
  let v510 : BitVec 32 := Scalar.remsi v507 v509
  let c0_i32_379 : BitVec 32 := 0#32
  let v512 : BitVec 1 := Scalar.cmpi .slt v510 c0_i32_379
  let c0_i32_380 : BitVec 32 := 0#32
  let v513 : BitVec 1 := Scalar.cmpi .slt v509 c0_i32_380
  let v514 : BitVec 1 := Scalar.xori v512 v513
  let c0_i32_378 : BitVec 32 := 0#32
  let v511 : BitVec 1 := Scalar.cmpi .ne v510 c0_i32_378
  let v515 : BitVec 1 := Scalar.andi v514 v511
  let v516 : BitVec 32 := Scalar.addi v510 v509
  let v517 : BitVec 32 := Scalar.select v515 v516 v510
  let c1_i32_382 : BitVec 32 := 1#32
  let v518 : BitVec 32 := Scalar.muli v517 c1_i32_382
  let v519 : BitVec 32 := Scalar.addi c0_i32_383 v518
  v519.toNat
def k0_dev30 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_388 : BitVec 32 := 15#32
  let v526 : BitVec 32 := Scalar.addi v2 c15_i32_388
  let c16_i32_389 : BitVec 32 := 16#32
  let c0_i32_390 : BitVec 32 := 0#32
  let v527 : BitVec 1 := Scalar.cmpi .eq c16_i32_389 c0_i32_390
  let c1_i32_391 : BitVec 32 := 1#32
  let v528 : BitVec 32 := Scalar.select v527 c1_i32_391 c16_i32_389
  let v529 : BitVec 32 := Scalar.remsi v526 v528
  let c0_i32_393 : BitVec 32 := 0#32
  let v531 : BitVec 1 := Scalar.cmpi .slt v529 c0_i32_393
  let c0_i32_394 : BitVec 32 := 0#32
  let v532 : BitVec 1 := Scalar.cmpi .slt v528 c0_i32_394
  let v533 : BitVec 1 := Scalar.xori v531 v532
  let c0_i32_392 : BitVec 32 := 0#32
  let v530 : BitVec 1 := Scalar.cmpi .ne v529 c0_i32_392
  let v534 : BitVec 1 := Scalar.andi v533 v530
  let v535 : BitVec 32 := Scalar.addi v529 v528
  let v536 : BitVec 32 := Scalar.select v534 v535 v529
  let c1_i32_396 : BitVec 32 := 1#32
  let v537 : BitVec 32 := Scalar.muli v536 c1_i32_396
  let v538 : BitVec 32 := Scalar.addi c0_i32_397 v537
  v538.toNat
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v545 : Index := Scalar.indexCast v2
  let c0_402 : Index := 0#32
  let c0_403 : Index := 0#32
  ![v545.toNat, 0, 0]
def k0_dev31 (d0 : Dev nD) : Nat :=
  let c0_i32_635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_626 : BitVec 32 := 1#32
  let v760 : BitVec 32 := Scalar.addi v2 c1_i32_626
  let c16_i32_627 : BitVec 32 := 16#32
  let c0_i32_628 : BitVec 32 := 0#32
  let v761 : BitVec 1 := Scalar.cmpi .eq c16_i32_627 c0_i32_628
  let c1_i32_629 : BitVec 32 := 1#32
  let v762 : BitVec 32 := Scalar.select v761 c1_i32_629 c16_i32_627
  let v763 : BitVec 32 := Scalar.remsi v760 v762
  let c0_i32_631 : BitVec 32 := 0#32
  let v765 : BitVec 1 := Scalar.cmpi .slt v763 c0_i32_631
  let c0_i32_632 : BitVec 32 := 0#32
  let v766 : BitVec 1 := Scalar.cmpi .slt v762 c0_i32_632
  let v767 : BitVec 1 := Scalar.xori v765 v766
  let c0_i32_630 : BitVec 32 := 0#32
  let v764 : BitVec 1 := Scalar.cmpi .ne v763 c0_i32_630
  let v768 : BitVec 1 := Scalar.andi v767 v764
  let v769 : BitVec 32 := Scalar.addi v763 v762
  let v770 : BitVec 32 := Scalar.select v768 v769 v763
  let c1_i32_634 : BitVec 32 := 1#32
  let v771 : BitVec 32 := Scalar.muli v770 c1_i32_634
  let v772 : BitVec 32 := Scalar.addi c0_i32_635 v771
  v772.toNat
def k0_dev32 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_640 : BitVec 32 := 2#32
  let v779 : BitVec 32 := Scalar.addi v2 c2_i32_640
  let c16_i32_641 : BitVec 32 := 16#32
  let c0_i32_642 : BitVec 32 := 0#32
  let v780 : BitVec 1 := Scalar.cmpi .eq c16_i32_641 c0_i32_642
  let c1_i32_643 : BitVec 32 := 1#32
  let v781 : BitVec 32 := Scalar.select v780 c1_i32_643 c16_i32_641
  let v782 : BitVec 32 := Scalar.remsi v779 v781
  let c0_i32_645 : BitVec 32 := 0#32
  let v784 : BitVec 1 := Scalar.cmpi .slt v782 c0_i32_645
  let c0_i32_646 : BitVec 32 := 0#32
  let v785 : BitVec 1 := Scalar.cmpi .slt v781 c0_i32_646
  let v786 : BitVec 1 := Scalar.xori v784 v785
  let c0_i32_644 : BitVec 32 := 0#32
  let v783 : BitVec 1 := Scalar.cmpi .ne v782 c0_i32_644
  let v787 : BitVec 1 := Scalar.andi v786 v783
  let v788 : BitVec 32 := Scalar.addi v782 v781
  let v789 : BitVec 32 := Scalar.select v787 v788 v782
  let c1_i32_648 : BitVec 32 := 1#32
  let v790 : BitVec 32 := Scalar.muli v789 c1_i32_648
  let v791 : BitVec 32 := Scalar.addi c0_i32_649 v790
  v791.toNat
def k0_dev33 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_654 : BitVec 32 := 3#32
  let v798 : BitVec 32 := Scalar.addi v2 c3_i32_654
  let c16_i32_655 : BitVec 32 := 16#32
  let c0_i32_656 : BitVec 32 := 0#32
  let v799 : BitVec 1 := Scalar.cmpi .eq c16_i32_655 c0_i32_656
  let c1_i32_657 : BitVec 32 := 1#32
  let v800 : BitVec 32 := Scalar.select v799 c1_i32_657 c16_i32_655
  let v801 : BitVec 32 := Scalar.remsi v798 v800
  let c0_i32_659 : BitVec 32 := 0#32
  let v803 : BitVec 1 := Scalar.cmpi .slt v801 c0_i32_659
  let c0_i32_660 : BitVec 32 := 0#32
  let v804 : BitVec 1 := Scalar.cmpi .slt v800 c0_i32_660
  let v805 : BitVec 1 := Scalar.xori v803 v804
  let c0_i32_658 : BitVec 32 := 0#32
  let v802 : BitVec 1 := Scalar.cmpi .ne v801 c0_i32_658
  let v806 : BitVec 1 := Scalar.andi v805 v802
  let v807 : BitVec 32 := Scalar.addi v801 v800
  let v808 : BitVec 32 := Scalar.select v806 v807 v801
  let c1_i32_662 : BitVec 32 := 1#32
  let v809 : BitVec 32 := Scalar.muli v808 c1_i32_662
  let v810 : BitVec 32 := Scalar.addi c0_i32_663 v809
  v810.toNat
def k0_dev34 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_668 : BitVec 32 := 4#32
  let v817 : BitVec 32 := Scalar.addi v2 c4_i32_668
  let c16_i32_669 : BitVec 32 := 16#32
  let c0_i32_670 : BitVec 32 := 0#32
  let v818 : BitVec 1 := Scalar.cmpi .eq c16_i32_669 c0_i32_670
  let c1_i32_671 : BitVec 32 := 1#32
  let v819 : BitVec 32 := Scalar.select v818 c1_i32_671 c16_i32_669
  let v820 : BitVec 32 := Scalar.remsi v817 v819
  let c0_i32_673 : BitVec 32 := 0#32
  let v822 : BitVec 1 := Scalar.cmpi .slt v820 c0_i32_673
  let c0_i32_674 : BitVec 32 := 0#32
  let v823 : BitVec 1 := Scalar.cmpi .slt v819 c0_i32_674
  let v824 : BitVec 1 := Scalar.xori v822 v823
  let c0_i32_672 : BitVec 32 := 0#32
  let v821 : BitVec 1 := Scalar.cmpi .ne v820 c0_i32_672
  let v825 : BitVec 1 := Scalar.andi v824 v821
  let v826 : BitVec 32 := Scalar.addi v820 v819
  let v827 : BitVec 32 := Scalar.select v825 v826 v820
  let c1_i32_676 : BitVec 32 := 1#32
  let v828 : BitVec 32 := Scalar.muli v827 c1_i32_676
  let v829 : BitVec 32 := Scalar.addi c0_i32_677 v828
  v829.toNat
def k0_dev35 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_682 : BitVec 32 := 5#32
  let v836 : BitVec 32 := Scalar.addi v2 c5_i32_682
  let c16_i32_683 : BitVec 32 := 16#32
  let c0_i32_684 : BitVec 32 := 0#32
  let v837 : BitVec 1 := Scalar.cmpi .eq c16_i32_683 c0_i32_684
  let c1_i32_685 : BitVec 32 := 1#32
  let v838 : BitVec 32 := Scalar.select v837 c1_i32_685 c16_i32_683
  let v839 : BitVec 32 := Scalar.remsi v836 v838
  let c0_i32_687 : BitVec 32 := 0#32
  let v841 : BitVec 1 := Scalar.cmpi .slt v839 c0_i32_687
  let c0_i32_688 : BitVec 32 := 0#32
  let v842 : BitVec 1 := Scalar.cmpi .slt v838 c0_i32_688
  let v843 : BitVec 1 := Scalar.xori v841 v842
  let c0_i32_686 : BitVec 32 := 0#32
  let v840 : BitVec 1 := Scalar.cmpi .ne v839 c0_i32_686
  let v844 : BitVec 1 := Scalar.andi v843 v840
  let v845 : BitVec 32 := Scalar.addi v839 v838
  let v846 : BitVec 32 := Scalar.select v844 v845 v839
  let c1_i32_690 : BitVec 32 := 1#32
  let v847 : BitVec 32 := Scalar.muli v846 c1_i32_690
  let v848 : BitVec 32 := Scalar.addi c0_i32_691 v847
  v848.toNat
def k0_dev36 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_696 : BitVec 32 := 6#32
  let v855 : BitVec 32 := Scalar.addi v2 c6_i32_696
  let c16_i32_697 : BitVec 32 := 16#32
  let c0_i32_698 : BitVec 32 := 0#32
  let v856 : BitVec 1 := Scalar.cmpi .eq c16_i32_697 c0_i32_698
  let c1_i32_699 : BitVec 32 := 1#32
  let v857 : BitVec 32 := Scalar.select v856 c1_i32_699 c16_i32_697
  let v858 : BitVec 32 := Scalar.remsi v855 v857
  let c0_i32_701 : BitVec 32 := 0#32
  let v860 : BitVec 1 := Scalar.cmpi .slt v858 c0_i32_701
  let c0_i32_702 : BitVec 32 := 0#32
  let v861 : BitVec 1 := Scalar.cmpi .slt v857 c0_i32_702
  let v862 : BitVec 1 := Scalar.xori v860 v861
  let c0_i32_700 : BitVec 32 := 0#32
  let v859 : BitVec 1 := Scalar.cmpi .ne v858 c0_i32_700
  let v863 : BitVec 1 := Scalar.andi v862 v859
  let v864 : BitVec 32 := Scalar.addi v858 v857
  let v865 : BitVec 32 := Scalar.select v863 v864 v858
  let c1_i32_704 : BitVec 32 := 1#32
  let v866 : BitVec 32 := Scalar.muli v865 c1_i32_704
  let v867 : BitVec 32 := Scalar.addi c0_i32_705 v866
  v867.toNat
def k0_dev37 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_710 : BitVec 32 := 7#32
  let v874 : BitVec 32 := Scalar.addi v2 c7_i32_710
  let c16_i32_711 : BitVec 32 := 16#32
  let c0_i32_712 : BitVec 32 := 0#32
  let v875 : BitVec 1 := Scalar.cmpi .eq c16_i32_711 c0_i32_712
  let c1_i32_713 : BitVec 32 := 1#32
  let v876 : BitVec 32 := Scalar.select v875 c1_i32_713 c16_i32_711
  let v877 : BitVec 32 := Scalar.remsi v874 v876
  let c0_i32_715 : BitVec 32 := 0#32
  let v879 : BitVec 1 := Scalar.cmpi .slt v877 c0_i32_715
  let c0_i32_716 : BitVec 32 := 0#32
  let v880 : BitVec 1 := Scalar.cmpi .slt v876 c0_i32_716
  let v881 : BitVec 1 := Scalar.xori v879 v880
  let c0_i32_714 : BitVec 32 := 0#32
  let v878 : BitVec 1 := Scalar.cmpi .ne v877 c0_i32_714
  let v882 : BitVec 1 := Scalar.andi v881 v878
  let v883 : BitVec 32 := Scalar.addi v877 v876
  let v884 : BitVec 32 := Scalar.select v882 v883 v877
  let c1_i32_718 : BitVec 32 := 1#32
  let v885 : BitVec 32 := Scalar.muli v884 c1_i32_718
  let v886 : BitVec 32 := Scalar.addi c0_i32_719 v885
  v886.toNat
def k0_dev38 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_724 : BitVec 32 := 8#32
  let v893 : BitVec 32 := Scalar.addi v2 c8_i32_724
  let c16_i32_725 : BitVec 32 := 16#32
  let c0_i32_726 : BitVec 32 := 0#32
  let v894 : BitVec 1 := Scalar.cmpi .eq c16_i32_725 c0_i32_726
  let c1_i32_727 : BitVec 32 := 1#32
  let v895 : BitVec 32 := Scalar.select v894 c1_i32_727 c16_i32_725
  let v896 : BitVec 32 := Scalar.remsi v893 v895
  let c0_i32_729 : BitVec 32 := 0#32
  let v898 : BitVec 1 := Scalar.cmpi .slt v896 c0_i32_729
  let c0_i32_730 : BitVec 32 := 0#32
  let v899 : BitVec 1 := Scalar.cmpi .slt v895 c0_i32_730
  let v900 : BitVec 1 := Scalar.xori v898 v899
  let c0_i32_728 : BitVec 32 := 0#32
  let v897 : BitVec 1 := Scalar.cmpi .ne v896 c0_i32_728
  let v901 : BitVec 1 := Scalar.andi v900 v897
  let v902 : BitVec 32 := Scalar.addi v896 v895
  let v903 : BitVec 32 := Scalar.select v901 v902 v896
  let c1_i32_732 : BitVec 32 := 1#32
  let v904 : BitVec 32 := Scalar.muli v903 c1_i32_732
  let v905 : BitVec 32 := Scalar.addi c0_i32_733 v904
  v905.toNat
def k0_dev39 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_738 : BitVec 32 := 9#32
  let v912 : BitVec 32 := Scalar.addi v2 c9_i32_738
  let c16_i32_739 : BitVec 32 := 16#32
  let c0_i32_740 : BitVec 32 := 0#32
  let v913 : BitVec 1 := Scalar.cmpi .eq c16_i32_739 c0_i32_740
  let c1_i32_741 : BitVec 32 := 1#32
  let v914 : BitVec 32 := Scalar.select v913 c1_i32_741 c16_i32_739
  let v915 : BitVec 32 := Scalar.remsi v912 v914
  let c0_i32_743 : BitVec 32 := 0#32
  let v917 : BitVec 1 := Scalar.cmpi .slt v915 c0_i32_743
  let c0_i32_744 : BitVec 32 := 0#32
  let v918 : BitVec 1 := Scalar.cmpi .slt v914 c0_i32_744
  let v919 : BitVec 1 := Scalar.xori v917 v918
  let c0_i32_742 : BitVec 32 := 0#32
  let v916 : BitVec 1 := Scalar.cmpi .ne v915 c0_i32_742
  let v920 : BitVec 1 := Scalar.andi v919 v916
  let v921 : BitVec 32 := Scalar.addi v915 v914
  let v922 : BitVec 32 := Scalar.select v920 v921 v915
  let c1_i32_746 : BitVec 32 := 1#32
  let v923 : BitVec 32 := Scalar.muli v922 c1_i32_746
  let v924 : BitVec 32 := Scalar.addi c0_i32_747 v923
  v924.toNat
def k0_dev40 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_752 : BitVec 32 := 10#32
  let v931 : BitVec 32 := Scalar.addi v2 c10_i32_752
  let c16_i32_753 : BitVec 32 := 16#32
  let c0_i32_754 : BitVec 32 := 0#32
  let v932 : BitVec 1 := Scalar.cmpi .eq c16_i32_753 c0_i32_754
  let c1_i32_755 : BitVec 32 := 1#32
  let v933 : BitVec 32 := Scalar.select v932 c1_i32_755 c16_i32_753
  let v934 : BitVec 32 := Scalar.remsi v931 v933
  let c0_i32_757 : BitVec 32 := 0#32
  let v936 : BitVec 1 := Scalar.cmpi .slt v934 c0_i32_757
  let c0_i32_758 : BitVec 32 := 0#32
  let v937 : BitVec 1 := Scalar.cmpi .slt v933 c0_i32_758
  let v938 : BitVec 1 := Scalar.xori v936 v937
  let c0_i32_756 : BitVec 32 := 0#32
  let v935 : BitVec 1 := Scalar.cmpi .ne v934 c0_i32_756
  let v939 : BitVec 1 := Scalar.andi v938 v935
  let v940 : BitVec 32 := Scalar.addi v934 v933
  let v941 : BitVec 32 := Scalar.select v939 v940 v934
  let c1_i32_760 : BitVec 32 := 1#32
  let v942 : BitVec 32 := Scalar.muli v941 c1_i32_760
  let v943 : BitVec 32 := Scalar.addi c0_i32_761 v942
  v943.toNat
def k0_dev41 (d0 : Dev nD) : Nat :=
  let c0_i32_775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_766 : BitVec 32 := 11#32
  let v950 : BitVec 32 := Scalar.addi v2 c11_i32_766
  let c16_i32_767 : BitVec 32 := 16#32
  let c0_i32_768 : BitVec 32 := 0#32
  let v951 : BitVec 1 := Scalar.cmpi .eq c16_i32_767 c0_i32_768
  let c1_i32_769 : BitVec 32 := 1#32
  let v952 : BitVec 32 := Scalar.select v951 c1_i32_769 c16_i32_767
  let v953 : BitVec 32 := Scalar.remsi v950 v952
  let c0_i32_771 : BitVec 32 := 0#32
  let v955 : BitVec 1 := Scalar.cmpi .slt v953 c0_i32_771
  let c0_i32_772 : BitVec 32 := 0#32
  let v956 : BitVec 1 := Scalar.cmpi .slt v952 c0_i32_772
  let v957 : BitVec 1 := Scalar.xori v955 v956
  let c0_i32_770 : BitVec 32 := 0#32
  let v954 : BitVec 1 := Scalar.cmpi .ne v953 c0_i32_770
  let v958 : BitVec 1 := Scalar.andi v957 v954
  let v959 : BitVec 32 := Scalar.addi v953 v952
  let v960 : BitVec 32 := Scalar.select v958 v959 v953
  let c1_i32_774 : BitVec 32 := 1#32
  let v961 : BitVec 32 := Scalar.muli v960 c1_i32_774
  let v962 : BitVec 32 := Scalar.addi c0_i32_775 v961
  v962.toNat
def k0_dev42 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_780 : BitVec 32 := 12#32
  let v969 : BitVec 32 := Scalar.addi v2 c12_i32_780
  let c16_i32_781 : BitVec 32 := 16#32
  let c0_i32_782 : BitVec 32 := 0#32
  let v970 : BitVec 1 := Scalar.cmpi .eq c16_i32_781 c0_i32_782
  let c1_i32_783 : BitVec 32 := 1#32
  let v971 : BitVec 32 := Scalar.select v970 c1_i32_783 c16_i32_781
  let v972 : BitVec 32 := Scalar.remsi v969 v971
  let c0_i32_785 : BitVec 32 := 0#32
  let v974 : BitVec 1 := Scalar.cmpi .slt v972 c0_i32_785
  let c0_i32_786 : BitVec 32 := 0#32
  let v975 : BitVec 1 := Scalar.cmpi .slt v971 c0_i32_786
  let v976 : BitVec 1 := Scalar.xori v974 v975
  let c0_i32_784 : BitVec 32 := 0#32
  let v973 : BitVec 1 := Scalar.cmpi .ne v972 c0_i32_784
  let v977 : BitVec 1 := Scalar.andi v976 v973
  let v978 : BitVec 32 := Scalar.addi v972 v971
  let v979 : BitVec 32 := Scalar.select v977 v978 v972
  let c1_i32_788 : BitVec 32 := 1#32
  let v980 : BitVec 32 := Scalar.muli v979 c1_i32_788
  let v981 : BitVec 32 := Scalar.addi c0_i32_789 v980
  v981.toNat
def k0_dev43 (d0 : Dev nD) : Nat :=
  let c0_i32_803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_794 : BitVec 32 := 13#32
  let v988 : BitVec 32 := Scalar.addi v2 c13_i32_794
  let c16_i32_795 : BitVec 32 := 16#32
  let c0_i32_796 : BitVec 32 := 0#32
  let v989 : BitVec 1 := Scalar.cmpi .eq c16_i32_795 c0_i32_796
  let c1_i32_797 : BitVec 32 := 1#32
  let v990 : BitVec 32 := Scalar.select v989 c1_i32_797 c16_i32_795
  let v991 : BitVec 32 := Scalar.remsi v988 v990
  let c0_i32_799 : BitVec 32 := 0#32
  let v993 : BitVec 1 := Scalar.cmpi .slt v991 c0_i32_799
  let c0_i32_800 : BitVec 32 := 0#32
  let v994 : BitVec 1 := Scalar.cmpi .slt v990 c0_i32_800
  let v995 : BitVec 1 := Scalar.xori v993 v994
  let c0_i32_798 : BitVec 32 := 0#32
  let v992 : BitVec 1 := Scalar.cmpi .ne v991 c0_i32_798
  let v996 : BitVec 1 := Scalar.andi v995 v992
  let v997 : BitVec 32 := Scalar.addi v991 v990
  let v998 : BitVec 32 := Scalar.select v996 v997 v991
  let c1_i32_802 : BitVec 32 := 1#32
  let v999 : BitVec 32 := Scalar.muli v998 c1_i32_802
  let v1000 : BitVec 32 := Scalar.addi c0_i32_803 v999
  v1000.toNat
def k0_dev44 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_808 : BitVec 32 := 14#32
  let v1007 : BitVec 32 := Scalar.addi v2 c14_i32_808
  let c16_i32_809 : BitVec 32 := 16#32
  let c0_i32_810 : BitVec 32 := 0#32
  let v1008 : BitVec 1 := Scalar.cmpi .eq c16_i32_809 c0_i32_810
  let c1_i32_811 : BitVec 32 := 1#32
  let v1009 : BitVec 32 := Scalar.select v1008 c1_i32_811 c16_i32_809
  let v1010 : BitVec 32 := Scalar.remsi v1007 v1009
  let c0_i32_813 : BitVec 32 := 0#32
  let v1012 : BitVec 1 := Scalar.cmpi .slt v1010 c0_i32_813
  let c0_i32_814 : BitVec 32 := 0#32
  let v1013 : BitVec 1 := Scalar.cmpi .slt v1009 c0_i32_814
  let v1014 : BitVec 1 := Scalar.xori v1012 v1013
  let c0_i32_812 : BitVec 32 := 0#32
  let v1011 : BitVec 1 := Scalar.cmpi .ne v1010 c0_i32_812
  let v1015 : BitVec 1 := Scalar.andi v1014 v1011
  let v1016 : BitVec 32 := Scalar.addi v1010 v1009
  let v1017 : BitVec 32 := Scalar.select v1015 v1016 v1010
  let c1_i32_816 : BitVec 32 := 1#32
  let v1018 : BitVec 32 := Scalar.muli v1017 c1_i32_816
  let v1019 : BitVec 32 := Scalar.addi c0_i32_817 v1018
  v1019.toNat
def k0_dev45 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_822 : BitVec 32 := 15#32
  let v1026 : BitVec 32 := Scalar.addi v2 c15_i32_822
  let c16_i32_823 : BitVec 32 := 16#32
  let c0_i32_824 : BitVec 32 := 0#32
  let v1027 : BitVec 1 := Scalar.cmpi .eq c16_i32_823 c0_i32_824
  let c1_i32_825 : BitVec 32 := 1#32
  let v1028 : BitVec 32 := Scalar.select v1027 c1_i32_825 c16_i32_823
  let v1029 : BitVec 32 := Scalar.remsi v1026 v1028
  let c0_i32_827 : BitVec 32 := 0#32
  let v1031 : BitVec 1 := Scalar.cmpi .slt v1029 c0_i32_827
  let c0_i32_828 : BitVec 32 := 0#32
  let v1032 : BitVec 1 := Scalar.cmpi .slt v1028 c0_i32_828
  let v1033 : BitVec 1 := Scalar.xori v1031 v1032
  let c0_i32_826 : BitVec 32 := 0#32
  let v1030 : BitVec 1 := Scalar.cmpi .ne v1029 c0_i32_826
  let v1034 : BitVec 1 := Scalar.andi v1033 v1030
  let v1035 : BitVec 32 := Scalar.addi v1029 v1028
  let v1036 : BitVec 32 := Scalar.select v1034 v1035 v1029
  let c1_i32_830 : BitVec 32 := 1#32
  let v1037 : BitVec 32 := Scalar.muli v1036 c1_i32_830
  let v1038 : BitVec 32 := Scalar.addi c0_i32_831 v1037
  v1038.toNat
def k0_dev46 (d0 : Dev nD) : Nat :=
  let c0_i32_1074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1065 : BitVec 32 := 1#32
  let v1261 : BitVec 32 := Scalar.addi v2 c1_i32_1065
  let c16_i32_1066 : BitVec 32 := 16#32
  let c0_i32_1067 : BitVec 32 := 0#32
  let v1262 : BitVec 1 := Scalar.cmpi .eq c16_i32_1066 c0_i32_1067
  let c1_i32_1068 : BitVec 32 := 1#32
  let v1263 : BitVec 32 := Scalar.select v1262 c1_i32_1068 c16_i32_1066
  let v1264 : BitVec 32 := Scalar.remsi v1261 v1263
  let c0_i32_1070 : BitVec 32 := 0#32
  let v1266 : BitVec 1 := Scalar.cmpi .slt v1264 c0_i32_1070
  let c0_i32_1071 : BitVec 32 := 0#32
  let v1267 : BitVec 1 := Scalar.cmpi .slt v1263 c0_i32_1071
  let v1268 : BitVec 1 := Scalar.xori v1266 v1267
  let c0_i32_1069 : BitVec 32 := 0#32
  let v1265 : BitVec 1 := Scalar.cmpi .ne v1264 c0_i32_1069
  let v1269 : BitVec 1 := Scalar.andi v1268 v1265
  let v1270 : BitVec 32 := Scalar.addi v1264 v1263
  let v1271 : BitVec 32 := Scalar.select v1269 v1270 v1264
  let c1_i32_1073 : BitVec 32 := 1#32
  let v1272 : BitVec 32 := Scalar.muli v1271 c1_i32_1073
  let v1273 : BitVec 32 := Scalar.addi c0_i32_1074 v1272
  v1273.toNat
def k0_dev47 (d0 : Dev nD) : Nat :=
  let c0_i32_1088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1079 : BitVec 32 := 2#32
  let v1280 : BitVec 32 := Scalar.addi v2 c2_i32_1079
  let c16_i32_1080 : BitVec 32 := 16#32
  let c0_i32_1081 : BitVec 32 := 0#32
  let v1281 : BitVec 1 := Scalar.cmpi .eq c16_i32_1080 c0_i32_1081
  let c1_i32_1082 : BitVec 32 := 1#32
  let v1282 : BitVec 32 := Scalar.select v1281 c1_i32_1082 c16_i32_1080
  let v1283 : BitVec 32 := Scalar.remsi v1280 v1282
  let c0_i32_1084 : BitVec 32 := 0#32
  let v1285 : BitVec 1 := Scalar.cmpi .slt v1283 c0_i32_1084
  let c0_i32_1085 : BitVec 32 := 0#32
  let v1286 : BitVec 1 := Scalar.cmpi .slt v1282 c0_i32_1085
  let v1287 : BitVec 1 := Scalar.xori v1285 v1286
  let c0_i32_1083 : BitVec 32 := 0#32
  let v1284 : BitVec 1 := Scalar.cmpi .ne v1283 c0_i32_1083
  let v1288 : BitVec 1 := Scalar.andi v1287 v1284
  let v1289 : BitVec 32 := Scalar.addi v1283 v1282
  let v1290 : BitVec 32 := Scalar.select v1288 v1289 v1283
  let c1_i32_1087 : BitVec 32 := 1#32
  let v1291 : BitVec 32 := Scalar.muli v1290 c1_i32_1087
  let v1292 : BitVec 32 := Scalar.addi c0_i32_1088 v1291
  v1292.toNat
def k0_dev48 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1093 : BitVec 32 := 3#32
  let v1299 : BitVec 32 := Scalar.addi v2 c3_i32_1093
  let c16_i32_1094 : BitVec 32 := 16#32
  let c0_i32_1095 : BitVec 32 := 0#32
  let v1300 : BitVec 1 := Scalar.cmpi .eq c16_i32_1094 c0_i32_1095
  let c1_i32_1096 : BitVec 32 := 1#32
  let v1301 : BitVec 32 := Scalar.select v1300 c1_i32_1096 c16_i32_1094
  let v1302 : BitVec 32 := Scalar.remsi v1299 v1301
  let c0_i32_1098 : BitVec 32 := 0#32
  let v1304 : BitVec 1 := Scalar.cmpi .slt v1302 c0_i32_1098
  let c0_i32_1099 : BitVec 32 := 0#32
  let v1305 : BitVec 1 := Scalar.cmpi .slt v1301 c0_i32_1099
  let v1306 : BitVec 1 := Scalar.xori v1304 v1305
  let c0_i32_1097 : BitVec 32 := 0#32
  let v1303 : BitVec 1 := Scalar.cmpi .ne v1302 c0_i32_1097
  let v1307 : BitVec 1 := Scalar.andi v1306 v1303
  let v1308 : BitVec 32 := Scalar.addi v1302 v1301
  let v1309 : BitVec 32 := Scalar.select v1307 v1308 v1302
  let c1_i32_1101 : BitVec 32 := 1#32
  let v1310 : BitVec 32 := Scalar.muli v1309 c1_i32_1101
  let v1311 : BitVec 32 := Scalar.addi c0_i32_1102 v1310
  v1311.toNat
def k0_dev49 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1107 : BitVec 32 := 4#32
  let v1318 : BitVec 32 := Scalar.addi v2 c4_i32_1107
  let c16_i32_1108 : BitVec 32 := 16#32
  let c0_i32_1109 : BitVec 32 := 0#32
  let v1319 : BitVec 1 := Scalar.cmpi .eq c16_i32_1108 c0_i32_1109
  let c1_i32_1110 : BitVec 32 := 1#32
  let v1320 : BitVec 32 := Scalar.select v1319 c1_i32_1110 c16_i32_1108
  let v1321 : BitVec 32 := Scalar.remsi v1318 v1320
  let c0_i32_1112 : BitVec 32 := 0#32
  let v1323 : BitVec 1 := Scalar.cmpi .slt v1321 c0_i32_1112
  let c0_i32_1113 : BitVec 32 := 0#32
  let v1324 : BitVec 1 := Scalar.cmpi .slt v1320 c0_i32_1113
  let v1325 : BitVec 1 := Scalar.xori v1323 v1324
  let c0_i32_1111 : BitVec 32 := 0#32
  let v1322 : BitVec 1 := Scalar.cmpi .ne v1321 c0_i32_1111
  let v1326 : BitVec 1 := Scalar.andi v1325 v1322
  let v1327 : BitVec 32 := Scalar.addi v1321 v1320
  let v1328 : BitVec 32 := Scalar.select v1326 v1327 v1321
  let c1_i32_1115 : BitVec 32 := 1#32
  let v1329 : BitVec 32 := Scalar.muli v1328 c1_i32_1115
  let v1330 : BitVec 32 := Scalar.addi c0_i32_1116 v1329
  v1330.toNat
def k0_dev50 (d0 : Dev nD) : Nat :=
  let c0_i32_1130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1121 : BitVec 32 := 5#32
  let v1337 : BitVec 32 := Scalar.addi v2 c5_i32_1121
  let c16_i32_1122 : BitVec 32 := 16#32
  let c0_i32_1123 : BitVec 32 := 0#32
  let v1338 : BitVec 1 := Scalar.cmpi .eq c16_i32_1122 c0_i32_1123
  let c1_i32_1124 : BitVec 32 := 1#32
  let v1339 : BitVec 32 := Scalar.select v1338 c1_i32_1124 c16_i32_1122
  let v1340 : BitVec 32 := Scalar.remsi v1337 v1339
  let c0_i32_1126 : BitVec 32 := 0#32
  let v1342 : BitVec 1 := Scalar.cmpi .slt v1340 c0_i32_1126
  let c0_i32_1127 : BitVec 32 := 0#32
  let v1343 : BitVec 1 := Scalar.cmpi .slt v1339 c0_i32_1127
  let v1344 : BitVec 1 := Scalar.xori v1342 v1343
  let c0_i32_1125 : BitVec 32 := 0#32
  let v1341 : BitVec 1 := Scalar.cmpi .ne v1340 c0_i32_1125
  let v1345 : BitVec 1 := Scalar.andi v1344 v1341
  let v1346 : BitVec 32 := Scalar.addi v1340 v1339
  let v1347 : BitVec 32 := Scalar.select v1345 v1346 v1340
  let c1_i32_1129 : BitVec 32 := 1#32
  let v1348 : BitVec 32 := Scalar.muli v1347 c1_i32_1129
  let v1349 : BitVec 32 := Scalar.addi c0_i32_1130 v1348
  v1349.toNat
def k0_dev51 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1135 : BitVec 32 := 6#32
  let v1356 : BitVec 32 := Scalar.addi v2 c6_i32_1135
  let c16_i32_1136 : BitVec 32 := 16#32
  let c0_i32_1137 : BitVec 32 := 0#32
  let v1357 : BitVec 1 := Scalar.cmpi .eq c16_i32_1136 c0_i32_1137
  let c1_i32_1138 : BitVec 32 := 1#32
  let v1358 : BitVec 32 := Scalar.select v1357 c1_i32_1138 c16_i32_1136
  let v1359 : BitVec 32 := Scalar.remsi v1356 v1358
  let c0_i32_1140 : BitVec 32 := 0#32
  let v1361 : BitVec 1 := Scalar.cmpi .slt v1359 c0_i32_1140
  let c0_i32_1141 : BitVec 32 := 0#32
  let v1362 : BitVec 1 := Scalar.cmpi .slt v1358 c0_i32_1141
  let v1363 : BitVec 1 := Scalar.xori v1361 v1362
  let c0_i32_1139 : BitVec 32 := 0#32
  let v1360 : BitVec 1 := Scalar.cmpi .ne v1359 c0_i32_1139
  let v1364 : BitVec 1 := Scalar.andi v1363 v1360
  let v1365 : BitVec 32 := Scalar.addi v1359 v1358
  let v1366 : BitVec 32 := Scalar.select v1364 v1365 v1359
  let c1_i32_1143 : BitVec 32 := 1#32
  let v1367 : BitVec 32 := Scalar.muli v1366 c1_i32_1143
  let v1368 : BitVec 32 := Scalar.addi c0_i32_1144 v1367
  v1368.toNat
def k0_dev52 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1149 : BitVec 32 := 7#32
  let v1375 : BitVec 32 := Scalar.addi v2 c7_i32_1149
  let c16_i32_1150 : BitVec 32 := 16#32
  let c0_i32_1151 : BitVec 32 := 0#32
  let v1376 : BitVec 1 := Scalar.cmpi .eq c16_i32_1150 c0_i32_1151
  let c1_i32_1152 : BitVec 32 := 1#32
  let v1377 : BitVec 32 := Scalar.select v1376 c1_i32_1152 c16_i32_1150
  let v1378 : BitVec 32 := Scalar.remsi v1375 v1377
  let c0_i32_1154 : BitVec 32 := 0#32
  let v1380 : BitVec 1 := Scalar.cmpi .slt v1378 c0_i32_1154
  let c0_i32_1155 : BitVec 32 := 0#32
  let v1381 : BitVec 1 := Scalar.cmpi .slt v1377 c0_i32_1155
  let v1382 : BitVec 1 := Scalar.xori v1380 v1381
  let c0_i32_1153 : BitVec 32 := 0#32
  let v1379 : BitVec 1 := Scalar.cmpi .ne v1378 c0_i32_1153
  let v1383 : BitVec 1 := Scalar.andi v1382 v1379
  let v1384 : BitVec 32 := Scalar.addi v1378 v1377
  let v1385 : BitVec 32 := Scalar.select v1383 v1384 v1378
  let c1_i32_1157 : BitVec 32 := 1#32
  let v1386 : BitVec 32 := Scalar.muli v1385 c1_i32_1157
  let v1387 : BitVec 32 := Scalar.addi c0_i32_1158 v1386
  v1387.toNat
def k0_dev53 (d0 : Dev nD) : Nat :=
  let c0_i32_1172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1163 : BitVec 32 := 8#32
  let v1394 : BitVec 32 := Scalar.addi v2 c8_i32_1163
  let c16_i32_1164 : BitVec 32 := 16#32
  let c0_i32_1165 : BitVec 32 := 0#32
  let v1395 : BitVec 1 := Scalar.cmpi .eq c16_i32_1164 c0_i32_1165
  let c1_i32_1166 : BitVec 32 := 1#32
  let v1396 : BitVec 32 := Scalar.select v1395 c1_i32_1166 c16_i32_1164
  let v1397 : BitVec 32 := Scalar.remsi v1394 v1396
  let c0_i32_1168 : BitVec 32 := 0#32
  let v1399 : BitVec 1 := Scalar.cmpi .slt v1397 c0_i32_1168
  let c0_i32_1169 : BitVec 32 := 0#32
  let v1400 : BitVec 1 := Scalar.cmpi .slt v1396 c0_i32_1169
  let v1401 : BitVec 1 := Scalar.xori v1399 v1400
  let c0_i32_1167 : BitVec 32 := 0#32
  let v1398 : BitVec 1 := Scalar.cmpi .ne v1397 c0_i32_1167
  let v1402 : BitVec 1 := Scalar.andi v1401 v1398
  let v1403 : BitVec 32 := Scalar.addi v1397 v1396
  let v1404 : BitVec 32 := Scalar.select v1402 v1403 v1397
  let c1_i32_1171 : BitVec 32 := 1#32
  let v1405 : BitVec 32 := Scalar.muli v1404 c1_i32_1171
  let v1406 : BitVec 32 := Scalar.addi c0_i32_1172 v1405
  v1406.toNat
def k0_dev54 (d0 : Dev nD) : Nat :=
  let c0_i32_1186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1177 : BitVec 32 := 9#32
  let v1413 : BitVec 32 := Scalar.addi v2 c9_i32_1177
  let c16_i32_1178 : BitVec 32 := 16#32
  let c0_i32_1179 : BitVec 32 := 0#32
  let v1414 : BitVec 1 := Scalar.cmpi .eq c16_i32_1178 c0_i32_1179
  let c1_i32_1180 : BitVec 32 := 1#32
  let v1415 : BitVec 32 := Scalar.select v1414 c1_i32_1180 c16_i32_1178
  let v1416 : BitVec 32 := Scalar.remsi v1413 v1415
  let c0_i32_1182 : BitVec 32 := 0#32
  let v1418 : BitVec 1 := Scalar.cmpi .slt v1416 c0_i32_1182
  let c0_i32_1183 : BitVec 32 := 0#32
  let v1419 : BitVec 1 := Scalar.cmpi .slt v1415 c0_i32_1183
  let v1420 : BitVec 1 := Scalar.xori v1418 v1419
  let c0_i32_1181 : BitVec 32 := 0#32
  let v1417 : BitVec 1 := Scalar.cmpi .ne v1416 c0_i32_1181
  let v1421 : BitVec 1 := Scalar.andi v1420 v1417
  let v1422 : BitVec 32 := Scalar.addi v1416 v1415
  let v1423 : BitVec 32 := Scalar.select v1421 v1422 v1416
  let c1_i32_1185 : BitVec 32 := 1#32
  let v1424 : BitVec 32 := Scalar.muli v1423 c1_i32_1185
  let v1425 : BitVec 32 := Scalar.addi c0_i32_1186 v1424
  v1425.toNat
def k0_dev55 (d0 : Dev nD) : Nat :=
  let c0_i32_1200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1191 : BitVec 32 := 10#32
  let v1432 : BitVec 32 := Scalar.addi v2 c10_i32_1191
  let c16_i32_1192 : BitVec 32 := 16#32
  let c0_i32_1193 : BitVec 32 := 0#32
  let v1433 : BitVec 1 := Scalar.cmpi .eq c16_i32_1192 c0_i32_1193
  let c1_i32_1194 : BitVec 32 := 1#32
  let v1434 : BitVec 32 := Scalar.select v1433 c1_i32_1194 c16_i32_1192
  let v1435 : BitVec 32 := Scalar.remsi v1432 v1434
  let c0_i32_1196 : BitVec 32 := 0#32
  let v1437 : BitVec 1 := Scalar.cmpi .slt v1435 c0_i32_1196
  let c0_i32_1197 : BitVec 32 := 0#32
  let v1438 : BitVec 1 := Scalar.cmpi .slt v1434 c0_i32_1197
  let v1439 : BitVec 1 := Scalar.xori v1437 v1438
  let c0_i32_1195 : BitVec 32 := 0#32
  let v1436 : BitVec 1 := Scalar.cmpi .ne v1435 c0_i32_1195
  let v1440 : BitVec 1 := Scalar.andi v1439 v1436
  let v1441 : BitVec 32 := Scalar.addi v1435 v1434
  let v1442 : BitVec 32 := Scalar.select v1440 v1441 v1435
  let c1_i32_1199 : BitVec 32 := 1#32
  let v1443 : BitVec 32 := Scalar.muli v1442 c1_i32_1199
  let v1444 : BitVec 32 := Scalar.addi c0_i32_1200 v1443
  v1444.toNat
def k0_dev56 (d0 : Dev nD) : Nat :=
  let c0_i32_1214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1205 : BitVec 32 := 11#32
  let v1451 : BitVec 32 := Scalar.addi v2 c11_i32_1205
  let c16_i32_1206 : BitVec 32 := 16#32
  let c0_i32_1207 : BitVec 32 := 0#32
  let v1452 : BitVec 1 := Scalar.cmpi .eq c16_i32_1206 c0_i32_1207
  let c1_i32_1208 : BitVec 32 := 1#32
  let v1453 : BitVec 32 := Scalar.select v1452 c1_i32_1208 c16_i32_1206
  let v1454 : BitVec 32 := Scalar.remsi v1451 v1453
  let c0_i32_1210 : BitVec 32 := 0#32
  let v1456 : BitVec 1 := Scalar.cmpi .slt v1454 c0_i32_1210
  let c0_i32_1211 : BitVec 32 := 0#32
  let v1457 : BitVec 1 := Scalar.cmpi .slt v1453 c0_i32_1211
  let v1458 : BitVec 1 := Scalar.xori v1456 v1457
  let c0_i32_1209 : BitVec 32 := 0#32
  let v1455 : BitVec 1 := Scalar.cmpi .ne v1454 c0_i32_1209
  let v1459 : BitVec 1 := Scalar.andi v1458 v1455
  let v1460 : BitVec 32 := Scalar.addi v1454 v1453
  let v1461 : BitVec 32 := Scalar.select v1459 v1460 v1454
  let c1_i32_1213 : BitVec 32 := 1#32
  let v1462 : BitVec 32 := Scalar.muli v1461 c1_i32_1213
  let v1463 : BitVec 32 := Scalar.addi c0_i32_1214 v1462
  v1463.toNat
def k0_dev57 (d0 : Dev nD) : Nat :=
  let c0_i32_1228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1219 : BitVec 32 := 12#32
  let v1470 : BitVec 32 := Scalar.addi v2 c12_i32_1219
  let c16_i32_1220 : BitVec 32 := 16#32
  let c0_i32_1221 : BitVec 32 := 0#32
  let v1471 : BitVec 1 := Scalar.cmpi .eq c16_i32_1220 c0_i32_1221
  let c1_i32_1222 : BitVec 32 := 1#32
  let v1472 : BitVec 32 := Scalar.select v1471 c1_i32_1222 c16_i32_1220
  let v1473 : BitVec 32 := Scalar.remsi v1470 v1472
  let c0_i32_1224 : BitVec 32 := 0#32
  let v1475 : BitVec 1 := Scalar.cmpi .slt v1473 c0_i32_1224
  let c0_i32_1225 : BitVec 32 := 0#32
  let v1476 : BitVec 1 := Scalar.cmpi .slt v1472 c0_i32_1225
  let v1477 : BitVec 1 := Scalar.xori v1475 v1476
  let c0_i32_1223 : BitVec 32 := 0#32
  let v1474 : BitVec 1 := Scalar.cmpi .ne v1473 c0_i32_1223
  let v1478 : BitVec 1 := Scalar.andi v1477 v1474
  let v1479 : BitVec 32 := Scalar.addi v1473 v1472
  let v1480 : BitVec 32 := Scalar.select v1478 v1479 v1473
  let c1_i32_1227 : BitVec 32 := 1#32
  let v1481 : BitVec 32 := Scalar.muli v1480 c1_i32_1227
  let v1482 : BitVec 32 := Scalar.addi c0_i32_1228 v1481
  v1482.toNat
def k0_dev58 (d0 : Dev nD) : Nat :=
  let c0_i32_1242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1233 : BitVec 32 := 13#32
  let v1489 : BitVec 32 := Scalar.addi v2 c13_i32_1233
  let c16_i32_1234 : BitVec 32 := 16#32
  let c0_i32_1235 : BitVec 32 := 0#32
  let v1490 : BitVec 1 := Scalar.cmpi .eq c16_i32_1234 c0_i32_1235
  let c1_i32_1236 : BitVec 32 := 1#32
  let v1491 : BitVec 32 := Scalar.select v1490 c1_i32_1236 c16_i32_1234
  let v1492 : BitVec 32 := Scalar.remsi v1489 v1491
  let c0_i32_1238 : BitVec 32 := 0#32
  let v1494 : BitVec 1 := Scalar.cmpi .slt v1492 c0_i32_1238
  let c0_i32_1239 : BitVec 32 := 0#32
  let v1495 : BitVec 1 := Scalar.cmpi .slt v1491 c0_i32_1239
  let v1496 : BitVec 1 := Scalar.xori v1494 v1495
  let c0_i32_1237 : BitVec 32 := 0#32
  let v1493 : BitVec 1 := Scalar.cmpi .ne v1492 c0_i32_1237
  let v1497 : BitVec 1 := Scalar.andi v1496 v1493
  let v1498 : BitVec 32 := Scalar.addi v1492 v1491
  let v1499 : BitVec 32 := Scalar.select v1497 v1498 v1492
  let c1_i32_1241 : BitVec 32 := 1#32
  let v1500 : BitVec 32 := Scalar.muli v1499 c1_i32_1241
  let v1501 : BitVec 32 := Scalar.addi c0_i32_1242 v1500
  v1501.toNat
def k0_dev59 (d0 : Dev nD) : Nat :=
  let c0_i32_1256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1247 : BitVec 32 := 14#32
  let v1508 : BitVec 32 := Scalar.addi v2 c14_i32_1247
  let c16_i32_1248 : BitVec 32 := 16#32
  let c0_i32_1249 : BitVec 32 := 0#32
  let v1509 : BitVec 1 := Scalar.cmpi .eq c16_i32_1248 c0_i32_1249
  let c1_i32_1250 : BitVec 32 := 1#32
  let v1510 : BitVec 32 := Scalar.select v1509 c1_i32_1250 c16_i32_1248
  let v1511 : BitVec 32 := Scalar.remsi v1508 v1510
  let c0_i32_1252 : BitVec 32 := 0#32
  let v1513 : BitVec 1 := Scalar.cmpi .slt v1511 c0_i32_1252
  let c0_i32_1253 : BitVec 32 := 0#32
  let v1514 : BitVec 1 := Scalar.cmpi .slt v1510 c0_i32_1253
  let v1515 : BitVec 1 := Scalar.xori v1513 v1514
  let c0_i32_1251 : BitVec 32 := 0#32
  let v1512 : BitVec 1 := Scalar.cmpi .ne v1511 c0_i32_1251
  let v1516 : BitVec 1 := Scalar.andi v1515 v1512
  let v1517 : BitVec 32 := Scalar.addi v1511 v1510
  let v1518 : BitVec 32 := Scalar.select v1516 v1517 v1511
  let c1_i32_1255 : BitVec 32 := 1#32
  let v1519 : BitVec 32 := Scalar.muli v1518 c1_i32_1255
  let v1520 : BitVec 32 := Scalar.addi c0_i32_1256 v1519
  v1520.toNat
def k0_dev60 (d0 : Dev nD) : Nat :=
  let c0_i32_1270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1261 : BitVec 32 := 15#32
  let v1527 : BitVec 32 := Scalar.addi v2 c15_i32_1261
  let c16_i32_1262 : BitVec 32 := 16#32
  let c0_i32_1263 : BitVec 32 := 0#32
  let v1528 : BitVec 1 := Scalar.cmpi .eq c16_i32_1262 c0_i32_1263
  let c1_i32_1264 : BitVec 32 := 1#32
  let v1529 : BitVec 32 := Scalar.select v1528 c1_i32_1264 c16_i32_1262
  let v1530 : BitVec 32 := Scalar.remsi v1527 v1529
  let c0_i32_1266 : BitVec 32 := 0#32
  let v1532 : BitVec 1 := Scalar.cmpi .slt v1530 c0_i32_1266
  let c0_i32_1267 : BitVec 32 := 0#32
  let v1533 : BitVec 1 := Scalar.cmpi .slt v1529 c0_i32_1267
  let v1534 : BitVec 1 := Scalar.xori v1532 v1533
  let c0_i32_1265 : BitVec 32 := 0#32
  let v1531 : BitVec 1 := Scalar.cmpi .ne v1530 c0_i32_1265
  let v1535 : BitVec 1 := Scalar.andi v1534 v1531
  let v1536 : BitVec 32 := Scalar.addi v1530 v1529
  let v1537 : BitVec 32 := Scalar.select v1535 v1536 v1530
  let c1_i32_1269 : BitVec 32 := 1#32
  let v1538 : BitVec 32 := Scalar.muli v1537 c1_i32_1269
  let v1539 : BitVec 32 := Scalar.addi c0_i32_1270 v1538
  v1539.toNat
def k0_dev61 (d0 : Dev nD) : Nat :=
  let c0_i32_1489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1480 : BitVec 32 := 1#32
  let v1741 : BitVec 32 := Scalar.addi v2 c1_i32_1480
  let c16_i32_1481 : BitVec 32 := 16#32
  let c0_i32_1482 : BitVec 32 := 0#32
  let v1742 : BitVec 1 := Scalar.cmpi .eq c16_i32_1481 c0_i32_1482
  let c1_i32_1483 : BitVec 32 := 1#32
  let v1743 : BitVec 32 := Scalar.select v1742 c1_i32_1483 c16_i32_1481
  let v1744 : BitVec 32 := Scalar.remsi v1741 v1743
  let c0_i32_1485 : BitVec 32 := 0#32
  let v1746 : BitVec 1 := Scalar.cmpi .slt v1744 c0_i32_1485
  let c0_i32_1486 : BitVec 32 := 0#32
  let v1747 : BitVec 1 := Scalar.cmpi .slt v1743 c0_i32_1486
  let v1748 : BitVec 1 := Scalar.xori v1746 v1747
  let c0_i32_1484 : BitVec 32 := 0#32
  let v1745 : BitVec 1 := Scalar.cmpi .ne v1744 c0_i32_1484
  let v1749 : BitVec 1 := Scalar.andi v1748 v1745
  let v1750 : BitVec 32 := Scalar.addi v1744 v1743
  let v1751 : BitVec 32 := Scalar.select v1749 v1750 v1744
  let c1_i32_1488 : BitVec 32 := 1#32
  let v1752 : BitVec 32 := Scalar.muli v1751 c1_i32_1488
  let v1753 : BitVec 32 := Scalar.addi c0_i32_1489 v1752
  v1753.toNat
def k0_dev62 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1494 : BitVec 32 := 2#32
  let v1760 : BitVec 32 := Scalar.addi v2 c2_i32_1494
  let c16_i32_1495 : BitVec 32 := 16#32
  let c0_i32_1496 : BitVec 32 := 0#32
  let v1761 : BitVec 1 := Scalar.cmpi .eq c16_i32_1495 c0_i32_1496
  let c1_i32_1497 : BitVec 32 := 1#32
  let v1762 : BitVec 32 := Scalar.select v1761 c1_i32_1497 c16_i32_1495
  let v1763 : BitVec 32 := Scalar.remsi v1760 v1762
  let c0_i32_1499 : BitVec 32 := 0#32
  let v1765 : BitVec 1 := Scalar.cmpi .slt v1763 c0_i32_1499
  let c0_i32_1500 : BitVec 32 := 0#32
  let v1766 : BitVec 1 := Scalar.cmpi .slt v1762 c0_i32_1500
  let v1767 : BitVec 1 := Scalar.xori v1765 v1766
  let c0_i32_1498 : BitVec 32 := 0#32
  let v1764 : BitVec 1 := Scalar.cmpi .ne v1763 c0_i32_1498
  let v1768 : BitVec 1 := Scalar.andi v1767 v1764
  let v1769 : BitVec 32 := Scalar.addi v1763 v1762
  let v1770 : BitVec 32 := Scalar.select v1768 v1769 v1763
  let c1_i32_1502 : BitVec 32 := 1#32
  let v1771 : BitVec 32 := Scalar.muli v1770 c1_i32_1502
  let v1772 : BitVec 32 := Scalar.addi c0_i32_1503 v1771
  v1772.toNat
def k0_dev63 (d0 : Dev nD) : Nat :=
  let c0_i32_1517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1508 : BitVec 32 := 3#32
  let v1779 : BitVec 32 := Scalar.addi v2 c3_i32_1508
  let c16_i32_1509 : BitVec 32 := 16#32
  let c0_i32_1510 : BitVec 32 := 0#32
  let v1780 : BitVec 1 := Scalar.cmpi .eq c16_i32_1509 c0_i32_1510
  let c1_i32_1511 : BitVec 32 := 1#32
  let v1781 : BitVec 32 := Scalar.select v1780 c1_i32_1511 c16_i32_1509
  let v1782 : BitVec 32 := Scalar.remsi v1779 v1781
  let c0_i32_1513 : BitVec 32 := 0#32
  let v1784 : BitVec 1 := Scalar.cmpi .slt v1782 c0_i32_1513
  let c0_i32_1514 : BitVec 32 := 0#32
  let v1785 : BitVec 1 := Scalar.cmpi .slt v1781 c0_i32_1514
  let v1786 : BitVec 1 := Scalar.xori v1784 v1785
  let c0_i32_1512 : BitVec 32 := 0#32
  let v1783 : BitVec 1 := Scalar.cmpi .ne v1782 c0_i32_1512
  let v1787 : BitVec 1 := Scalar.andi v1786 v1783
  let v1788 : BitVec 32 := Scalar.addi v1782 v1781
  let v1789 : BitVec 32 := Scalar.select v1787 v1788 v1782
  let c1_i32_1516 : BitVec 32 := 1#32
  let v1790 : BitVec 32 := Scalar.muli v1789 c1_i32_1516
  let v1791 : BitVec 32 := Scalar.addi c0_i32_1517 v1790
  v1791.toNat
def k0_dev64 (d0 : Dev nD) : Nat :=
  let c0_i32_1531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1522 : BitVec 32 := 4#32
  let v1798 : BitVec 32 := Scalar.addi v2 c4_i32_1522
  let c16_i32_1523 : BitVec 32 := 16#32
  let c0_i32_1524 : BitVec 32 := 0#32
  let v1799 : BitVec 1 := Scalar.cmpi .eq c16_i32_1523 c0_i32_1524
  let c1_i32_1525 : BitVec 32 := 1#32
  let v1800 : BitVec 32 := Scalar.select v1799 c1_i32_1525 c16_i32_1523
  let v1801 : BitVec 32 := Scalar.remsi v1798 v1800
  let c0_i32_1527 : BitVec 32 := 0#32
  let v1803 : BitVec 1 := Scalar.cmpi .slt v1801 c0_i32_1527
  let c0_i32_1528 : BitVec 32 := 0#32
  let v1804 : BitVec 1 := Scalar.cmpi .slt v1800 c0_i32_1528
  let v1805 : BitVec 1 := Scalar.xori v1803 v1804
  let c0_i32_1526 : BitVec 32 := 0#32
  let v1802 : BitVec 1 := Scalar.cmpi .ne v1801 c0_i32_1526
  let v1806 : BitVec 1 := Scalar.andi v1805 v1802
  let v1807 : BitVec 32 := Scalar.addi v1801 v1800
  let v1808 : BitVec 32 := Scalar.select v1806 v1807 v1801
  let c1_i32_1530 : BitVec 32 := 1#32
  let v1809 : BitVec 32 := Scalar.muli v1808 c1_i32_1530
  let v1810 : BitVec 32 := Scalar.addi c0_i32_1531 v1809
  v1810.toNat
def k0_dev65 (d0 : Dev nD) : Nat :=
  let c0_i32_1545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1536 : BitVec 32 := 5#32
  let v1817 : BitVec 32 := Scalar.addi v2 c5_i32_1536
  let c16_i32_1537 : BitVec 32 := 16#32
  let c0_i32_1538 : BitVec 32 := 0#32
  let v1818 : BitVec 1 := Scalar.cmpi .eq c16_i32_1537 c0_i32_1538
  let c1_i32_1539 : BitVec 32 := 1#32
  let v1819 : BitVec 32 := Scalar.select v1818 c1_i32_1539 c16_i32_1537
  let v1820 : BitVec 32 := Scalar.remsi v1817 v1819
  let c0_i32_1541 : BitVec 32 := 0#32
  let v1822 : BitVec 1 := Scalar.cmpi .slt v1820 c0_i32_1541
  let c0_i32_1542 : BitVec 32 := 0#32
  let v1823 : BitVec 1 := Scalar.cmpi .slt v1819 c0_i32_1542
  let v1824 : BitVec 1 := Scalar.xori v1822 v1823
  let c0_i32_1540 : BitVec 32 := 0#32
  let v1821 : BitVec 1 := Scalar.cmpi .ne v1820 c0_i32_1540
  let v1825 : BitVec 1 := Scalar.andi v1824 v1821
  let v1826 : BitVec 32 := Scalar.addi v1820 v1819
  let v1827 : BitVec 32 := Scalar.select v1825 v1826 v1820
  let c1_i32_1544 : BitVec 32 := 1#32
  let v1828 : BitVec 32 := Scalar.muli v1827 c1_i32_1544
  let v1829 : BitVec 32 := Scalar.addi c0_i32_1545 v1828
  v1829.toNat
def k0_dev66 (d0 : Dev nD) : Nat :=
  let c0_i32_1559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1550 : BitVec 32 := 6#32
  let v1836 : BitVec 32 := Scalar.addi v2 c6_i32_1550
  let c16_i32_1551 : BitVec 32 := 16#32
  let c0_i32_1552 : BitVec 32 := 0#32
  let v1837 : BitVec 1 := Scalar.cmpi .eq c16_i32_1551 c0_i32_1552
  let c1_i32_1553 : BitVec 32 := 1#32
  let v1838 : BitVec 32 := Scalar.select v1837 c1_i32_1553 c16_i32_1551
  let v1839 : BitVec 32 := Scalar.remsi v1836 v1838
  let c0_i32_1555 : BitVec 32 := 0#32
  let v1841 : BitVec 1 := Scalar.cmpi .slt v1839 c0_i32_1555
  let c0_i32_1556 : BitVec 32 := 0#32
  let v1842 : BitVec 1 := Scalar.cmpi .slt v1838 c0_i32_1556
  let v1843 : BitVec 1 := Scalar.xori v1841 v1842
  let c0_i32_1554 : BitVec 32 := 0#32
  let v1840 : BitVec 1 := Scalar.cmpi .ne v1839 c0_i32_1554
  let v1844 : BitVec 1 := Scalar.andi v1843 v1840
  let v1845 : BitVec 32 := Scalar.addi v1839 v1838
  let v1846 : BitVec 32 := Scalar.select v1844 v1845 v1839
  let c1_i32_1558 : BitVec 32 := 1#32
  let v1847 : BitVec 32 := Scalar.muli v1846 c1_i32_1558
  let v1848 : BitVec 32 := Scalar.addi c0_i32_1559 v1847
  v1848.toNat
def k0_dev67 (d0 : Dev nD) : Nat :=
  let c0_i32_1573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1564 : BitVec 32 := 7#32
  let v1855 : BitVec 32 := Scalar.addi v2 c7_i32_1564
  let c16_i32_1565 : BitVec 32 := 16#32
  let c0_i32_1566 : BitVec 32 := 0#32
  let v1856 : BitVec 1 := Scalar.cmpi .eq c16_i32_1565 c0_i32_1566
  let c1_i32_1567 : BitVec 32 := 1#32
  let v1857 : BitVec 32 := Scalar.select v1856 c1_i32_1567 c16_i32_1565
  let v1858 : BitVec 32 := Scalar.remsi v1855 v1857
  let c0_i32_1569 : BitVec 32 := 0#32
  let v1860 : BitVec 1 := Scalar.cmpi .slt v1858 c0_i32_1569
  let c0_i32_1570 : BitVec 32 := 0#32
  let v1861 : BitVec 1 := Scalar.cmpi .slt v1857 c0_i32_1570
  let v1862 : BitVec 1 := Scalar.xori v1860 v1861
  let c0_i32_1568 : BitVec 32 := 0#32
  let v1859 : BitVec 1 := Scalar.cmpi .ne v1858 c0_i32_1568
  let v1863 : BitVec 1 := Scalar.andi v1862 v1859
  let v1864 : BitVec 32 := Scalar.addi v1858 v1857
  let v1865 : BitVec 32 := Scalar.select v1863 v1864 v1858
  let c1_i32_1572 : BitVec 32 := 1#32
  let v1866 : BitVec 32 := Scalar.muli v1865 c1_i32_1572
  let v1867 : BitVec 32 := Scalar.addi c0_i32_1573 v1866
  v1867.toNat
def k0_dev68 (d0 : Dev nD) : Nat :=
  let c0_i32_1587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1578 : BitVec 32 := 8#32
  let v1874 : BitVec 32 := Scalar.addi v2 c8_i32_1578
  let c16_i32_1579 : BitVec 32 := 16#32
  let c0_i32_1580 : BitVec 32 := 0#32
  let v1875 : BitVec 1 := Scalar.cmpi .eq c16_i32_1579 c0_i32_1580
  let c1_i32_1581 : BitVec 32 := 1#32
  let v1876 : BitVec 32 := Scalar.select v1875 c1_i32_1581 c16_i32_1579
  let v1877 : BitVec 32 := Scalar.remsi v1874 v1876
  let c0_i32_1583 : BitVec 32 := 0#32
  let v1879 : BitVec 1 := Scalar.cmpi .slt v1877 c0_i32_1583
  let c0_i32_1584 : BitVec 32 := 0#32
  let v1880 : BitVec 1 := Scalar.cmpi .slt v1876 c0_i32_1584
  let v1881 : BitVec 1 := Scalar.xori v1879 v1880
  let c0_i32_1582 : BitVec 32 := 0#32
  let v1878 : BitVec 1 := Scalar.cmpi .ne v1877 c0_i32_1582
  let v1882 : BitVec 1 := Scalar.andi v1881 v1878
  let v1883 : BitVec 32 := Scalar.addi v1877 v1876
  let v1884 : BitVec 32 := Scalar.select v1882 v1883 v1877
  let c1_i32_1586 : BitVec 32 := 1#32
  let v1885 : BitVec 32 := Scalar.muli v1884 c1_i32_1586
  let v1886 : BitVec 32 := Scalar.addi c0_i32_1587 v1885
  v1886.toNat
def k0_dev69 (d0 : Dev nD) : Nat :=
  let c0_i32_1601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1592 : BitVec 32 := 9#32
  let v1893 : BitVec 32 := Scalar.addi v2 c9_i32_1592
  let c16_i32_1593 : BitVec 32 := 16#32
  let c0_i32_1594 : BitVec 32 := 0#32
  let v1894 : BitVec 1 := Scalar.cmpi .eq c16_i32_1593 c0_i32_1594
  let c1_i32_1595 : BitVec 32 := 1#32
  let v1895 : BitVec 32 := Scalar.select v1894 c1_i32_1595 c16_i32_1593
  let v1896 : BitVec 32 := Scalar.remsi v1893 v1895
  let c0_i32_1597 : BitVec 32 := 0#32
  let v1898 : BitVec 1 := Scalar.cmpi .slt v1896 c0_i32_1597
  let c0_i32_1598 : BitVec 32 := 0#32
  let v1899 : BitVec 1 := Scalar.cmpi .slt v1895 c0_i32_1598
  let v1900 : BitVec 1 := Scalar.xori v1898 v1899
  let c0_i32_1596 : BitVec 32 := 0#32
  let v1897 : BitVec 1 := Scalar.cmpi .ne v1896 c0_i32_1596
  let v1901 : BitVec 1 := Scalar.andi v1900 v1897
  let v1902 : BitVec 32 := Scalar.addi v1896 v1895
  let v1903 : BitVec 32 := Scalar.select v1901 v1902 v1896
  let c1_i32_1600 : BitVec 32 := 1#32
  let v1904 : BitVec 32 := Scalar.muli v1903 c1_i32_1600
  let v1905 : BitVec 32 := Scalar.addi c0_i32_1601 v1904
  v1905.toNat
def k0_dev70 (d0 : Dev nD) : Nat :=
  let c0_i32_1615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1606 : BitVec 32 := 10#32
  let v1912 : BitVec 32 := Scalar.addi v2 c10_i32_1606
  let c16_i32_1607 : BitVec 32 := 16#32
  let c0_i32_1608 : BitVec 32 := 0#32
  let v1913 : BitVec 1 := Scalar.cmpi .eq c16_i32_1607 c0_i32_1608
  let c1_i32_1609 : BitVec 32 := 1#32
  let v1914 : BitVec 32 := Scalar.select v1913 c1_i32_1609 c16_i32_1607
  let v1915 : BitVec 32 := Scalar.remsi v1912 v1914
  let c0_i32_1611 : BitVec 32 := 0#32
  let v1917 : BitVec 1 := Scalar.cmpi .slt v1915 c0_i32_1611
  let c0_i32_1612 : BitVec 32 := 0#32
  let v1918 : BitVec 1 := Scalar.cmpi .slt v1914 c0_i32_1612
  let v1919 : BitVec 1 := Scalar.xori v1917 v1918
  let c0_i32_1610 : BitVec 32 := 0#32
  let v1916 : BitVec 1 := Scalar.cmpi .ne v1915 c0_i32_1610
  let v1920 : BitVec 1 := Scalar.andi v1919 v1916
  let v1921 : BitVec 32 := Scalar.addi v1915 v1914
  let v1922 : BitVec 32 := Scalar.select v1920 v1921 v1915
  let c1_i32_1614 : BitVec 32 := 1#32
  let v1923 : BitVec 32 := Scalar.muli v1922 c1_i32_1614
  let v1924 : BitVec 32 := Scalar.addi c0_i32_1615 v1923
  v1924.toNat
def k0_dev71 (d0 : Dev nD) : Nat :=
  let c0_i32_1629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1620 : BitVec 32 := 11#32
  let v1931 : BitVec 32 := Scalar.addi v2 c11_i32_1620
  let c16_i32_1621 : BitVec 32 := 16#32
  let c0_i32_1622 : BitVec 32 := 0#32
  let v1932 : BitVec 1 := Scalar.cmpi .eq c16_i32_1621 c0_i32_1622
  let c1_i32_1623 : BitVec 32 := 1#32
  let v1933 : BitVec 32 := Scalar.select v1932 c1_i32_1623 c16_i32_1621
  let v1934 : BitVec 32 := Scalar.remsi v1931 v1933
  let c0_i32_1625 : BitVec 32 := 0#32
  let v1936 : BitVec 1 := Scalar.cmpi .slt v1934 c0_i32_1625
  let c0_i32_1626 : BitVec 32 := 0#32
  let v1937 : BitVec 1 := Scalar.cmpi .slt v1933 c0_i32_1626
  let v1938 : BitVec 1 := Scalar.xori v1936 v1937
  let c0_i32_1624 : BitVec 32 := 0#32
  let v1935 : BitVec 1 := Scalar.cmpi .ne v1934 c0_i32_1624
  let v1939 : BitVec 1 := Scalar.andi v1938 v1935
  let v1940 : BitVec 32 := Scalar.addi v1934 v1933
  let v1941 : BitVec 32 := Scalar.select v1939 v1940 v1934
  let c1_i32_1628 : BitVec 32 := 1#32
  let v1942 : BitVec 32 := Scalar.muli v1941 c1_i32_1628
  let v1943 : BitVec 32 := Scalar.addi c0_i32_1629 v1942
  v1943.toNat
def k0_dev72 (d0 : Dev nD) : Nat :=
  let c0_i32_1643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1634 : BitVec 32 := 12#32
  let v1950 : BitVec 32 := Scalar.addi v2 c12_i32_1634
  let c16_i32_1635 : BitVec 32 := 16#32
  let c0_i32_1636 : BitVec 32 := 0#32
  let v1951 : BitVec 1 := Scalar.cmpi .eq c16_i32_1635 c0_i32_1636
  let c1_i32_1637 : BitVec 32 := 1#32
  let v1952 : BitVec 32 := Scalar.select v1951 c1_i32_1637 c16_i32_1635
  let v1953 : BitVec 32 := Scalar.remsi v1950 v1952
  let c0_i32_1639 : BitVec 32 := 0#32
  let v1955 : BitVec 1 := Scalar.cmpi .slt v1953 c0_i32_1639
  let c0_i32_1640 : BitVec 32 := 0#32
  let v1956 : BitVec 1 := Scalar.cmpi .slt v1952 c0_i32_1640
  let v1957 : BitVec 1 := Scalar.xori v1955 v1956
  let c0_i32_1638 : BitVec 32 := 0#32
  let v1954 : BitVec 1 := Scalar.cmpi .ne v1953 c0_i32_1638
  let v1958 : BitVec 1 := Scalar.andi v1957 v1954
  let v1959 : BitVec 32 := Scalar.addi v1953 v1952
  let v1960 : BitVec 32 := Scalar.select v1958 v1959 v1953
  let c1_i32_1642 : BitVec 32 := 1#32
  let v1961 : BitVec 32 := Scalar.muli v1960 c1_i32_1642
  let v1962 : BitVec 32 := Scalar.addi c0_i32_1643 v1961
  v1962.toNat
def k0_dev73 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1648 : BitVec 32 := 13#32
  let v1969 : BitVec 32 := Scalar.addi v2 c13_i32_1648
  let c16_i32_1649 : BitVec 32 := 16#32
  let c0_i32_1650 : BitVec 32 := 0#32
  let v1970 : BitVec 1 := Scalar.cmpi .eq c16_i32_1649 c0_i32_1650
  let c1_i32_1651 : BitVec 32 := 1#32
  let v1971 : BitVec 32 := Scalar.select v1970 c1_i32_1651 c16_i32_1649
  let v1972 : BitVec 32 := Scalar.remsi v1969 v1971
  let c0_i32_1653 : BitVec 32 := 0#32
  let v1974 : BitVec 1 := Scalar.cmpi .slt v1972 c0_i32_1653
  let c0_i32_1654 : BitVec 32 := 0#32
  let v1975 : BitVec 1 := Scalar.cmpi .slt v1971 c0_i32_1654
  let v1976 : BitVec 1 := Scalar.xori v1974 v1975
  let c0_i32_1652 : BitVec 32 := 0#32
  let v1973 : BitVec 1 := Scalar.cmpi .ne v1972 c0_i32_1652
  let v1977 : BitVec 1 := Scalar.andi v1976 v1973
  let v1978 : BitVec 32 := Scalar.addi v1972 v1971
  let v1979 : BitVec 32 := Scalar.select v1977 v1978 v1972
  let c1_i32_1656 : BitVec 32 := 1#32
  let v1980 : BitVec 32 := Scalar.muli v1979 c1_i32_1656
  let v1981 : BitVec 32 := Scalar.addi c0_i32_1657 v1980
  v1981.toNat
def k0_dev74 (d0 : Dev nD) : Nat :=
  let c0_i32_1671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1662 : BitVec 32 := 14#32
  let v1988 : BitVec 32 := Scalar.addi v2 c14_i32_1662
  let c16_i32_1663 : BitVec 32 := 16#32
  let c0_i32_1664 : BitVec 32 := 0#32
  let v1989 : BitVec 1 := Scalar.cmpi .eq c16_i32_1663 c0_i32_1664
  let c1_i32_1665 : BitVec 32 := 1#32
  let v1990 : BitVec 32 := Scalar.select v1989 c1_i32_1665 c16_i32_1663
  let v1991 : BitVec 32 := Scalar.remsi v1988 v1990
  let c0_i32_1667 : BitVec 32 := 0#32
  let v1993 : BitVec 1 := Scalar.cmpi .slt v1991 c0_i32_1667
  let c0_i32_1668 : BitVec 32 := 0#32
  let v1994 : BitVec 1 := Scalar.cmpi .slt v1990 c0_i32_1668
  let v1995 : BitVec 1 := Scalar.xori v1993 v1994
  let c0_i32_1666 : BitVec 32 := 0#32
  let v1992 : BitVec 1 := Scalar.cmpi .ne v1991 c0_i32_1666
  let v1996 : BitVec 1 := Scalar.andi v1995 v1992
  let v1997 : BitVec 32 := Scalar.addi v1991 v1990
  let v1998 : BitVec 32 := Scalar.select v1996 v1997 v1991
  let c1_i32_1670 : BitVec 32 := 1#32
  let v1999 : BitVec 32 := Scalar.muli v1998 c1_i32_1670
  let v2000 : BitVec 32 := Scalar.addi c0_i32_1671 v1999
  v2000.toNat
def k0_dev75 (d0 : Dev nD) : Nat :=
  let c0_i32_1685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1676 : BitVec 32 := 15#32
  let v2007 : BitVec 32 := Scalar.addi v2 c15_i32_1676
  let c16_i32_1677 : BitVec 32 := 16#32
  let c0_i32_1678 : BitVec 32 := 0#32
  let v2008 : BitVec 1 := Scalar.cmpi .eq c16_i32_1677 c0_i32_1678
  let c1_i32_1679 : BitVec 32 := 1#32
  let v2009 : BitVec 32 := Scalar.select v2008 c1_i32_1679 c16_i32_1677
  let v2010 : BitVec 32 := Scalar.remsi v2007 v2009
  let c0_i32_1681 : BitVec 32 := 0#32
  let v2012 : BitVec 1 := Scalar.cmpi .slt v2010 c0_i32_1681
  let c0_i32_1682 : BitVec 32 := 0#32
  let v2013 : BitVec 1 := Scalar.cmpi .slt v2009 c0_i32_1682
  let v2014 : BitVec 1 := Scalar.xori v2012 v2013
  let c0_i32_1680 : BitVec 32 := 0#32
  let v2011 : BitVec 1 := Scalar.cmpi .ne v2010 c0_i32_1680
  let v2015 : BitVec 1 := Scalar.andi v2014 v2011
  let v2016 : BitVec 32 := Scalar.addi v2010 v2009
  let v2017 : BitVec 32 := Scalar.select v2015 v2016 v2010
  let c1_i32_1684 : BitVec 32 := 1#32
  let v2018 : BitVec 32 := Scalar.muli v2017 c1_i32_1684
  let v2019 : BitVec 32 := Scalar.addi c0_i32_1685 v2018
  v2019.toNat
def k0_dev76 (d0 : Dev nD) : Nat :=
  let c0_i32_1909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1900 : BitVec 32 := 1#32
  let v2222 : BitVec 32 := Scalar.addi v2 c1_i32_1900
  let c16_i32_1901 : BitVec 32 := 16#32
  let c0_i32_1902 : BitVec 32 := 0#32
  let v2223 : BitVec 1 := Scalar.cmpi .eq c16_i32_1901 c0_i32_1902
  let c1_i32_1903 : BitVec 32 := 1#32
  let v2224 : BitVec 32 := Scalar.select v2223 c1_i32_1903 c16_i32_1901
  let v2225 : BitVec 32 := Scalar.remsi v2222 v2224
  let c0_i32_1905 : BitVec 32 := 0#32
  let v2227 : BitVec 1 := Scalar.cmpi .slt v2225 c0_i32_1905
  let c0_i32_1906 : BitVec 32 := 0#32
  let v2228 : BitVec 1 := Scalar.cmpi .slt v2224 c0_i32_1906
  let v2229 : BitVec 1 := Scalar.xori v2227 v2228
  let c0_i32_1904 : BitVec 32 := 0#32
  let v2226 : BitVec 1 := Scalar.cmpi .ne v2225 c0_i32_1904
  let v2230 : BitVec 1 := Scalar.andi v2229 v2226
  let v2231 : BitVec 32 := Scalar.addi v2225 v2224
  let v2232 : BitVec 32 := Scalar.select v2230 v2231 v2225
  let c1_i32_1908 : BitVec 32 := 1#32
  let v2233 : BitVec 32 := Scalar.muli v2232 c1_i32_1908
  let v2234 : BitVec 32 := Scalar.addi c0_i32_1909 v2233
  v2234.toNat
def k0_dev77 (d0 : Dev nD) : Nat :=
  let c0_i32_1923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1914 : BitVec 32 := 2#32
  let v2241 : BitVec 32 := Scalar.addi v2 c2_i32_1914
  let c16_i32_1915 : BitVec 32 := 16#32
  let c0_i32_1916 : BitVec 32 := 0#32
  let v2242 : BitVec 1 := Scalar.cmpi .eq c16_i32_1915 c0_i32_1916
  let c1_i32_1917 : BitVec 32 := 1#32
  let v2243 : BitVec 32 := Scalar.select v2242 c1_i32_1917 c16_i32_1915
  let v2244 : BitVec 32 := Scalar.remsi v2241 v2243
  let c0_i32_1919 : BitVec 32 := 0#32
  let v2246 : BitVec 1 := Scalar.cmpi .slt v2244 c0_i32_1919
  let c0_i32_1920 : BitVec 32 := 0#32
  let v2247 : BitVec 1 := Scalar.cmpi .slt v2243 c0_i32_1920
  let v2248 : BitVec 1 := Scalar.xori v2246 v2247
  let c0_i32_1918 : BitVec 32 := 0#32
  let v2245 : BitVec 1 := Scalar.cmpi .ne v2244 c0_i32_1918
  let v2249 : BitVec 1 := Scalar.andi v2248 v2245
  let v2250 : BitVec 32 := Scalar.addi v2244 v2243
  let v2251 : BitVec 32 := Scalar.select v2249 v2250 v2244
  let c1_i32_1922 : BitVec 32 := 1#32
  let v2252 : BitVec 32 := Scalar.muli v2251 c1_i32_1922
  let v2253 : BitVec 32 := Scalar.addi c0_i32_1923 v2252
  v2253.toNat
def k0_dev78 (d0 : Dev nD) : Nat :=
  let c0_i32_1937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1928 : BitVec 32 := 3#32
  let v2260 : BitVec 32 := Scalar.addi v2 c3_i32_1928
  let c16_i32_1929 : BitVec 32 := 16#32
  let c0_i32_1930 : BitVec 32 := 0#32
  let v2261 : BitVec 1 := Scalar.cmpi .eq c16_i32_1929 c0_i32_1930
  let c1_i32_1931 : BitVec 32 := 1#32
  let v2262 : BitVec 32 := Scalar.select v2261 c1_i32_1931 c16_i32_1929
  let v2263 : BitVec 32 := Scalar.remsi v2260 v2262
  let c0_i32_1933 : BitVec 32 := 0#32
  let v2265 : BitVec 1 := Scalar.cmpi .slt v2263 c0_i32_1933
  let c0_i32_1934 : BitVec 32 := 0#32
  let v2266 : BitVec 1 := Scalar.cmpi .slt v2262 c0_i32_1934
  let v2267 : BitVec 1 := Scalar.xori v2265 v2266
  let c0_i32_1932 : BitVec 32 := 0#32
  let v2264 : BitVec 1 := Scalar.cmpi .ne v2263 c0_i32_1932
  let v2268 : BitVec 1 := Scalar.andi v2267 v2264
  let v2269 : BitVec 32 := Scalar.addi v2263 v2262
  let v2270 : BitVec 32 := Scalar.select v2268 v2269 v2263
  let c1_i32_1936 : BitVec 32 := 1#32
  let v2271 : BitVec 32 := Scalar.muli v2270 c1_i32_1936
  let v2272 : BitVec 32 := Scalar.addi c0_i32_1937 v2271
  v2272.toNat
def k0_dev79 (d0 : Dev nD) : Nat :=
  let c0_i32_1951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1942 : BitVec 32 := 4#32
  let v2279 : BitVec 32 := Scalar.addi v2 c4_i32_1942
  let c16_i32_1943 : BitVec 32 := 16#32
  let c0_i32_1944 : BitVec 32 := 0#32
  let v2280 : BitVec 1 := Scalar.cmpi .eq c16_i32_1943 c0_i32_1944
  let c1_i32_1945 : BitVec 32 := 1#32
  let v2281 : BitVec 32 := Scalar.select v2280 c1_i32_1945 c16_i32_1943
  let v2282 : BitVec 32 := Scalar.remsi v2279 v2281
  let c0_i32_1947 : BitVec 32 := 0#32
  let v2284 : BitVec 1 := Scalar.cmpi .slt v2282 c0_i32_1947
  let c0_i32_1948 : BitVec 32 := 0#32
  let v2285 : BitVec 1 := Scalar.cmpi .slt v2281 c0_i32_1948
  let v2286 : BitVec 1 := Scalar.xori v2284 v2285
  let c0_i32_1946 : BitVec 32 := 0#32
  let v2283 : BitVec 1 := Scalar.cmpi .ne v2282 c0_i32_1946
  let v2287 : BitVec 1 := Scalar.andi v2286 v2283
  let v2288 : BitVec 32 := Scalar.addi v2282 v2281
  let v2289 : BitVec 32 := Scalar.select v2287 v2288 v2282
  let c1_i32_1950 : BitVec 32 := 1#32
  let v2290 : BitVec 32 := Scalar.muli v2289 c1_i32_1950
  let v2291 : BitVec 32 := Scalar.addi c0_i32_1951 v2290
  v2291.toNat
def k0_dev80 (d0 : Dev nD) : Nat :=
  let c0_i32_1965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1956 : BitVec 32 := 5#32
  let v2298 : BitVec 32 := Scalar.addi v2 c5_i32_1956
  let c16_i32_1957 : BitVec 32 := 16#32
  let c0_i32_1958 : BitVec 32 := 0#32
  let v2299 : BitVec 1 := Scalar.cmpi .eq c16_i32_1957 c0_i32_1958
  let c1_i32_1959 : BitVec 32 := 1#32
  let v2300 : BitVec 32 := Scalar.select v2299 c1_i32_1959 c16_i32_1957
  let v2301 : BitVec 32 := Scalar.remsi v2298 v2300
  let c0_i32_1961 : BitVec 32 := 0#32
  let v2303 : BitVec 1 := Scalar.cmpi .slt v2301 c0_i32_1961
  let c0_i32_1962 : BitVec 32 := 0#32
  let v2304 : BitVec 1 := Scalar.cmpi .slt v2300 c0_i32_1962
  let v2305 : BitVec 1 := Scalar.xori v2303 v2304
  let c0_i32_1960 : BitVec 32 := 0#32
  let v2302 : BitVec 1 := Scalar.cmpi .ne v2301 c0_i32_1960
  let v2306 : BitVec 1 := Scalar.andi v2305 v2302
  let v2307 : BitVec 32 := Scalar.addi v2301 v2300
  let v2308 : BitVec 32 := Scalar.select v2306 v2307 v2301
  let c1_i32_1964 : BitVec 32 := 1#32
  let v2309 : BitVec 32 := Scalar.muli v2308 c1_i32_1964
  let v2310 : BitVec 32 := Scalar.addi c0_i32_1965 v2309
  v2310.toNat
def k0_dev81 (d0 : Dev nD) : Nat :=
  let c0_i32_1979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1970 : BitVec 32 := 6#32
  let v2317 : BitVec 32 := Scalar.addi v2 c6_i32_1970
  let c16_i32_1971 : BitVec 32 := 16#32
  let c0_i32_1972 : BitVec 32 := 0#32
  let v2318 : BitVec 1 := Scalar.cmpi .eq c16_i32_1971 c0_i32_1972
  let c1_i32_1973 : BitVec 32 := 1#32
  let v2319 : BitVec 32 := Scalar.select v2318 c1_i32_1973 c16_i32_1971
  let v2320 : BitVec 32 := Scalar.remsi v2317 v2319
  let c0_i32_1975 : BitVec 32 := 0#32
  let v2322 : BitVec 1 := Scalar.cmpi .slt v2320 c0_i32_1975
  let c0_i32_1976 : BitVec 32 := 0#32
  let v2323 : BitVec 1 := Scalar.cmpi .slt v2319 c0_i32_1976
  let v2324 : BitVec 1 := Scalar.xori v2322 v2323
  let c0_i32_1974 : BitVec 32 := 0#32
  let v2321 : BitVec 1 := Scalar.cmpi .ne v2320 c0_i32_1974
  let v2325 : BitVec 1 := Scalar.andi v2324 v2321
  let v2326 : BitVec 32 := Scalar.addi v2320 v2319
  let v2327 : BitVec 32 := Scalar.select v2325 v2326 v2320
  let c1_i32_1978 : BitVec 32 := 1#32
  let v2328 : BitVec 32 := Scalar.muli v2327 c1_i32_1978
  let v2329 : BitVec 32 := Scalar.addi c0_i32_1979 v2328
  v2329.toNat
def k0_dev82 (d0 : Dev nD) : Nat :=
  let c0_i32_1993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1984 : BitVec 32 := 7#32
  let v2336 : BitVec 32 := Scalar.addi v2 c7_i32_1984
  let c16_i32_1985 : BitVec 32 := 16#32
  let c0_i32_1986 : BitVec 32 := 0#32
  let v2337 : BitVec 1 := Scalar.cmpi .eq c16_i32_1985 c0_i32_1986
  let c1_i32_1987 : BitVec 32 := 1#32
  let v2338 : BitVec 32 := Scalar.select v2337 c1_i32_1987 c16_i32_1985
  let v2339 : BitVec 32 := Scalar.remsi v2336 v2338
  let c0_i32_1989 : BitVec 32 := 0#32
  let v2341 : BitVec 1 := Scalar.cmpi .slt v2339 c0_i32_1989
  let c0_i32_1990 : BitVec 32 := 0#32
  let v2342 : BitVec 1 := Scalar.cmpi .slt v2338 c0_i32_1990
  let v2343 : BitVec 1 := Scalar.xori v2341 v2342
  let c0_i32_1988 : BitVec 32 := 0#32
  let v2340 : BitVec 1 := Scalar.cmpi .ne v2339 c0_i32_1988
  let v2344 : BitVec 1 := Scalar.andi v2343 v2340
  let v2345 : BitVec 32 := Scalar.addi v2339 v2338
  let v2346 : BitVec 32 := Scalar.select v2344 v2345 v2339
  let c1_i32_1992 : BitVec 32 := 1#32
  let v2347 : BitVec 32 := Scalar.muli v2346 c1_i32_1992
  let v2348 : BitVec 32 := Scalar.addi c0_i32_1993 v2347
  v2348.toNat
def k0_dev83 (d0 : Dev nD) : Nat :=
  let c0_i32_2007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1998 : BitVec 32 := 8#32
  let v2355 : BitVec 32 := Scalar.addi v2 c8_i32_1998
  let c16_i32_1999 : BitVec 32 := 16#32
  let c0_i32_2000 : BitVec 32 := 0#32
  let v2356 : BitVec 1 := Scalar.cmpi .eq c16_i32_1999 c0_i32_2000
  let c1_i32_2001 : BitVec 32 := 1#32
  let v2357 : BitVec 32 := Scalar.select v2356 c1_i32_2001 c16_i32_1999
  let v2358 : BitVec 32 := Scalar.remsi v2355 v2357
  let c0_i32_2003 : BitVec 32 := 0#32
  let v2360 : BitVec 1 := Scalar.cmpi .slt v2358 c0_i32_2003
  let c0_i32_2004 : BitVec 32 := 0#32
  let v2361 : BitVec 1 := Scalar.cmpi .slt v2357 c0_i32_2004
  let v2362 : BitVec 1 := Scalar.xori v2360 v2361
  let c0_i32_2002 : BitVec 32 := 0#32
  let v2359 : BitVec 1 := Scalar.cmpi .ne v2358 c0_i32_2002
  let v2363 : BitVec 1 := Scalar.andi v2362 v2359
  let v2364 : BitVec 32 := Scalar.addi v2358 v2357
  let v2365 : BitVec 32 := Scalar.select v2363 v2364 v2358
  let c1_i32_2006 : BitVec 32 := 1#32
  let v2366 : BitVec 32 := Scalar.muli v2365 c1_i32_2006
  let v2367 : BitVec 32 := Scalar.addi c0_i32_2007 v2366
  v2367.toNat
def k0_dev84 (d0 : Dev nD) : Nat :=
  let c0_i32_2021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2012 : BitVec 32 := 9#32
  let v2374 : BitVec 32 := Scalar.addi v2 c9_i32_2012
  let c16_i32_2013 : BitVec 32 := 16#32
  let c0_i32_2014 : BitVec 32 := 0#32
  let v2375 : BitVec 1 := Scalar.cmpi .eq c16_i32_2013 c0_i32_2014
  let c1_i32_2015 : BitVec 32 := 1#32
  let v2376 : BitVec 32 := Scalar.select v2375 c1_i32_2015 c16_i32_2013
  let v2377 : BitVec 32 := Scalar.remsi v2374 v2376
  let c0_i32_2017 : BitVec 32 := 0#32
  let v2379 : BitVec 1 := Scalar.cmpi .slt v2377 c0_i32_2017
  let c0_i32_2018 : BitVec 32 := 0#32
  let v2380 : BitVec 1 := Scalar.cmpi .slt v2376 c0_i32_2018
  let v2381 : BitVec 1 := Scalar.xori v2379 v2380
  let c0_i32_2016 : BitVec 32 := 0#32
  let v2378 : BitVec 1 := Scalar.cmpi .ne v2377 c0_i32_2016
  let v2382 : BitVec 1 := Scalar.andi v2381 v2378
  let v2383 : BitVec 32 := Scalar.addi v2377 v2376
  let v2384 : BitVec 32 := Scalar.select v2382 v2383 v2377
  let c1_i32_2020 : BitVec 32 := 1#32
  let v2385 : BitVec 32 := Scalar.muli v2384 c1_i32_2020
  let v2386 : BitVec 32 := Scalar.addi c0_i32_2021 v2385
  v2386.toNat
def k0_dev85 (d0 : Dev nD) : Nat :=
  let c0_i32_2035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2026 : BitVec 32 := 10#32
  let v2393 : BitVec 32 := Scalar.addi v2 c10_i32_2026
  let c16_i32_2027 : BitVec 32 := 16#32
  let c0_i32_2028 : BitVec 32 := 0#32
  let v2394 : BitVec 1 := Scalar.cmpi .eq c16_i32_2027 c0_i32_2028
  let c1_i32_2029 : BitVec 32 := 1#32
  let v2395 : BitVec 32 := Scalar.select v2394 c1_i32_2029 c16_i32_2027
  let v2396 : BitVec 32 := Scalar.remsi v2393 v2395
  let c0_i32_2031 : BitVec 32 := 0#32
  let v2398 : BitVec 1 := Scalar.cmpi .slt v2396 c0_i32_2031
  let c0_i32_2032 : BitVec 32 := 0#32
  let v2399 : BitVec 1 := Scalar.cmpi .slt v2395 c0_i32_2032
  let v2400 : BitVec 1 := Scalar.xori v2398 v2399
  let c0_i32_2030 : BitVec 32 := 0#32
  let v2397 : BitVec 1 := Scalar.cmpi .ne v2396 c0_i32_2030
  let v2401 : BitVec 1 := Scalar.andi v2400 v2397
  let v2402 : BitVec 32 := Scalar.addi v2396 v2395
  let v2403 : BitVec 32 := Scalar.select v2401 v2402 v2396
  let c1_i32_2034 : BitVec 32 := 1#32
  let v2404 : BitVec 32 := Scalar.muli v2403 c1_i32_2034
  let v2405 : BitVec 32 := Scalar.addi c0_i32_2035 v2404
  v2405.toNat
def k0_dev86 (d0 : Dev nD) : Nat :=
  let c0_i32_2049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2040 : BitVec 32 := 11#32
  let v2412 : BitVec 32 := Scalar.addi v2 c11_i32_2040
  let c16_i32_2041 : BitVec 32 := 16#32
  let c0_i32_2042 : BitVec 32 := 0#32
  let v2413 : BitVec 1 := Scalar.cmpi .eq c16_i32_2041 c0_i32_2042
  let c1_i32_2043 : BitVec 32 := 1#32
  let v2414 : BitVec 32 := Scalar.select v2413 c1_i32_2043 c16_i32_2041
  let v2415 : BitVec 32 := Scalar.remsi v2412 v2414
  let c0_i32_2045 : BitVec 32 := 0#32
  let v2417 : BitVec 1 := Scalar.cmpi .slt v2415 c0_i32_2045
  let c0_i32_2046 : BitVec 32 := 0#32
  let v2418 : BitVec 1 := Scalar.cmpi .slt v2414 c0_i32_2046
  let v2419 : BitVec 1 := Scalar.xori v2417 v2418
  let c0_i32_2044 : BitVec 32 := 0#32
  let v2416 : BitVec 1 := Scalar.cmpi .ne v2415 c0_i32_2044
  let v2420 : BitVec 1 := Scalar.andi v2419 v2416
  let v2421 : BitVec 32 := Scalar.addi v2415 v2414
  let v2422 : BitVec 32 := Scalar.select v2420 v2421 v2415
  let c1_i32_2048 : BitVec 32 := 1#32
  let v2423 : BitVec 32 := Scalar.muli v2422 c1_i32_2048
  let v2424 : BitVec 32 := Scalar.addi c0_i32_2049 v2423
  v2424.toNat
def k0_dev87 (d0 : Dev nD) : Nat :=
  let c0_i32_2063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2054 : BitVec 32 := 12#32
  let v2431 : BitVec 32 := Scalar.addi v2 c12_i32_2054
  let c16_i32_2055 : BitVec 32 := 16#32
  let c0_i32_2056 : BitVec 32 := 0#32
  let v2432 : BitVec 1 := Scalar.cmpi .eq c16_i32_2055 c0_i32_2056
  let c1_i32_2057 : BitVec 32 := 1#32
  let v2433 : BitVec 32 := Scalar.select v2432 c1_i32_2057 c16_i32_2055
  let v2434 : BitVec 32 := Scalar.remsi v2431 v2433
  let c0_i32_2059 : BitVec 32 := 0#32
  let v2436 : BitVec 1 := Scalar.cmpi .slt v2434 c0_i32_2059
  let c0_i32_2060 : BitVec 32 := 0#32
  let v2437 : BitVec 1 := Scalar.cmpi .slt v2433 c0_i32_2060
  let v2438 : BitVec 1 := Scalar.xori v2436 v2437
  let c0_i32_2058 : BitVec 32 := 0#32
  let v2435 : BitVec 1 := Scalar.cmpi .ne v2434 c0_i32_2058
  let v2439 : BitVec 1 := Scalar.andi v2438 v2435
  let v2440 : BitVec 32 := Scalar.addi v2434 v2433
  let v2441 : BitVec 32 := Scalar.select v2439 v2440 v2434
  let c1_i32_2062 : BitVec 32 := 1#32
  let v2442 : BitVec 32 := Scalar.muli v2441 c1_i32_2062
  let v2443 : BitVec 32 := Scalar.addi c0_i32_2063 v2442
  v2443.toNat
def k0_dev88 (d0 : Dev nD) : Nat :=
  let c0_i32_2077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2068 : BitVec 32 := 13#32
  let v2450 : BitVec 32 := Scalar.addi v2 c13_i32_2068
  let c16_i32_2069 : BitVec 32 := 16#32
  let c0_i32_2070 : BitVec 32 := 0#32
  let v2451 : BitVec 1 := Scalar.cmpi .eq c16_i32_2069 c0_i32_2070
  let c1_i32_2071 : BitVec 32 := 1#32
  let v2452 : BitVec 32 := Scalar.select v2451 c1_i32_2071 c16_i32_2069
  let v2453 : BitVec 32 := Scalar.remsi v2450 v2452
  let c0_i32_2073 : BitVec 32 := 0#32
  let v2455 : BitVec 1 := Scalar.cmpi .slt v2453 c0_i32_2073
  let c0_i32_2074 : BitVec 32 := 0#32
  let v2456 : BitVec 1 := Scalar.cmpi .slt v2452 c0_i32_2074
  let v2457 : BitVec 1 := Scalar.xori v2455 v2456
  let c0_i32_2072 : BitVec 32 := 0#32
  let v2454 : BitVec 1 := Scalar.cmpi .ne v2453 c0_i32_2072
  let v2458 : BitVec 1 := Scalar.andi v2457 v2454
  let v2459 : BitVec 32 := Scalar.addi v2453 v2452
  let v2460 : BitVec 32 := Scalar.select v2458 v2459 v2453
  let c1_i32_2076 : BitVec 32 := 1#32
  let v2461 : BitVec 32 := Scalar.muli v2460 c1_i32_2076
  let v2462 : BitVec 32 := Scalar.addi c0_i32_2077 v2461
  v2462.toNat
def k0_dev89 (d0 : Dev nD) : Nat :=
  let c0_i32_2091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2082 : BitVec 32 := 14#32
  let v2469 : BitVec 32 := Scalar.addi v2 c14_i32_2082
  let c16_i32_2083 : BitVec 32 := 16#32
  let c0_i32_2084 : BitVec 32 := 0#32
  let v2470 : BitVec 1 := Scalar.cmpi .eq c16_i32_2083 c0_i32_2084
  let c1_i32_2085 : BitVec 32 := 1#32
  let v2471 : BitVec 32 := Scalar.select v2470 c1_i32_2085 c16_i32_2083
  let v2472 : BitVec 32 := Scalar.remsi v2469 v2471
  let c0_i32_2087 : BitVec 32 := 0#32
  let v2474 : BitVec 1 := Scalar.cmpi .slt v2472 c0_i32_2087
  let c0_i32_2088 : BitVec 32 := 0#32
  let v2475 : BitVec 1 := Scalar.cmpi .slt v2471 c0_i32_2088
  let v2476 : BitVec 1 := Scalar.xori v2474 v2475
  let c0_i32_2086 : BitVec 32 := 0#32
  let v2473 : BitVec 1 := Scalar.cmpi .ne v2472 c0_i32_2086
  let v2477 : BitVec 1 := Scalar.andi v2476 v2473
  let v2478 : BitVec 32 := Scalar.addi v2472 v2471
  let v2479 : BitVec 32 := Scalar.select v2477 v2478 v2472
  let c1_i32_2090 : BitVec 32 := 1#32
  let v2480 : BitVec 32 := Scalar.muli v2479 c1_i32_2090
  let v2481 : BitVec 32 := Scalar.addi c0_i32_2091 v2480
  v2481.toNat
def k0_dev90 (d0 : Dev nD) : Nat :=
  let c0_i32_2105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2096 : BitVec 32 := 15#32
  let v2488 : BitVec 32 := Scalar.addi v2 c15_i32_2096
  let c16_i32_2097 : BitVec 32 := 16#32
  let c0_i32_2098 : BitVec 32 := 0#32
  let v2489 : BitVec 1 := Scalar.cmpi .eq c16_i32_2097 c0_i32_2098
  let c1_i32_2099 : BitVec 32 := 1#32
  let v2490 : BitVec 32 := Scalar.select v2489 c1_i32_2099 c16_i32_2097
  let v2491 : BitVec 32 := Scalar.remsi v2488 v2490
  let c0_i32_2101 : BitVec 32 := 0#32
  let v2493 : BitVec 1 := Scalar.cmpi .slt v2491 c0_i32_2101
  let c0_i32_2102 : BitVec 32 := 0#32
  let v2494 : BitVec 1 := Scalar.cmpi .slt v2490 c0_i32_2102
  let v2495 : BitVec 1 := Scalar.xori v2493 v2494
  let c0_i32_2100 : BitVec 32 := 0#32
  let v2492 : BitVec 1 := Scalar.cmpi .ne v2491 c0_i32_2100
  let v2496 : BitVec 1 := Scalar.andi v2495 v2492
  let v2497 : BitVec 32 := Scalar.addi v2491 v2490
  let v2498 : BitVec 32 := Scalar.select v2496 v2497 v2491
  let c1_i32_2104 : BitVec 32 := 1#32
  let v2499 : BitVec 32 := Scalar.muli v2498 c1_i32_2104
  let v2500 : BitVec 32 := Scalar.addi c0_i32_2105 v2499
  v2500.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x512 : Shape := ⟨2, ![64, 512]⟩
abbrev S512x16384 : Shape := ⟨2, ![512, 16384]⟩
abbrev S16384x512 : Shape := ⟨2, ![16384, 512]⟩
abbrev S64x16384 : Shape := ⟨2, ![64, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x16384, .f32⟩
  | .hbm, ⟨2, _⟩ => ⟨S512x16384, .f32⟩
  | .hbm, ⟨3, _⟩ => ⟨S512x16384, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S64x16384, .f32⟩
  | .hbm, ⟨8, _⟩ => ⟨S_, .f32⟩
  | .hbm, ⟨9, _⟩ => ⟨S64x16384, .f32⟩
  | .hbm, ⟨10, _⟩ => ⟨S64x16384, .f32⟩
  | .hbm, ⟨11, _⟩ => ⟨S64x512, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x512, .f32⟩
  | .hbm, ⟨17, _⟩ => ⟨S64x16384, .f32⟩
  | .hbm, ⟨18, _⟩ => ⟨S_, .f32⟩
  | .hbm, ⟨19, _⟩ => ⟨S64x16384, .f32⟩
  | .hbm, ⟨20, _⟩ => ⟨S64x16384, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Pieces.lean ====
/-
# A memref held piece by piece

A buffer whose leading axis counts equal blocks is used by the kernel in two ways: whole, by a vector load or store,
and block by block, by the copies (each names one block, squeezed) and by loads and stores of one block. This module
states, for any such family of blocks of any memref, that owning the memref is owning its blocks, and the load and the
store of one block against the ownership of that block alone.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.MemrefSat

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the staging pipeline's rounds and the protocol's rounds (fifteen duty names). -/
abbrev UB : Type := URounds (GSem nD τ sig) (Fin 15)
abbrev UU : Type := UR sig nD τ × UB

local notation "𝕄" => MT nD τ sig Unit (Elt F) ℕ UU ℕ

abbrev 𝒱₀ : Variants := Variants.none

section Pieces

variable {s t : Shape} {n : ℕ} (off : Fin n → Fin s.rank → ℕ) (size : Fin s.rank → ℕ)
variable (inb : ∀ b a, off b a + size a ≤ s.size a) (h : Shape.Squeezes ⟨s.rank, size⟩ t)

/-- The rectangle of block `b`. -/
abbrev pieceR (b : Fin n) : Rect s := Rect.unit (off b) size (inb b)

/-- Block `b` of a memref, squeezed to the block's own shape. -/
abbrev pieceM {κ : Kind} {sp : Space} {e : EltTy} (M : Memref sig κ sp s e) (b : Fin n) : Memref sig κ sp t e :=
  (M.slice (pieceR off size inb b) (fun _ => rfl)).squeeze t h

/-- Block `b` of contents. -/
def pieceV {α : Type} (Y : s.Idx → α) (b : Fin n) : t.Idx → α :=
  fun j => Y ((pieceR off size inb b).emb (Shape.reshapeEquiv h.numel_eq j))

/-- Contents of the block's own shape as contents of the unsqueezed rectangle, -/
def unsq {α : Type} (X : t.Idx → α) : Shape.Idx ⟨s.rank, size⟩ → α := fun j => X ((Shape.reshapeEquiv h.numel_eq).symm j)
/-- and back. -/
def resq {α : Type} (w : Shape.Idx ⟨s.rank, size⟩ → α) : t.Idx → α := fun j => w (Shape.reshapeEquiv h.numel_eq j)

variable (c : Dev nD) {sp : Space} {e : EltTy} (M : Memref sig .tc sp s e) (q : PosShare TreeShare)

omit [FloatOps F] in
theorem read_piece (b : Fin n) (f : M.view.ty.Contents (Elt F)) :
    (pieceM off size inb h M b).view.read (Elt F) f = pieceV off size inb h (M.view.read (Elt F) f) b := rfl

theorem set_piece (b : Fin n) : (pieceM off size inb h M b).view.set = (pieceR off size inb b).set.map M.view.emb := by
  show ((M.view.slice _).reshape t _).set = _
  rw [View.set_reshape, View.set_slice]

variable (hd : ∀ b b', b ≠ b' → Disjoint (pieceR off size inb b).set (pieceR off size inb b').set)
variable (hc : Finset.univ.biUnion (fun b => (pieceR off size inb b).set) = Finset.univ)

include hd in
theorem piece_disjoint (b b' : Fin n) (hb : b ≠ b') :
    Disjoint (pieceM off size inb h M b).view.set (pieceM off size inb h M b').view.set := by
  rw [set_piece, set_piece]
  exact (Finset.disjoint_map _).mpr (hd b b' hb)

include hc in
theorem piece_cover : Finset.univ.biUnion (fun b => (pieceM off size inb h M b).view.set) = M.view.set := by
  ext i
  constructor
  · intro hi
    obtain ⟨b, -, hi⟩ := Finset.mem_biUnion.mp hi
    obtain ⟨x, -, rfl⟩ := Finset.mem_map.mp ((Finset.ext_iff.mp (set_piece off size inb h M b) i).mp hi)
    exact View.emb_mem_set _ _
  · intro hi
    obtain ⟨x, -, rfl⟩ := Finset.mem_map.mp hi
    obtain ⟨b, -, hb⟩ := Finset.mem_biUnion.mp (hc ▸ Finset.mem_univ x)
    exact Finset.mem_biUnion.mpr ⟨b, Finset.mem_univ b,
      (Finset.ext_iff.mp (set_piece off size inb h M b) _).mpr (Finset.mem_map.mpr ⟨x, hb, rfl⟩)⟩

omit [FloatOps F] in
include hd hc in
/-- Owning a memref is owning its blocks, each at its block of the contents; -/
theorem owns_split (Y : s.Idx → Elt F e) :
    (owns (c : Thread nD τ) M q Y : sProp 𝕄)
      ⊢ bigSep Finset.univ fun b => owns (c : Thread nD τ) (pieceM off size inb h M b) q (pieceV off size inb h Y b) := by
  conv_lhs => unfold owns
  iintro ⟨%f, %hf, H⟩
  subst hf
  ihave H' := (Entails.of_eq (Ring.pointsTo_sub_blocks (fun b => (pieceM off size inb h M b).view.set)
    (piece_disjoint off size inb h M hd) M.view.set (piece_cover off size inb h M hc) f)) $$ H
  iapply (show (bigSep Finset.univ fun b => (M.view.loc (c : Thread nD τ) ↦[(pieceM off size inb h M b).view.set]{q} f : sProp 𝕄))
      ⊢ bigSep Finset.univ fun b => owns (c : Thread nD τ) (pieceM off size inb h M b) q (pieceV off size inb h (M.view.read (Elt F) f) b) from
    bigSep_mono fun b _ => owns_intro (c : Thread nD τ) (pieceM off size inb h M b) q f)
  iexact H'

omit [FloatOps F] in
include hd hc in
/-- and the blocks, each at its block of `Y`, are the memref at `Y`. -/
theorem owns_join [∀ e, Nonempty (Elt F e)] (Y : s.Idx → Elt F e) :
    (bigSep Finset.univ fun b => owns (c : Thread nD τ) (pieceM off size inb h M b) q (pieceV off size inb h Y b))
      ⊢ (owns (c : Thread nD τ) M q Y : sProp 𝕄) := by
  unfold owns
  refine (bigSep_exists_pi Finset.univ (fun b (f : Buf (Elt F) (M.view.loc (c : Thread nD τ))) =>
    (iprop(⌜(pieceM off size inb h M b).view.read (Elt F) f = pieceV off size inb h Y b⌝
      ∗ (M.view.loc (c : Thread nD τ) ↦[(pieceM off size inb h M b).view.set]{q} f)) : sProp 𝕄))).trans ?_
  iintro ⟨%fs, H⟩
  ihave H := (bigSep_pure_sep Finset.univ
    (fun b => (pieceM off size inb h M b).view.read (Elt F) (fs b) = pieceV off size inb h Y b)
    (fun b => (M.view.loc (c : Thread nD τ) ↦[(pieceM off size inb h M b).view.set]{q} (fs b)))) $$ H
  icases H with ⟨%hp, H⟩
  ihave H' := (pointsTo_biUnion_join Finset.univ (fun b => (pieceM off size inb h M b).view.set) fs (fun _ => Classical.arbitrary _)
    (fun b _ b' _ hb => piece_disjoint off size inb h M hd b b' hb)) $$ H
  icases H' with ⟨%g, %hg, H⟩
  iexists g
  isplitr
  · ipureintro
    funext x
    obtain ⟨b, -, hb⟩ := Finset.mem_biUnion.mp (hc ▸ Finset.mem_univ x)
    obtain ⟨y, rfl⟩ := (pieceR off size inb b).exists_idx_of_mem hb
    obtain ⟨j, rfl⟩ := (Shape.reshapeEquiv h.numel_eq).surjective y
    have h1 : (pieceM off size inb h M b).view.read (Elt F) g = (pieceM off size inb h M b).view.read (Elt F) (fs b) :=
      View.read_congr fun i hi => hg b (Finset.mem_univ b) i hi
    have h2 := congrFun (h1.trans (hp b (Finset.mem_univ b))) j
    exact h2
  · rw [← piece_cover off size inb h M hc]; iexact H

include hd hc in
/-- For any family of block contents there are contents of the whole with those blocks. -/
theorem glue_exists {α : Type} (Xs : Fin n → t.Idx → α) : ∃ Y : s.Idx → α, ∀ b, Xs b = pieceV off size inb h Y b := by
  have hch : ∀ x : s.Idx, ∃ b : Fin n, ∃ j : t.Idx, (pieceR off size inb b).emb (Shape.reshapeEquiv h.numel_eq j) = x := fun x => by
    obtain ⟨b, -, hb⟩ := Finset.mem_biUnion.mp (hc ▸ Finset.mem_univ x)
    obtain ⟨y, rfl⟩ := (pieceR off size inb b).exists_idx_of_mem hb
    obtain ⟨j, rfl⟩ := (Shape.reshapeEquiv h.numel_eq).surjective y
    exact ⟨b, j, rfl⟩
  choose B J hBJ using hch
  refine ⟨fun x => Xs (B x) (J x), fun b => funext fun j => ?_⟩
  have hx := hBJ ((pieceR off size inb b).emb (Shape.reshapeEquiv h.numel_eq j))
  have hb : B ((pieceR off size inb b).emb (Shape.reshapeEquiv h.numel_eq j)) = b := by
    by_contra hne
    have hA := (pieceR off size inb (B ((pieceR off size inb b).emb (Shape.reshapeEquiv h.numel_eq j)))).idx_mem
      (Shape.reshapeEquiv h.numel_eq (J ((pieceR off size inb b).emb (Shape.reshapeEquiv h.numel_eq j))))
    have hB := (pieceR off size inb b).idx_mem (Shape.reshapeEquiv h.numel_eq j)
    refine Finset.disjoint_left.mp (hd _ _ hne) hA ?_
    have he : LoadRect.idx _ _ = LoadRect.idx _ _ := hx
    rw [he]; exact hB
  have key : ∀ b0 j0, b0 = b → (pieceR off size inb b0).emb (Shape.reshapeEquiv h.numel_eq j0)
      = (pieceR off size inb b).emb (Shape.reshapeEquiv h.numel_eq j) → Xs b j = Xs b0 j0 := by
    rintro _ j0 rfl he
    rw [(Shape.reshapeEquiv h.numel_eq).injective ((pieceR off size inb _).emb.injective he)]
  exact key _ _ hb hx

/-- Contents of the whole put together from the contents of its blocks. -/
def glue {α : Type} (Xs : Fin n → t.Idx → α) : s.Idx → α := (glue_exists off size inb h hd hc Xs).choose

/-- Its blocks are those it was put together from. -/
theorem glue_piece {α : Type} (Xs : Fin n → t.Idx → α) (b : Fin n) : pieceV off size inb h (glue off size inb h hd hc Xs) b = Xs b :=
  ((glue_exists off size inb h hd hc Xs).choose_spec b).symm

/-- A contents is put together from its blocks. -/
theorem glue_self {α : Type} (Y : s.Idx → α) : glue off size inb h hd hc (pieceV off size inb h Y) = Y := by
  funext x
  obtain ⟨b, -, hb⟩ := Finset.mem_biUnion.mp (hc ▸ Finset.mem_univ x)
  obtain ⟨y, rfl⟩ := (pieceR off size inb b).exists_idx_of_mem hb
  obtain ⟨j, rfl⟩ := (Shape.reshapeEquiv h.numel_eq).surjective y
  exact congrFun (glue_piece off size inb h hd hc (pieceV off size inb h Y) b) j

omit hd hc in
theorem unsq_resq {α : Type} (w : Shape.Idx ⟨s.rank, size⟩ → α) : unsq size h (resq size h w) = w :=
  funext fun j => congrArg w ((Shape.reshapeEquiv h.numel_eq).apply_symm_apply j)

omit [FloatOps F] in
include hd hc in
/-- Blocks at contents of their own are the memref at some contents. -/
theorem owns_join_any [∀ e, Nonempty (Elt F e)] :
    (bigSep Finset.univ fun b => iprop(∃ X, owns (c : Thread nD τ) (pieceM off size inb h M b) q X))
      ⊢ (iprop(∃ Y, owns (c : Thread nD τ) M q Y) : sProp 𝕄) := by
  refine (bigSep_exists_pi Finset.univ (fun b X => (owns (c : Thread nD τ) (pieceM off size inb h M b) q X : sProp 𝕄))).trans ?_
  iintro ⟨%Xs, H⟩
  obtain ⟨Y, hY⟩ := glue_exists off size inb h hd hc Xs
  iexists Y
  iapply (owns_join off size inb h c M q hd hc Y)
  simp only [hY]
  iexact H

end Pieces

section Steps

variable (c : Dev nD)

/-- The weakest precondition of a program on device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A load through a memref that is owned reads its contents under the load's rectangle. -/
theorem load_owns {α : Type} {Q : α → sProp 𝕄} {sp : CoreSpace} {s : Shape} {e : EltTy} (M : Memref sig .tc sp s e) {q : PosShare TreeShare} {X : s.Idx → Elt F e}
    {r : LoadRect s} {hl : M.view.LoadsAt r} {k : (r.shape.Idx → Elt F e) → Prog (TpuEff nD τ sig (Elt F) Λ₀ .tc) α} :
    (owns (c : Thread nD τ) M q X : sProp 𝕄)
      ⊢ iprop((owns (c : Thread nD τ) M q X -∗ WP c (k fun x => X (r.idx x)) Q) -∗ WP c (Prog.lift (.load M r hl) >>= k) Q) := by
  unfold owns
  iintro ⟨%f, %hf, H⟩ Hk
  subst hf
  iapply (wp_load 𝒱₀ (c : Thread nD τ) none Set.univ (m := M) (View.setOn_subset_set _ _)) $$ H
  iintro H
  iapply Hk
  iexists f
  isplitr; · ipureintro; rfl
  iexact H

/-- A load of the whole of a memref that is owned reads its contents. -/
theorem load_whole {α : Type} {Q : α → sProp 𝕄} {sp : CoreSpace} {s : Shape} {e : EltTy} (M : Memref sig .tc sp s e) {q : PosShare TreeShare} {X : s.Idx → Elt F e}
    {off : Fin s.rank → ℕ} (hz : off = fun _ => 0) {inb : ∀ a, off a + s.size a ≤ s.size a} {hl : M.view.LoadsAt (Rect.unit off s.size inb).toLoadRect}
    {k : (s.Idx → Elt F e) → Prog (TpuEff nD τ sig (Elt F) Λ₀ .tc) α} :
    (owns (c : Thread nD τ) M q X : sProp 𝕄)
      ⊢ iprop((owns (c : Thread nD τ) M q X -∗ WP c (k X) Q) -∗ WP c (Prog.lift (.load M (Rect.unit off s.size inb).toLoadRect hl) >>= k) Q) := by
  subst hz
  have hX : (fun x => X ((Rect.unit (fun _ => 0) s.size inb).toLoadRect.idx x)) = X := funext fun x => congrArg X (funext fun a => Fin.ext (by
    show 0 + 1 * (x a).val = (x a).val
    omega))
  have h := load_owns (Q := Q) c M (q := q) (X := X) (r := (Rect.unit (fun _ => 0) s.size inb).toLoadRect) (hl := hl) (k := k)
  rw [hX] at h
  exact h

/-- A store of the whole of a memref that is owned leaves the stored value. -/
theorem store_whole {α : Type} {Q : α → sProp 𝕄} {sp : CoreSpace} {s : Shape} {e : EltTy} (M : Memref sig .tc sp s e) {X : s.Idx → Elt F e}
    {off : Fin s.rank → ℕ} (hz : off = fun _ => 0) {inb : ∀ a, off a + s.size a ≤ s.size a} {w : s.Idx → Elt F e}
    {hs : (M.access (Rect.unit off s.size inb)).Stores Finset.univ} {hm}
    {k : PUnit → Prog (TpuEff nD τ sig (Elt F) Λ₀ .tc) α} :
    (owns (c : Thread nD τ) M fullShare X : sProp 𝕄)
      ⊢ iprop((owns (c : Thread nD τ) M fullShare w -∗ WP c (k ⟨⟩) Q) -∗ WP c (Prog.lift (.store M (Rect.unit off s.size inb) w Finset.univ hs hm) >>= k) Q) := by
  subst hz
  unfold owns
  iintro ⟨%f, -, H⟩ Hk
  iapply (wp_store 𝒱₀ (c : Thread nD τ) none Set.univ (m := M) (r := Rect.unit (fun _ => 0) s.size inb)
    (S := M.view.set) (View.set_slice_subset M.view (Rect.unit (fun _ => 0) s.size inb))) $$ H
  iintro H
  iapply Hk
  iexists _
  isplitr
  · ipureintro
    funext x
    have hx : (Rect.unit (fun _ => 0) s.size inb).emb x = x := funext fun a => Fin.ext (by
      show 0 + 1 * (x a).val = (x a).val
      omega)
    have := congrFun (View.read_write_univ (v := M.access (Rect.unit (fun _ => 0) s.size inb)) f w) x
    rw [← this]
    show M.view.read (Elt F) _ x = M.view.read (Elt F) _ ((Rect.unit (fun _ => 0) s.size inb).emb x)
    rw [hx]
  · iexact H

section Piece

variable {s t : Shape} {n : ℕ} (off : Fin n → Fin s.rank → ℕ) (size : Fin s.rank → ℕ)
variable (inb : ∀ b a, off b a + size a ≤ s.size a) (h : Shape.Squeezes ⟨s.rank, size⟩ t)

/-- A load of one block of a memref, the block owned: its contents, unsqueezed. The offset is as the program computes it. -/
theorem load_piece {α : Type} {Q : α → sProp 𝕄} {sp : CoreSpace} {e : EltTy} (M : Memref sig .tc sp s e) (b : Fin n) {q : PosShare TreeShare} {X : t.Idx → Elt F e}
    {off' : Fin s.rank → ℕ} (ho : off' = off b) {inb' : ∀ a, off' a + size a ≤ s.size a} {hl : M.view.LoadsAt (Rect.unit off' size inb').toLoadRect}
    {k : (Shape.Idx ⟨s.rank, size⟩ → Elt F e) → Prog (TpuEff nD τ sig (Elt F) Λ₀ .tc) α} :
    (owns (c : Thread nD τ) (pieceM off size inb h M b) q X : sProp 𝕄)
      ⊢ iprop((owns (c : Thread nD τ) (pieceM off size inb h M b) q X -∗ WP c (k (unsq size h X)) Q)
          -∗ WP c (Prog.lift (.load M (Rect.unit off' size inb').toLoadRect hl) >>= k) Q) := by
  subst ho
  unfold owns
  iintro ⟨%f, %hf, H⟩ Hk
  subst hf
  have hv : M.view.readAt (Elt F) (Rect.unit (off b) size inb').toLoadRect f = unsq size h ((pieceM off size inb h M b).view.read (Elt F) f) :=
    funext fun j => by
      show (M.access (pieceR off size inb b)).read (Elt F) f j
        = (M.access (pieceR off size inb b)).read (Elt F) f (Shape.reshapeEquiv h.numel_eq ((Shape.reshapeEquiv h.numel_eq).symm j))
      rw [Equiv.apply_symm_apply]
  iapply (wp_load 𝒱₀ (c : Thread nD τ) none Set.univ (m := M) (r := (Rect.unit (off b) size inb').toLoadRect)
    (S := (pieceM off size inb h M b).view.set) (by rw [set_piece]; exact Finset.Subset.refl _)) $$ H
  iintro H
  rw [hv]
  iapply Hk
  iexists f
  isplitr; · ipureintro; rfl
  iexact H

/-- A store of one block of a memref, the block owned. -/
theorem store_piece {α : Type} {Q : α → sProp 𝕄} {sp : CoreSpace} {e : EltTy} (M : Memref sig .tc sp s e) (b : Fin n) {X : t.Idx → Elt F e}
    {off' : Fin s.rank → ℕ} (ho : off' = off b) {inb' : ∀ a, off' a + size a ≤ s.size a} {w : Shape.Idx ⟨s.rank, size⟩ → Elt F e}
    {hs : (M.access (Rect.unit off' size inb')).Stores Finset.univ} {hm}
    {k : PUnit → Prog (TpuEff nD τ sig (Elt F) Λ₀ .tc) α} :
    (owns (c : Thread nD τ) (pieceM off size inb h M b) fullShare X : sProp 𝕄)
      ⊢ iprop((owns (c : Thread nD τ) (pieceM off size inb h M b) fullShare (resq size h w) -∗ WP c (k ⟨⟩) Q)
          -∗ WP c (Prog.lift (.store M (Rect.unit off' size inb') w Finset.univ hs hm) >>= k) Q) := by
  subst ho
  unfold owns
  iintro ⟨%f, -, H⟩ Hk
  iapply (wp_store 𝒱₀ (c : Thread nD τ) none Set.univ (m := M) (r := Rect.unit (off b) size inb')
    (S := (pieceM off size inb h M b).view.set) (by rw [set_piece]; exact (View.set_slice (v := M.view) (pieceR off size inb b)).subset)) $$ H
  iintro H
  iapply Hk
  iexists _
  isplitr
  · ipureintro
    funext j
    exact congrFun (View.read_write_univ (v := M.access (Rect.unit (off b) size inb')) f w) (Shape.reshapeEquiv h.numel_eq j)
  · iexact H

end Piece

end Steps

end Cert.MlpProof

end
-- ==== Proof.Schedule.lean ====
/-
# The protocol: who signals, copies and waits, and what each wait hands over

Sixteen devices run three layers. Every device holds its block of the weights. In a layer it computes a partial sum of
the whole product, cut in sixteen row blocks, and five exchanges move blocks between the devices: exchanges 0, 2 and 4
send block `e` of the partial sum to device `e` (into its landing buffer, at the sender's place), exchanges 1 and 3 send
the sum device `c` has formed to every other device (again at the sender's place). Exchange `p` completes on receive
semaphore `p` of the receiver and on the one send semaphore of the sender.

* Barrier semaphore of `c`: each other device signals it one unit at the start; `c` waits for fifteen units before its
  first exchange. A signal hands over the place kept for `c` in all five of the signaller's landing buffers.
* Receive semaphore `p` of `c`: the fifteen copies of exchange `p` aimed at `c`; each hands over its place in `c`'s
  landing buffer, holding the block sent.
* Send semaphore of `c`: round `p` is the fifteen copies of exchange `p` that `c` starts; each hands back its source.
* Load semaphores of `c`: one local copy each, of a weight block into its place in vector memory.
-/
module

public import proofs.«01_k».proof.Proof.Pieces
public import Idealize.ShloMosaic.Lib.Transfers
public import Idealize.ShloMosaic.Lib.Rounds

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Distances -/

/-- The device `j + 1` places after `c`. -/
def tgt (c : Dev nD) (j : Fin 15) : Dev nD := ⟨(c.val + (j.val + 1)) % 16, Nat.mod_lt _ (by decide)⟩
/-- The device `j + 1` places before `c`. -/
def src (c : Dev nD) (j : Fin 15) : Dev nD := ⟨(c.val + (15 - j.val)) % 16, Nat.mod_lt _ (by decide)⟩

theorem tgt_src (c : Dev nD) (j : Fin 15) : tgt (src c j) j = c := by revert c j; decide +kernel
theorem src_tgt (c : Dev nD) (j : Fin 15) : src (tgt c j) j = c := by revert c j; decide +kernel
theorem tgt_rev (c : Dev nD) (j : Fin 15) : tgt (tgt c j) j.rev = c := by revert c j; decide +kernel
theorem tgt_ne (c : Dev nD) (j : Fin 15) : tgt c j ≠ c := by revert c j; decide +kernel
theorem src_ne (c : Dev nD) (j : Fin 15) : src c j ≠ c := by revert c j; decide +kernel
theorem tgt_inj (c : Dev nD) : Function.Injective (tgt c) := by revert c; decide +kernel
theorem src_inj (c : Dev nD) : Function.Injective (src c) := by revert c; decide +kernel
theorem univ_tgt (c : Dev nD) : (Finset.univ : Finset (Dev nD)) = insert c (Finset.univ.image (tgt c)) := by revert c; decide +kernel
theorem univ_src (c : Dev nD) : (Finset.univ : Finset (Dev nD)) = insert c (Finset.univ.image (src c)) := by revert c; decide +kernel

/-- Going `j + 1` places on is a permutation of the devices. -/
def rot (j : Fin 15) : Dev nD ≃ Dev nD := ⟨fun c => tgt c j, fun c => src c j, fun c => src_tgt c j, fun c => tgt_src c j⟩

/-! ## The buffers, and their blocks -/

/-- Offsets of the sixteen blocks of an exchange buffer, -/
abbrev offS (d : Fin 16) : Fin S16x4x512.rank → ℕ := ![d.val, 0, 0]
theorem inbS (d : Fin 16) : ∀ a, offS d a + S1x4x512.size a ≤ S16x4x512.size a := by revert d; decide
/-- of the three layers' blocks of the first weights, -/
abbrev offI (l : Fin 3) : Fin S3x512x1024.rank → ℕ := ![l.val, 0, 0]
theorem inbI (l : Fin 3) : ∀ a, offI l a + S1x512x1024.size a ≤ S3x512x1024.size a := by revert l; decide
/-- and of the second weights. -/
abbrev offO (l : Fin 3) : Fin S3x1024x512.rank → ℕ := ![l.val, 0, 0]
theorem inbO (l : Fin 3) : ∀ a, offO l a + S1x1024x512.size a ≤ S3x1024x512.size a := by revert l; decide

abbrev slot {sp : Space} {e : EltTy} (M : Memref sig .tc sp S16x4x512 e) (d : Fin 16) : Memref sig .tc sp S4x512 e :=
  pieceM offS S1x4x512.size inbS squeezes_S1x4x512_S4x512 M d
abbrev slotV {α : Type} (Y : S16x4x512.Idx → α) (d : Fin 16) : S4x512.Idx → α :=
  pieceV offS S1x4x512.size inbS squeezes_S1x4x512_S4x512 Y d
abbrev unS {α : Type} (X : S4x512.Idx → α) : S1x4x512.Idx → α := unsq (s := S16x4x512) S1x4x512.size squeezes_S1x4x512_S4x512 X
abbrev reS {α : Type} (X : S1x4x512.Idx → α) : S4x512.Idx → α := resq (s := S16x4x512) S1x4x512.size squeezes_S1x4x512_S4x512 X

abbrev layI {sp : Space} {e : EltTy} (M : Memref sig .tc sp S3x512x1024 e) (l : Fin 3) : Memref sig .tc sp S512x1024 e :=
  pieceM offI S1x512x1024.size inbI squeezes_S1x512x1024_S512x1024 M l
abbrev unI {α : Type} (X : S512x1024.Idx → α) : S1x512x1024.Idx → α := unsq (s := S3x512x1024) S1x512x1024.size squeezes_S1x512x1024_S512x1024 X
abbrev reI {α : Type} (X : S1x512x1024.Idx → α) : S512x1024.Idx → α := resq (s := S3x512x1024) S1x512x1024.size squeezes_S1x512x1024_S512x1024 X
abbrev layO {sp : Space} {e : EltTy} (M : Memref sig .tc sp S3x1024x512 e) (l : Fin 3) : Memref sig .tc sp S1024x512 e :=
  pieceM offO S1x1024x512.size inbO squeezes_S1x1024x512_S1024x512 M l
abbrev unO {α : Type} (X : S1024x512.Idx → α) : S1x1024x512.Idx → α := unsq (s := S3x1024x512) S1x1024x512.size squeezes_S1x1024x512_S1024x512 X
abbrev reO {α : Type} (X : S1x1024x512.Idx → α) : S1024x512.Idx → α := resq (s := S3x1024x512) S1x1024x512.size squeezes_S1x1024x512_S1024x512 X

theorem disjS (b b' : Fin 16) (hb : b ≠ b') : Disjoint (pieceR offS S1x4x512.size inbS b).set (pieceR offS S1x4x512.size inbS b').set :=
  Ring.lead_disjoint (0 : Fin 3) 1 offS S1x4x512.size inbS (fun b => (Nat.one_mul _).symm) rfl b b' hb
theorem covS : Finset.univ.biUnion (fun b => (pieceR offS S1x4x512.size inbS b).set) = Finset.univ :=
  Ring.lead_cover (0 : Fin 3) 1 offS S1x4x512.size inbS (fun b => (Nat.one_mul _).symm) (by decide) rfl (by decide) rfl
theorem disjI (b b' : Fin 3) (hb : b ≠ b') : Disjoint (pieceR offI S1x512x1024.size inbI b).set (pieceR offI S1x512x1024.size inbI b').set :=
  Ring.lead_disjoint (0 : Fin 3) 1 offI S1x512x1024.size inbI (fun b => (Nat.one_mul _).symm) rfl b b' hb
theorem covI : Finset.univ.biUnion (fun b => (pieceR offI S1x512x1024.size inbI b).set) = Finset.univ :=
  Ring.lead_cover (0 : Fin 3) 1 offI S1x512x1024.size inbI (fun b => (Nat.one_mul _).symm) (by decide) rfl (by decide) rfl
theorem disjO (b b' : Fin 3) (hb : b ≠ b') : Disjoint (pieceR offO S1x1024x512.size inbO b).set (pieceR offO S1x1024x512.size inbO b').set :=
  Ring.lead_disjoint (0 : Fin 3) 1 offO S1x1024x512.size inbO (fun b => (Nat.one_mul _).symm) rfl b b' hb
theorem covO : Finset.univ.biUnion (fun b => (pieceR offO S1x1024x512.size inbO b).set) = Finset.univ :=
  Ring.lead_cover (0 : Fin 3) 1 offO S1x1024x512.size inbO (fun b => (Nat.one_mul _).symm) (by decide) rfl (by decide) rfl

/-- An exchange buffer put together from sixteen blocks. -/
abbrev stack {α : Type} (Xs : Fin 16 → S4x512.Idx → α) : S16x4x512.Idx → α :=
  glue offS S1x4x512.size inbS squeezes_S1x4x512_S4x512 disjS covS Xs
theorem slotV_stack {α : Type} (Xs : Fin 16 → S4x512.Idx → α) (d : Fin 16) : slotV (stack Xs) d = Xs d :=
  glue_piece offS S1x4x512.size inbS squeezes_S1x4x512_S4x512 disjS covS Xs d

abbrev wfI : Memref sig .tc .vmem S3x512x1024 .f32 := Memref.whole cc0_scratch0
abbrev wfO : Memref sig .tc .vmem S3x1024x512 .f32 := Memref.whole cc0_scratch1
abbrev wbI : Memref sig .tc .vmem S3x512x1024 .bf16 := Memref.whole cc0_scratch2
abbrev wbO : Memref sig .tc .vmem S3x1024x512 .bf16 := Memref.whole cc0_scratch3
abbrev sndM : Memref sig .tc .vmem S16x4x512 .bf16 := Memref.whole cc0_scratch4
/-- The landing buffer of exchange `p`. -/
abbrev bufM : Fin 5 → Memref sig .tc .vmem S16x4x512 .bf16
  | 0 => Memref.whole cc0_scratch5
  | 1 => Memref.whole cc0_scratch6
  | 2 => Memref.whole cc0_scratch7
  | 3 => Memref.whole cc0_scratch8
  | 4 => Memref.whole cc0_scratch9
/-- The weights in main memory, by layer. -/
abbrev argI : Fin 3 → Memref sig .tc .hbm S512x1024 .f32
  | 0 => Memref.whole main_arg1
  | 1 => Memref.whole main_arg2
  | 2 => Memref.whole main_arg3
abbrev argO : Fin 3 → Memref sig .tc .hbm S1024x512 .f32
  | 0 => Memref.whole main_arg4
  | 1 => Memref.whole main_arg5
  | 2 => Memref.whole main_arg6

/-- What one block's copy credits, -/
def N : ℕ := (slot sndM 0).view.dmaCredit
theorem N_pos : 0 < N := View.dmaCredit_pos _ (by decide)
theorem credit_buf (p : Fin 5) (d : Fin 16) : (slot (bufM p) d).view.dmaCredit = N := by
  match p with | 0 => rfl | 1 => rfl | 2 => rfl | 3 => rfl | 4 => rfl
theorem credit_snd (d : Fin 16) : (slot sndM d).view.dmaCredit = N := rfl
/-- and one weight block's. -/
def NI : ℕ := (layI wfI 0).view.dmaCredit
theorem NI_pos : 0 < NI := View.dmaCredit_pos _ (by decide)
def NO : ℕ := (layO wfO 0).view.dmaCredit
theorem NO_pos : 0 < NO := View.dmaCredit_pos _ (by decide)

/-! ## The semaphores -/

/-- The kinds of semaphore of the protocol. -/
inductive KK where
  | bar
  | send
  | recv (p : Fin 5)
  | lin (l : Fin 3)
  | lout (l : Fin 3)
  deriving DecidableEq

instance : Fintype KK where
  elems := {KK.bar, KK.send} ∪ Finset.univ.image KK.recv ∪ Finset.univ.image KK.lin ∪ Finset.univ.image KK.lout
  complete k := by cases k <;> simp

abbrev barS : Sem sig := (SemArray.scalar (sig.barrier 0 rfl) : Sems sig S_).sem
abbrev sendS : DmaSem sig := (cc0_scratch11 : DmaSems sig S_).sem
theorem inb5 (p : Fin 5) : ∀ a, (![p.val] : Fin S5.rank → ℕ) a + S1.size a ≤ S5.size a := by revert p; decide
theorem inb6 (p : Fin 6) : ∀ a, (![p.val] : Fin S6.rank → ℕ) a + S1.size a ≤ S6.size a := by revert p; decide
abbrev recvS (p : Fin 5) : DmaSem sig := ((cc0_scratch12.slice (Rect.unit (s := S5) ![p.val] S1.size (inb5 p))).squeeze S_ squeezes_S1_S_).sem
abbrev loadS (i : Fin 6) : DmaSem sig := ((cc0_scratch10.slice (Rect.unit (s := S6) ![i.val] S1.size (inb6 i))).squeeze S_ squeezes_S1_S_).sem

/-- The semaphore of a kind. -/
abbrev csem : KK → SemLoc sig
  | .bar => .reg barS
  | .send => .dma sendS
  | .recv p => .dma (recvS p)
  | .lin l => .dma (loadS ⟨2 * l.val, by omega⟩)
  | .lout l => .dma (loadS ⟨2 * l.val + 1, by omega⟩)
abbrev kcell (c : Dev nD) (k : KK) : GSem nD τ sig := ((c : Thread nD τ), csem k)

theorem csem_inj : ∀ k k', csem k = csem k' → k = k' := by decide +kernel

/-- The kind of a semaphore, if it is one of the protocol's. -/
def kindOf (s : SemLoc sig) : Option KK := by
  classical exact if h : ∃ k, csem k = s then some h.choose else none

theorem kindOf_csem (k : KK) : kindOf (csem k) = some k := by
  have h : ∃ k', csem k' = csem k := ⟨k, rfl⟩
  unfold kindOf
  rw [dif_pos h, csem_inj _ _ h.choose_spec]

theorem kindOf_none {s : SemLoc sig} (h : ∀ k, csem k ≠ s) : kindOf s = none := by
  unfold kindOf
  rw [dif_neg (fun ⟨k, hk⟩ => h k hk)]

/-! ## Contents -/

variable (m : (ℓ : Loc nD τ sig) → Buf (Elt F) ℓ)

/-- The input, and the weights of a layer, as device `c` holds them at launch. -/
def xV (c : Dev nD) : S64x512.Idx → Elt F .f32 := m ((c : Thread nD τ).loc main_arg0)
def wI (c : Dev nD) (l : Fin 3) : S512x1024.Idx → Elt F .f32 := (argI l).view.read (Elt F) (m ((argI l).view.loc (c : Thread nD τ)))
def wO (c : Dev nD) (l : Fin 3) : S1024x512.Idx → Elt F .f32 := (argO l).view.read (Elt F) (m ((argO l).view.loc (c : Thread nD τ)))

/-- The weights of a layer in the narrow format. -/
def wbi (c : Dev nD) : Fin 3 → S1x512x1024.Idx → Elt F .bf16
  | 0 => k0_pay2 (unI (wI m c 0))
  | 1 => k0_pay8 (unI (wI m c 1))
  | 2 => k0_pay11 (unI (wI m c 2))
def wbo (c : Dev nD) : Fin 3 → S1x1024x512.Idx → Elt F .bf16
  | 0 => k0_pay3 (unO (wO m c 0))
  | 1 => k0_pay9 (unO (wO m c 1))
  | 2 => k0_pay12 (unO (wO m c 2))

/-- Layer 0: the partial product of device `c`; -/
def snd0 (c : Dev nD) : S16x4x512.Idx → Elt F .bf16 := k0_pay5 (k0_pay4 (xV m c) (wbi m c 0)) (wbo m c 0)
/-- block `c` of every device's partial product; -/
def rs0 (c : Dev nD) : S16x4x512.Idx → Elt F .bf16 := stack fun e => slotV (snd0 m e) c
/-- every device's sum. -/
def ag0 : S16x4x512.Idx → Elt F .bf16 := stack fun e => reS (k0_pay10 (rs0 m e))
/-- Layer 1, likewise. -/
def snd1 (c : Dev nD) : S16x4x512.Idx → Elt F .bf16 := k0_pay14 (k0_pay13 (ag0 m) (wbi m c 1)) (wbo m c 1)
def rs1 (c : Dev nD) : S16x4x512.Idx → Elt F .bf16 := stack fun e => slotV (snd1 m e) c
def ag1 : S16x4x512.Idx → Elt F .bf16 := stack fun e => reS (k0_pay16 (rs1 m e))
/-- Layer 2, whose sums are the result. -/
def snd2 (c : Dev nD) : S16x4x512.Idx → Elt F .bf16 := k0_pay17 (ag1 m) (wbi m c 2) (wbo m c 2)
def rs2 (c : Dev nD) : S16x4x512.Idx → Elt F .bf16 := stack fun e => slotV (snd2 m e) c
def outV (c : Dev nD) : S4x512.Idx → Elt F .f32 := k0_pay1 (rs2 m c)

/-- What exchange `p` leaves in device `c`'s landing buffer. -/
def landV (p : Fin 5) (c : Dev nD) : S16x4x512.Idx → Elt F .bf16 :=
  match p with
  | 0 => rs0 m c
  | 1 => ag0 m
  | 2 => rs1 m c
  | 3 => ag1 m
  | 4 => rs2 m c

/-- The source of device `c`'s copy `j` of exchange `p`, -/
abbrev srcM (p : Fin 5) (c : Dev nD) (j : Fin 15) : Memref sig .tc .vmem S4x512 .bf16 :=
  match p with
  | 0 => slot sndM (tgt c j)
  | 1 => slot (bufM 1) c
  | 2 => slot sndM (tgt c j)
  | 3 => slot (bufM 3) c
  | 4 => slot sndM (tgt c j)
/-- and the share of it the copy reads with: the gathering exchanges read one block fifteen times. -/
abbrev srcQ (p : Fin 5) (j : Fin 15) : PosShare TreeShare :=
  match p with
  | 0 => fullShare
  | 1 => Transfers.shareTok fullShare 15 j
  | 2 => fullShare
  | 3 => Transfers.shareTok fullShare 15 j
  | 4 => fullShare

/-! ## The payloads -/

/-- The place kept for `e` in device `c`'s landing buffer `p`, at any contents. -/
def land (p : Fin 5) (c e : Dev nD) : sProp 𝕄 := iprop(∃ X, owns (c : Thread nD τ) (slot (bufM p) e) fullShare X)
def barPay (c : Dev nD) (j : Fin 15) : sProp 𝕄 := bigSep Finset.univ fun p : Fin 5 => land p (tgt c j) c
def recvPay (p : Fin 5) (c : Dev nD) (j : Fin 15) : sProp 𝕄 :=
  owns (c : Thread nD τ) (slot (bufM p) (src c j)) fullShare (slotV (landV m p c) (src c j))
def srcPts (p : Fin 5) (c : Dev nD) (j : Fin 15) : sProp 𝕄 :=
  owns (c : Thread nD τ) (srcM p c j) (srcQ p j) (slotV (landV m p (tgt c j)) c)
def linPay (l : Fin 3) (c : Dev nD) : sProp 𝕄 :=
  iprop(owns (c : Thread nD τ) (layI wfI l) fullShare (wI m c l) ∗ owns (c : Thread nD τ) (argI l) fullShare (wI m c l))
def loutPay (l : Fin 3) (c : Dev nD) : sProp 𝕄 :=
  iprop(owns (c : Thread nD τ) (layO wfO l) fullShare (wO m c l) ∗ owns (c : Thread nD τ) (argO l) fullShare (wO m c l))

/-- The duties of a round of a semaphore of a kind: a barrier and a receive semaphore have one round of fifteen, the send
    semaphore five rounds of fifteen, a load semaphore one round of one. -/
def dutiesK : KK → ℕ → Finset (Fin 15)
  | .bar, r => if r = 0 then Finset.univ else ∅
  | .send, r => if r < 5 then Finset.univ else ∅
  | .recv _, r => if r = 0 then Finset.univ else ∅
  | .lin _, r => if r = 0 then {0} else ∅
  | .lout _, r => if r = 0 then {0} else ∅

def amountK : KK → ℕ
  | .bar => 1
  | .send => N
  | .recv _ => N
  | .lin _ => NI
  | .lout _ => NO

theorem amountK_pos (k : KK) : 0 < amountK k := by
  match k with
  | .bar => exact Nat.one_pos
  | .send => exact N_pos
  | .recv _ => exact N_pos
  | .lin _ => exact NI_pos
  | .lout _ => exact NO_pos

def payloadK (c : Dev nD) : KK → ℕ → Fin 15 → sProp 𝕄
  | .bar, _, j => barPay c j
  | .send, r, j => if h : r < 5 then srcPts m ⟨r, h⟩ c j else iprop(emp)
  | .recv p, _, j => recvPay m p c j
  | .lin l, _, _ => linPay m l c
  | .lout l, _, _ => loutPay m l c

/-- The schedule of the sixteen devices' semaphores. -/
def rd : Rounds.Schedule (GSem nD τ sig) (Fin 15) 𝕄 where
  duties g r := (kindOf g.2).elim ∅ fun k => dutiesK k r
  unitless _ := False
  amount g _ _ := (kindOf g.2).elim 1 amountK
  payload g r d := (kindOf g.2).elim iprop(emp) fun k => payloadK m g.1.1 k r d
  amount_pos g _ _ _ := by
    cases kindOf g.2 with
    | none => exact Nat.one_pos
    | some k => exact amountK_pos k

instance land_storable (p : Fin 5) (c e : Dev nD) : BI.Storable (upEmb : UEmb _ 𝕄) (land (F := F) p c e) := by
  unfold land; infer_instance

instance payloadK_storable (c : Dev nD) (k : KK) (r : ℕ) (d : Fin 15) : BI.Storable (upEmb : UEmb _ 𝕄) (payloadK (F := F) m c k r d) := by
  cases k <;> unfold payloadK
  · show BI.Storable upEmb (barPay c d); unfold barPay; infer_instance
  · show BI.Storable upEmb (if h : r < 5 then srcPts m ⟨r, h⟩ c d else iprop(emp))
    split
    · unfold srcPts; infer_instance
    · infer_instance
  · show BI.Storable upEmb (recvPay m _ c d); unfold recvPay; infer_instance
  · show BI.Storable upEmb (linPay m _ c); unfold linPay; infer_instance
  · show BI.Storable upEmb (loutPay m _ c); unfold loutPay; infer_instance

instance rd_payload_storable (g : GSem nD τ sig) (r : ℕ) (d : Fin 15) :
    BI.Storable (upEmb : UEmb _ 𝕄) ((rd (F := F) m).payload g r d) := by
  show BI.Storable upEmb ((kindOf g.2).elim iprop(emp) fun k => payloadK m g.1.1 k r d)
  cases kindOf g.2 with
  | none => show BI.Storable upEmb iprop(emp); infer_instance
  | some k => show BI.Storable upEmb (payloadK m g.1.1 k r d); infer_instance

section Sched
variable (c : Dev nD) (k : KK) (r : ℕ)

theorem duties_k : (rd (F := F) m).duties (kcell c k) r = dutiesK k r := by
  show (kindOf (csem k)).elim ∅ _ = _
  rw [kindOf_csem]; rfl
theorem amount_k (d : Fin 15) : (rd (F := F) m).amount (kcell c k) r d = amountK k := by
  show (kindOf (csem k)).elim 1 _ = _
  rw [kindOf_csem]; rfl
theorem payload_k (d : Fin 15) : (rd (F := F) m).payload (kcell c k) r d = payloadK m c k r d := by
  show (kindOf (csem k)).elim iprop(emp) (fun k => payloadK m c k r d) = _
  rw [kindOf_csem]; rfl
theorem expect_k : (rd (F := F) m).expect (kcell c k) r = (dutiesK k r).card * amountK k := by
  unfold Schedule.expect Schedule.amountOf
  rw [duties_k, Finset.sum_congr rfl fun d _ => amount_k m c k r d, Finset.sum_const, smul_eq_mul]

end Sched

/-- A semaphore of the protocol has no duty from the round given here on. -/
def lastK : KK → ℕ
  | .send => 5
  | _ => 1
theorem duties_last (k : KK) (r : ℕ) (h : lastK k ≤ r) : dutiesK k r = ∅ := by
  cases k <;> simp only [lastK] at h <;> unfold dutiesK <;> exact if_neg (by omega)

/-! ## What each device owes; the levels -/

/-- Copy number `k` of the seventy-five a device sends, as what it owes the receiver. -/
def sendT (c : Dev nD) (k : ℕ) : CellTallies nD τ sig Unit :=
  tallyAt (kcell (tgt c ⟨k % 15, Nat.mod_lt _ (by decide)⟩) (.recv ⟨k / 15 % 5, Nat.mod_lt _ (by decide)⟩)) () N
/-- Device `c` still owes its last `n` copies, -/
def Orem (c : Dev nD) (n : ℕ) : CellTallies nD τ sig Unit := ∑ k ∈ Finset.range n, sendT c (74 - k)
/-- or all of them and its last `n` signals. -/
def sigT (c : Dev nD) (k : ℕ) : CellTallies nD τ sig Unit := tallyAt (kcell (tgt c ⟨k % 15, Nat.mod_lt _ (by decide)⟩) .bar) () 1
def Obar (c : Dev nD) (n : ℕ) : CellTallies nD τ sig Unit := Orem c 75 + ∑ k ∈ Finset.range n, sigT c (14 - k)

theorem Orem_zero (c : Dev nD) : Orem c 0 = 0 := Finset.sum_range_zero _
theorem Obar_zero (c : Dev nD) : Obar c 0 = Orem c 75 := by unfold Obar; rw [Finset.sum_range_zero, add_zero]

theorem Orem_peel (c : Dev nD) (p : Fin 5) (j : Fin 15) :
    Orem c (75 - (15 * p.val + j.val)) = Orem c (75 - (15 * p.val + j.val + 1)) + tallyAt (kcell (tgt c j) (.recv p)) () N := by
  have h : 75 - (15 * p.val + j.val) = (75 - (15 * p.val + j.val + 1)) + 1 := by have := p.isLt; have := j.isLt; omega
  rw [h]
  unfold Orem
  rw [Finset.sum_range_succ]
  congr 1
  unfold sendT
  have hk : 74 - (75 - (15 * p.val + j.val + 1)) = 15 * p.val + j.val := by have := p.isLt; have := j.isLt; omega
  have h1 : (⟨(15 * p.val + j.val) % 15, Nat.mod_lt _ (by decide)⟩ : Fin 15) = j := Fin.ext (by show (15 * p.val + j.val) % 15 = j.val; have := j.isLt; omega)
  have h2 : (⟨(15 * p.val + j.val) / 15 % 5, Nat.mod_lt _ (by decide)⟩ : Fin 5) = p := Fin.ext (by show (15 * p.val + j.val) / 15 % 5 = p.val; have := p.isLt; have := j.isLt; omega)
  simp only [hk, h1, h2]

theorem Obar_peel (c : Dev nD) (j : Fin 15) :
    Obar c (15 - j.val) = Obar c (15 - (j.val + 1)) + tallyAt (kcell (tgt c j) .bar) () 1 := by
  have h : 15 - j.val = (15 - (j.val + 1)) + 1 := by have := j.isLt; omega
  rw [h]
  unfold Obar
  rw [Finset.sum_range_succ, ← add_assoc]
  congr 1
  unfold sigT
  have hk : 14 - (15 - (j.val + 1)) = j.val := by have := j.isLt; omega
  have h1 : (⟨j.val % 15, Nat.mod_lt _ (by decide)⟩ : Fin 15) = j := Fin.ext (Nat.mod_eq_of_lt j.isLt)
  simp only [hk, h1]

def L (g : GSem nD τ sig) : Finset Unit := if g.1.2 = .tc then {()} else ∅
/-- The barrier semaphores at 1, receive semaphore `p` at `2 + p`, everything else at 0. -/
def lvK : KK → ℕ
  | .bar => 1
  | .recv p => 2 + p.val
  | _ => 0
def lv (g : GSem nD τ sig) (_ : Unit) : ℕ := (kindOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : KK) : lv (kcell c k) () = lvK k := by
  show (kindOf (csem k)).elim 0 lvK = _
  rw [kindOf_csem]; rfl

theorem tally_sum_pos {ι : Type} [DecidableEq ι] {S : Finset ι} {f : ι → CellTallies nD τ sig Unit} {g : GSem nD τ sig} {u : Unit}
    (h : 0 < (∑ k ∈ S, f k) g u) : ∃ k ∈ S, 0 < f k g u := by
  induction S using Finset.induction_on with
  | empty => simp at h
  | insert a S ha ih =>
    rw [Finset.sum_insert ha, Pi.add_apply, Finsupp.add_apply] at h
    rcases Nat.eq_zero_or_pos (f a g u) with h0 | h0
    · obtain ⟨k, hk, hp⟩ := ih (by omega)
      exact ⟨k, Finset.mem_insert_of_mem hk, hp⟩
    · exact ⟨a, Finset.mem_insert_self _ _, h0⟩

theorem tallyAt_eq_of_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem Orem_pos {c : Dev nD} {n : ℕ} (hn : n ≤ 75) {g : GSem nD τ sig} {u : Unit} (h : 0 < Orem c n g u) :
    ∃ (e : Dev nD) (p : Fin 5), g = kcell e (.recv p) ∧ 75 - n < 15 * (p.val + 1) := by
  obtain ⟨k, hk, hp⟩ := tally_sum_pos h
  have hk := Finset.mem_range.mp hk
  refine ⟨_, _, tallyAt_eq_of_pos hp, ?_⟩
  show 75 - n < 15 * ((74 - k) / 15 % 5 + 1)
  omega

theorem Obar_pos {c : Dev nD} {n : ℕ} {g : GSem nD τ sig} {u : Unit} (h : 0 < Obar c n g u) :
    ∃ (e : Dev nD) (k : KK), g = kcell e k ∧ 1 ≤ lvK k := by
  unfold Obar at h
  rw [Pi.add_apply, Finsupp.add_apply] at h
  rcases Nat.eq_zero_or_pos (Orem c 75 g u) with h0 | h0
  · obtain ⟨k, hk, hp⟩ := tally_sum_pos (by omega : 0 < (∑ k ∈ Finset.range n, sigT c (14 - k)) g u)
    exact ⟨_, _, tallyAt_eq_of_pos hp, le_refl _⟩
  · obtain ⟨e, p, hg, -⟩ := Orem_pos (le_refl _) h0
    exact ⟨e, _, hg, by show 1 ≤ 2 + p.val; omega⟩

/-- A semaphore at level `b` may be waited for while only semaphores above it are owed. -/
theorem mayWait_of (c : Dev nD) (s : SemLoc sig) (b : ℕ) (hs : lv ((c : Thread nD τ), s) () ≤ b) (O : CellTallies nD τ sig Unit)
    (hO : ∀ g u, 0 < O g u → ∃ e k, g = kcell e k ∧ b < lvK k) : (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by obtain ⟨e, k, rfl, -⟩ := hO g u hg; rw [L_tc]; exact Finset.mem_singleton_self _)
    (fun p hp => by rw [Finset.mem_singleton.mp hp]; exact hs)
    (fun g u hg => by obtain ⟨e, k, rfl, hk⟩ := hO g u hg; rw [lv_k]; exact hk)

/-- While exchange `p` is awaited only later exchanges are owed; -/
theorem mayWait_recv (c : Dev nD) (p : Fin 5) : (levAts L lv : sProp 𝕄) ⊢ MayWait (c : Thread nD τ) (csem (.recv p)) () (Orem c (75 - 15 * (p.val + 1))) :=
  mayWait_of c _ (2 + p.val) (le_of_eq (lv_k c (.recv p))) _ fun g u h => by
    obtain ⟨e, p', hg, hp⟩ := Orem_pos (by omega) h
    exact ⟨e, _, hg, by show 2 + p.val < 2 + p'.val; have := p.isLt; omega⟩
/-- the barrier is below every exchange, -/
theorem mayWait_bar (c : Dev nD) : (levAts L lv : sProp 𝕄) ⊢ MayWait (c : Thread nD τ) (csem .bar) () (Orem c 75) :=
  mayWait_of c _ 1 (le_of_eq (lv_k c .bar)) _ fun g u h => by
    obtain ⟨e, p', hg, hp⟩ := Orem_pos (le_refl _) h
    exact ⟨e, _, hg, by show 1 < 2 + p'.val; omega⟩
/-- and the remaining semaphores below everything owed. -/
theorem mayWait_low (c : Dev nD) (s : SemLoc sig) (hs : lv ((c : Thread nD τ), s) () = 0) (n : ℕ) (hn : n ≤ 75) :
    (levAts L lv : sProp 𝕄) ⊢ MayWait (c : Thread nD τ) s () (Orem c n) :=
  mayWait_of c _ 0 (le_of_eq hs) _ fun g u h => by
    obtain ⟨e, p', hg, hp⟩ := Orem_pos hn h
    exact ⟨e, _, hg, by show 0 < 2 + p'.val; omega⟩
theorem mayWait_start (c : Dev nD) (s : SemLoc sig) (hs : lv ((c : Thread nD τ), s) () = 0) (n : ℕ) :
    (levAts L lv : sProp 𝕄) ⊢ MayWait (c : Thread nD τ) s () (Obar c n) :=
  mayWait_of c _ 0 (le_of_eq hs) _ fun g u h => by
    obtain ⟨e, k, hg, hk⟩ := Obar_pos h
    exact ⟨e, k, hg, hk⟩

end Cert.MlpProof
-- ==== Proof.Steps.lean ====
/-
# One operation of the kernel at a time

What a device holds while it signals the barrier, sends the copies of an exchange, or waits for them, after so many of
them; and for each operation that it takes what is held before it to what is held after it. Every rule has the same
form: to run an operation and then `k` from `ctx ∗ state ∗ R`, run `k` from `ctx ∗ next state ∗ R`.
-/
module

public import proofs.«01_k».proof.Proof.Schedule

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows -/

/-- Every semaphore's invariant, that its round 0 is reached, and the levels. -/
def ctx (K : Dev nD × KK → ℕ) : sProp 𝕄 :=
  iprop((bigSep Finset.univ fun ck : Dev nD × KK => cellInv ER (rd m) (K ck) (kcell ck.1 ck.2))
    ∗ (bigSep Finset.univ fun ck : Dev nD × KK => reached ER (kcell ck.1 ck.2) 0) ∗ levAts L lv)

instance ctx_persistent (K : Dev nD × KK → ℕ) : BI.Persistent (ctx m K) := by unfold ctx; infer_instance

theorem ctx_inv (K : Dev nD × KK → ℕ) (c : Dev nD) (k : KK) : ctx m K ⊢ cellInv ER (rd m) (K (c, k)) (kcell c k) := by
  unfold ctx
  iintro ⟨#H, -, -⟩
  iapply (show (bigSep Finset.univ fun ck : Dev nD × KK => cellInv ER (rd m) (K ck) (kcell ck.1 ck.2)) ⊢ cellInv ER (rd m) (K (c, k)) (kcell c k) from
    bigSep_elim (Finset.mem_univ (c, k)))
  iexact H
theorem ctx_reached (K : Dev nD × KK → ℕ) (c : Dev nD) (k : KK) : ctx m K ⊢ reached ER (kcell c k) 0 := by
  unfold ctx
  iintro ⟨-, #H, -⟩
  iapply (show (bigSep Finset.univ fun ck : Dev nD × KK => (reached ER (kcell ck.1 ck.2) 0 : sProp 𝕄)) ⊢ reached ER (kcell c k) 0 from
    bigSep_elim (Finset.mem_univ (c, k)))
  iexact H
theorem ctx_may (K : Dev nD × KK → ℕ) {c : Dev nD} {s : SemLoc sig} {O : CellTallies nD τ sig Unit}
    (h : (levAts L lv : sProp 𝕄) ⊢ MayWait (c : Thread nD τ) s () O) : ctx m K ⊢ MayWait (c : Thread nD τ) s () O := by
  unfold ctx
  iintro ⟨-, -, #H⟩
  iapply h
  iexact H

/-! ## What a device holds -/

/-- What device `c` still owes, whatever it has waited for. -/
def OwO (c : Dev nD) (O : CellTallies nD τ sig Unit) : sProp 𝕄 := iprop(∃ W, owes (c : Thread nD τ) O W)

/-- The distances from `n` on. -/
def fromF (n : ℕ) : Finset (Fin 15) := Finset.univ.filter fun i => n ≤ i.val
theorem fromF_zero : fromF 0 = Finset.univ := Finset.filter_true_of_mem fun _ _ => Nat.zero_le _
theorem fromF_last : fromF 15 = ∅ := Finset.filter_false_of_mem fun i _ => by omega
omit [FloatOps F] in
theorem fromF_peel (Φ : Fin 15 → sProp 𝕄) {n : ℕ} (hn : n < 15) :
    bigSep (fromF n) Φ = iprop(Φ ⟨n, hn⟩ ∗ bigSep (fromF (n + 1)) Φ) := by
  have h : fromF n = insert ⟨n, hn⟩ (fromF (n + 1)) := by
    ext i
    simp only [fromF, Finset.mem_insert, Finset.mem_filter, Finset.mem_univ, true_and, Fin.ext_iff]
    omega
  rw [h, bigSep_insert (by simp [fromF])]
  rfl

/-- After `n` of the fifteen signals. -/
def SigSt (c : Dev nD) (n : ℕ) : sProp 𝕄 :=
  iprop(OwO c (Obar c (15 - n))
    ∗ bigSep (fromF n) fun i => iprop(dutyTok ER (kcell (tgt c i) .bar) 0 i.rev ∗ bigSep Finset.univ fun p : Fin 5 => land p c (tgt c i)))

/-- After `n` of the fifteen copies of exchange `p`. -/
def SendSt (p : Fin 5) (c : Dev nD) (n : ℕ) : sProp 𝕄 :=
  iprop(OwO c (Orem c (75 - (15 * p.val + n)))
    ∗ (bigSep (fromF n) fun i => iprop(srcPts m p c i ∗ land p (tgt c i) c
        ∗ dutyTok ER (kcell c .send) p.val i ∗ dutyTok ER (kcell (tgt c i) (.recv p)) 0 i))
    ∗ cred (tallyAt (kcell c .send) () (n * N)) ∗ reached ER (kcell c .send) p.val)

/-- After `n` of the fifteen waits of round `r` on a semaphore of kind `k`, owing `O`; -/
def WaitSt (k : KK) (r : ℕ) (c : Dev nD) (O : CellTallies nD τ sig Unit) (n : ℕ) : sProp 𝕄 :=
  iprop(OwO c O ∗ (∃ T, atPos ER (kcell c k) r T (n * amountK k) ∗ bigSep T (fun d => payloadK m c k r d))
    ∗ cred (tallyAt (kcell c k) () ((15 - n) * amountK k)))
/-- after the last. -/
def WaitEnd (k : KK) (r : ℕ) (c : Dev nD) (O : CellTallies nD τ sig Unit) : sProp 𝕄 :=
  iprop(OwO c O ∗ atPos ER (kcell c k) (r + 1) ∅ 0 ∗ reached ER (kcell c k) (r + 1) ∗ bigSep (dutiesK k r) (fun d => payloadK m c k r d))

/-! ## The rules -/

section Rules

variable (K : Dev nD × KK → ℕ) (c : Dev nD)

/-- The signal of distance `n + 1`. -/
theorem sig_step {α : Type} {Q : α → sProp 𝕄} {R : sProp 𝕄} {n : ℕ} {k : PUnit → Prog (TpuEff nD τ sig (Elt F) Λ₀ .tc) α}
    (hn : n < 15) {dev : Dev nD} (hdev : dev = tgt c ⟨n, hn⟩) {s : Sem sig} (hs : s = barS)
    (hk : iprop(ctx m K ∗ SigSt c (n + 1) ∗ R) ⊢ WP c (k ⟨⟩) Q) :
    iprop(ctx m K ∗ SigSt c n ∗ R) ⊢ WP c (semSignalWord dev s 1#32 >>= k) Q := by
  subst hdev hs
  unfold SigSt at hk ⊢
  rw [fromF_peel _ hn]
  unfold OwO at hk ⊢
  iintro ⟨#Hc, ⟨⟨%W, HO⟩, ⟨Htok, Hland⟩, Hrest⟩, HR⟩
  iapply (Rounds.wp_signal 𝒱₀ ER (rd m) (c : Thread nD τ) none (dst := (tgt c ⟨n, hn⟩ : Thread nD τ)) (κ := K (tgt c ⟨n, hn⟩, .bar))
      (r := 0) (d := (⟨n, hn⟩ : Fin 15).rev) (by rw [duties_k m (tgt c ⟨n, hn⟩) .bar]; exact Finset.mem_univ _) ((amount_k m (tgt c ⟨n, hn⟩) .bar 0 _).trans (by decide)) ()
      (Obar c (15 - (n + 1))) (Obar_peel c ⟨n, hn⟩)) $$ [HO Htok Hland]
  · isplitr; · iapply (ctx_inv m K (tgt c ⟨n, hn⟩) .bar); iexact Hc
    isplitl [HO]; · iexact HO
    isplitl [Htok]; · iexact Htok
    isplitl [Hland]
    · ihave H := (Entails.of_eq (show (bigSep Finset.univ fun p : Fin 5 => (land p c (tgt c ⟨n, hn⟩) : sProp 𝕄))
          = (rd m).payload (kcell (tgt c ⟨n, hn⟩) .bar) 0 (⟨n, hn⟩ : Fin 15).rev by
        rw [payload_k m (tgt c ⟨n, hn⟩) .bar]
        show _ = barPay (tgt c ⟨n, hn⟩) (⟨n, hn⟩ : Fin 15).rev
        unfold barPay
        rw [tgt_rev])) $$ Hland
      iexact H
    iapply (ctx_reached m K (tgt c ⟨n, hn⟩) .bar); iexact Hc
  iintro HO
  iapply hk
  isplitr; · iexact Hc
  isplitl [HO Hrest]
  · isplitl [HO]; · iexists W; iexact HO
    iexact Hrest
  iexact HR

/-- The wait for the barrier. -/
theorem bar_step {α : Type} {Q : α → sProp 𝕄} {R : sProp 𝕄} {k : PUnit → Prog (TpuEff nD τ sig (Elt F) Λ₀ .tc) α}
    {s : Sem sig} (hs : s = barS)
    (hk : iprop(ctx m K ∗ WaitEnd m .bar 0 c (Orem c 75) ∗ R) ⊢ WP c (k ⟨⟩) Q) :
    iprop(ctx m K ∗ (OwO c (Orem c 75) ∗ atPos ER (kcell c .bar) 0 ∅ 0 ∗ cred (tallyAt (kcell c .bar) () 15)) ∗ R)
      ⊢ WP c (semWaitWord s 15#32 >>= k) Q := by
  subst hs
  unfold WaitEnd OwO at hk
  unfold OwO
  iintro ⟨#Hc, ⟨⟨%W, HO⟩, Hat, Hcr⟩, HR⟩
  iapply (Rounds.wp_wait_rest_token 𝒱₀ ER (rd m) (c : Thread nD τ) none (κ := K (c, .bar))
      (wpE_semWait_eq 𝒱₀ (c : Thread nD τ) none Set.univ) (Set.mem_univ _) () (O := Orem c 75) (W := W) (R := 0) (m := 0) (T := ∅)
      (by rw [expect_k m c .bar 0]; show 0 + 15 = (Finset.univ : Finset (Fin 15)).card * 1; rw [Finset.card_univ, Fintype.card_fin])) $$ [Hcr HO Hat]
  · isplitr; · iapply (ctx_inv m K c .bar); iexact Hc
    isplitl [Hcr]; · iexact Hcr
    isplitl [HO]; · iexact HO
    isplitr
    · iapply (ctx_may m K (mayWait_bar c)); iexact Hc
    iexact Hat
  iintro ⟨HO, Hat, Hr, Hpay⟩
  iapply hk
  isplitr; · iexact Hc
  isplitr [HR]
  · isplitl [HO]; · iexists _; iexact HO
    isplitl [Hat]; · iexact Hat
    isplitl [Hr]; · iexact Hr
    ihave Hp := (Entails.of_eq (show _ = bigSep (dutiesK .bar 0) (fun d => payloadK m c .bar 0 d) by
      rw [Finset.sdiff_empty, duties_k m c .bar 0]; exact bigSep_congr fun d _ => payload_k m c .bar 0 d)) $$ Hpay
    iexact Hp
  iexact HR

/-- The copy of distance `n + 1` of exchange `p`. -/
theorem send_step {α : Type} {Q : α → sProp 𝕄} {R : sProp 𝕄} {p : Fin 5} {n : ℕ} {k : PUnit → Prog (TpuEff nD τ sig (Elt F) Λ₀ .tc) α}
    (hn : n < 15) {S D : Memref sig .tc .vmem S4x512 .bf16} (hS : S = srcM p c ⟨n, hn⟩) (hD : D = slot (bufM p) c)
    {dev : Dev nD} (hdev : dev = tgt c ⟨n, hn⟩) {sS sem : DmaSem sig} (hsS : sS = sendS) (hsem : sem = recvS p)
    {hsc} {hsrc : S.view.WordExact} {hdst : D.view.WordExact} {hty}
    (hk : iprop(ctx m K ∗ SendSt m p c (n + 1) ∗ R) ⊢ WP c (k ⟨⟩) Q) :
    iprop(ctx m K ∗ SendSt m p c n ∗ R)
      ⊢ WP c (Prog.lift (.enqueueDma S (.remote (Dev.tc dev : Thread nD τ) D (.dma sS) hsc) (.dma sem) hsrc hdst hty) >>= k) Q := by
  subst hS hD hdev hsS hsem
  unfold SendSt at hk ⊢
  rw [fromF_peel _ hn]
  unfold OwO at hk ⊢
  unfold srcPts land
  conv_lhs => unfold owns
  iintro ⟨#Hc, ⟨⟨%W, HO⟩, ⟨⟨⟨%fs, %hfs, Hsrc⟩, ⟨%X, %fd, %hfd, Hdst⟩, Ht1, Ht2⟩, Hrest⟩, Hcr, #Hr⟩, HR⟩
  iapply (Rounds.wp_send_pointsTo 𝒱₀ ER (rd m) (c : Thread nD τ) none (c' := (tgt c ⟨n, hn⟩ : Thread nD τ)) (κ₁ := K (c, .send)) (κ₂ := K (tgt c ⟨n, hn⟩, .recv p))
      (r₁ := p.val) (r₂ := 0) (d₁ := ⟨n, hn⟩) (d₂ := ⟨n, hn⟩) (fd := fd)
      (by rw [duties_k m c .send]; show _ ∈ (if p.val < 5 then Finset.univ else ∅); rw [if_pos p.isLt]; exact Finset.mem_univ _)
      (by rw [duties_k m (tgt c ⟨n, hn⟩) (.recv p)]; exact Finset.mem_univ _)
      () () N (show (slot (bufM p) c).view.amount (.dma (recvS p)) = N from credit_buf p c) (amount_k m c .send p.val _) (amount_k m (tgt c ⟨n, hn⟩) (.recv p) 0 _)
      (Orem c (75 - (15 * p.val + n + 1))) (Orem_peel c p ⟨n, hn⟩) (W := W)
      (by
        rw [payload_k m c .send]
        show _ ⊢ (if h : p.val < 5 then srcPts m ⟨p.val, h⟩ c ⟨n, hn⟩ else iprop(emp))
        rw [dif_pos p.isLt]
        unfold srcPts owns
        iintro H
        iexists fs
        isplitr; · ipureintro; exact hfs
        iexact H)
      (by
        rw [payload_k m (tgt c ⟨n, hn⟩) (.recv p)]
        show _ ⊢ recvPay m p (tgt c ⟨n, hn⟩) ⟨n, hn⟩
        unfold recvPay owns
        rw [src_tgt]
        iintro H
        iexists _
        isplitr
        rotate_left
        · iexact H
        · ipureintro
          rw [View.read_write_univ]
          exact hfs)) $$ [HO Hsrc Hdst Ht1 Ht2]
  · isplitr; · iapply (ctx_inv m K c .send); iexact Hc
    isplitr; · iapply (ctx_inv m K (tgt c ⟨n, hn⟩) (.recv p)); iexact Hc
    isplitl [Hsrc]; · iexact Hsrc
    isplitl [Hdst]; · iexact Hdst
    isplitl [HO]; · iexact HO
    isplitl [Ht1]; · iexact Ht1
    isplitr; · iexact Hr
    isplitl [Ht2]; · iexact Ht2
    iapply (ctx_reached m K (tgt c ⟨n, hn⟩) (.recv p)); iexact Hc
  iintro ⟨Hcr', HO⟩
  iapply hk
  isplitr; · iexact Hc
  isplitr [HR]
  · isplitl [HO]; · iexists W; iexact HO
    isplitl [Hrest]
    · iexact Hrest
    isplitl [Hcr Hcr']
    · ihave H := (cred_add (tallyAt (kcell c .send) () (n * N)) (tallyAt (kcell c .send) () N)).2 $$ [Hcr Hcr']
      · isplitl [Hcr] <;> iassumption
      rw [tallyAt_add, show n * N + N = (n + 1) * N from (Nat.succ_mul n N).symm]
      iexact H
    iexact Hr
  iexact HR

/-- One of the first fourteen waits of a round. -/
theorem wait_step {α : Type} {Q : α → sProp 𝕄} {R : sProp 𝕄} {kk : KK} {r n : ℕ} {O : CellTallies nD τ sig Unit}
    {k : PUnit → Prog (TpuEff nD τ sig (Elt F) Λ₀ .tc) α}
    (hn : n < 14) {sp sp' : Space} {s : Shape} {e : EltTy} {S : Memref sig .tc sp s e} {D : Memref sig .tc sp' s e} {sem : DmaSem sig} (hsem : SemLoc.dma sem = csem kk)
    (hN : D.view.dmaCredit = amountK kk) {h1} {h2}
    (hO : (levAts L lv : sProp 𝕄) ⊢ MayWait (c : Thread nD τ) (csem kk) () O)
    (hk : iprop(ctx m K ∗ WaitSt m kk r c O (n + 1) ∗ R) ⊢ WP c (k ⟨⟩) Q) :
    iprop(ctx m K ∗ WaitSt m kk r c O n ∗ R) ⊢ WP c (Prog.lift (.waitDma2 sem S D h1 h2) >>= k) Q := by
  unfold WaitSt OwO at hk ⊢
  iintro ⟨#Hc, ⟨⟨%W, HO⟩, ⟨%T, Hat, Hpay⟩, Hcr⟩, HR⟩
  ihave Hcr := (Entails.of_eq (show (cred (tallyAt (kcell c kk) () ((15 - n) * amountK kk)) : sProp 𝕄)
      = cred (tallyAt (kcell c kk) () (amountK kk) + tallyAt (kcell c kk) () ((15 - (n + 1)) * amountK kk)) by
    rw [tallyAt_add, show 15 - n = (15 - (n + 1)) + 1 by omega, Nat.succ_mul, Nat.add_comm (amountK kk)])) $$ Hcr
  ihave Hcr := (cred_add _ _).1 $$ Hcr
  icases Hcr with ⟨Hc1, Hcr⟩
  iapply (Rounds.wp_wait 𝒱₀ ER (rd m) (c : Thread nD τ) none (κ := K (c, kk)) (sm := csem kk) (k' := amountK kk)
      (fun K' => by rw [wpE_waitDma2_eq 𝒱₀ (c : Thread nD τ) none Set.univ, hN, hsem]) (Set.mem_univ _) {(csem kk, ())}
      (cr := Finsupp.single () (amountK kk)) (O := O) (W := W) (R := r) (m := n * amountK kk) (T := T)
      (Util.total_single _ _) (image_single_subset (csem kk) () (amountK kk))) $$ [Hc1 HO Hat]
  · isplitr; · iapply (ctx_inv m K c kk); iexact Hc
    isplitl [Hc1]; · iexact Hc1
    isplitl [HO]; · iexact HO
    isplitr
    · iapply (ctx_may m K hO); iexact Hc
    iexact Hat
  iintro %S' ⟨%hS, HO, Hat, Hp⟩
  iapply hk
  isplitr; · iexact Hc
  isplitr [HR]
  · isplitl [HO]; · iexists _; iexact HO
    isplitr [Hcr]
    · iexists S'
      isplitl [Hat]
      · rw [show (n + 1) * amountK kk = n * amountK kk + amountK kk from Nat.succ_mul _ _]
        iexact Hat
      · ihave Hp := (Entails.of_eq (bigSep_congr fun d _ => payload_k m c kk r d)) $$ Hp
        iapply (Entails.of_eq (show iprop(bigSep T (fun d => payloadK m c kk r d) ∗ bigSep (S' \ T) (fun d => payloadK m c kk r d)) = _ from (bigSep_sdiff_split hS.1).symm))
        isplitl [Hpay]; · iexact Hpay
        iexact Hp
    iexact Hcr
  iexact HR

/-- The last wait of a round. -/
theorem wait_last {α : Type} {Q : α → sProp 𝕄} {R : sProp 𝕄} {kk : KK} {r : ℕ} {O : CellTallies nD τ sig Unit}
    {k : PUnit → Prog (TpuEff nD τ sig (Elt F) Λ₀ .tc) α}
    (hd : dutiesK kk r = Finset.univ) {sp sp' : Space} {s : Shape} {e : EltTy} {S : Memref sig .tc sp s e} {D : Memref sig .tc sp' s e}
    {sem : DmaSem sig} (hsem : SemLoc.dma sem = csem kk)
    (hN : D.view.dmaCredit = amountK kk) {h1} {h2}
    (hO : (levAts L lv : sProp 𝕄) ⊢ MayWait (c : Thread nD τ) (csem kk) () O)
    (hk : iprop(ctx m K ∗ WaitEnd m kk r c O ∗ R) ⊢ WP c (k ⟨⟩) Q) :
    iprop(ctx m K ∗ WaitSt m kk r c O 14 ∗ R) ⊢ WP c (Prog.lift (.waitDma2 sem S D h1 h2) >>= k) Q := by
  unfold WaitEnd OwO at hk
  unfold WaitSt OwO
  iintro ⟨#Hc, ⟨⟨%W, HO⟩, ⟨%T, Hat, Hpay⟩, Hcr⟩, HR⟩
  iapply (Rounds.wp_wait_rest_token 𝒱₀ ER (rd m) (c : Thread nD τ) none (κ := K (c, kk)) (sm := csem kk) (k' := (15 - 14) * amountK kk)
      (fun K' => by rw [wpE_waitDma2_eq 𝒱₀ (c : Thread nD τ) none Set.univ, hN, hsem, show (15 - 14) * amountK kk = amountK kk from Nat.one_mul _]) (Set.mem_univ _) ()
      (O := O) (W := W) (R := r) (m := 14 * amountK kk) (T := T)
      (by rw [expect_k, hd, ← Nat.add_mul]; rfl)) $$ [Hcr HO Hat]
  · isplitr; · iapply (ctx_inv m K c kk); iexact Hc
    isplitl [Hcr]; · iexact Hcr
    isplitl [HO]; · iexact HO
    isplitr
    · iapply (ctx_may m K hO); iexact Hc
    iexact Hat
  iintro ⟨HO, Hat, Hr, Hp⟩
  iapply hk
  isplitr; · iexact Hc
  isplitr [HR]
  · isplitl [HO]; · iexists _; iexact HO
    isplitl [Hat]; · iexact Hat
    isplitl [Hr]; · iexact Hr
    ihave Hp := (Entails.of_eq (show _ = bigSep (Finset.univ \ T) (fun d => payloadK m c kk r d) by
      rw [duties_k m c kk r, hd]; exact bigSep_congr fun d _ => payload_k m c kk r d)) $$ Hp
    rw [hd]
    iapply (Entails.of_eq (show iprop(bigSep T (fun d => payloadK m c kk r d) ∗ bigSep (Finset.univ \ T) (fun d => payloadK m c kk r d)) = _ from (bigSep_sdiff_split (Finset.subset_univ T)).symm))
    isplitl [Hpay]; · iexact Hpay
    iexact Hp
  iexact HR

/-- A copy on device `c` itself, of a weight block: what it leaves is the payload of the semaphore it signals. -/
theorem copy_step {α : Type} {Q : α → sProp 𝕄} {kk : KK} {k : PUnit → Prog (TpuEff nD τ sig (Elt F) Λ₀ .tc) α}
    {sp sp' : Space} {s : Shape} {e : EltTy} {S : Memref sig .tc sp s e} {D : Memref sig .tc sp' s e} {X : s.Idx → Elt F e}
    {sem : DmaSem sig} (hsem : SemLoc.dma sem = csem kk) (hN : D.view.dmaCredit = amountK kk) (hd : dutiesK kk 0 = {0})
    (hpay : payloadK m c kk 0 0 = iprop(owns (c : Thread nD τ) D fullShare X ∗ owns (c : Thread nD τ) S fullShare X)) {h1} {h2} {h3} :
    iprop(ctx m K ∗ owns (c : Thread nD τ) S fullShare X ∗ (∃ Y, owns (c : Thread nD τ) D fullShare Y) ∗ dutyTok ER (kcell c kk) 0 0)
      ⊢ iprop((cred (tallyAt (kcell c kk) () (amountK kk)) -∗ WP c (k ⟨⟩) Q)
          -∗ WP c (Prog.lift (.enqueueDma S (.here D) (.dma sem) h1 h2 h3) >>= k) Q) := by
  unfold owns at hpay ⊢
  iintro ⟨#Hc, ⟨%fs, %hfs, Hs⟩, ⟨%Y, %fd, -, Hdst⟩, Htok⟩ Hk
  iapply (Rounds.wp_copy_pointsTo 𝒱₀ ER (rd m) (c : Thread nD τ) none (κ := K (c, kk)) (r := 0) (d := 0) (fs := fs) (fd := fd) (q := fullShare)
      (src := S) (dst := D) (sem := .dma sem)
      (by rw [hsem, duties_k m c kk 0, hd]; exact Finset.mem_singleton_self _) () (amountK kk) hN (by rw [hsem]; exact amount_k m c kk 0 _)
      (by
        rw [hsem, payload_k m c kk 0 0, hpay]
        iintro ⟨Hd, Hs⟩
        isplitl [Hd]
        · iexists _
          isplitr
          rotate_left
          · iexact Hd
          · ipureintro
            rw [View.read_write_univ]
            exact hfs
        · iexists fs
          isplitr; · ipureintro; exact hfs
          iexact Hs)) $$ [Hs Hdst Htok]
  · rw [hsem]
    isplitr; · iapply (ctx_inv m K c kk); iexact Hc
    isplitl [Hs]; · iexact Hs
    isplitl [Hdst]; · iexact Hdst
    isplitl [Htok]; · iexact Htok
    iapply (ctx_reached m K c kk); iexact Hc
  rw [hsem]
  iexact Hk

/-- The wait for such a copy. -/
theorem copy_wait {α : Type} {Q : α → sProp 𝕄} {kk : KK} {O : CellTallies nD τ sig Unit}
    {k : PUnit → Prog (TpuEff nD τ sig (Elt F) Λ₀ .tc) α}
    (hd : dutiesK kk 0 = {0}) {sp sp' : Space} {s : Shape} {e : EltTy} {S : Memref sig .tc sp s e} {D : Memref sig .tc sp' s e}
    {sem : DmaSem sig} (hsem : SemLoc.dma sem = csem kk)
    (hN : D.view.dmaCredit = amountK kk) {h1} {h2}
    (hO : (levAts L lv : sProp 𝕄) ⊢ MayWait (c : Thread nD τ) (csem kk) () O) :
    iprop(ctx m K ∗ OwO c O ∗ atPos ER (kcell c kk) 0 ∅ 0 ∗ cred (tallyAt (kcell c kk) () (amountK kk)))
      ⊢ iprop(((OwO c O ∗ atPos ER (kcell c kk) 1 ∅ 0 ∗ payloadK m c kk 0 0) -∗ WP c (k ⟨⟩) Q)
          -∗ WP c (Prog.lift (.waitDma2 sem S D h1 h2) >>= k) Q) := by
  unfold OwO
  iintro ⟨#Hc, ⟨%W, HO⟩, Hat, Hcr⟩ Hk
  iapply (Rounds.wp_wait_rest_token 𝒱₀ ER (rd m) (c : Thread nD τ) none (κ := K (c, kk)) (sm := csem kk) (k' := amountK kk)
      (fun K' => by rw [wpE_waitDma2_eq 𝒱₀ (c : Thread nD τ) none Set.univ, hN, hsem]) (Set.mem_univ _) ()
      (O := O) (W := W) (R := 0) (m := 0) (T := ∅)
      (by rw [expect_k, hd, Finset.card_singleton, Nat.zero_add, Nat.one_mul])) $$ [Hcr HO Hat]
  · isplitr; · iapply (ctx_inv m K c kk); iexact Hc
    isplitl [Hcr]; · iexact Hcr
    isplitl [HO]; · iexact HO
    isplitr
    · iapply (ctx_may m K hO); iexact Hc
    iexact Hat
  iintro ⟨HO, Hat, -, Hp⟩
  iapply Hk
  isplitl [HO]; · iexists _; iexact HO
  isplitl [Hat]; · iexact Hat
  ihave Hp := (Entails.of_eq (show _ = payloadK m c kk 0 0 by
    rw [duties_k m c kk 0, hd, Finset.sdiff_empty, bigSep_singleton, payload_k])) $$ Hp
  iexact Hp

end Rules

end Cert.MlpProof
-- ==== Proof.Moves.lean ====
/-
# Between the runs of signals, copies and waits

How what a device holds after one run of operations is what it must hold before the next: a buffer dealt into its blocks,
a block dealt into read shares, and both put together again.
-/
module

public import proofs.«01_k».proof.Proof.Steps
public import Idealize.ShloMosaic.Lib.ViewIndex
public import Idealize.ShloMosaic.Lib.Pipeline.Kit

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## Read shares of a memref -/

omit [FloatOps F] in
/-- A memref owned at contents that `f` reads as is its points-to at `f`. -/
theorem owns_at (c : Dev nD) {sp : Space} {s : Shape} {e : EltTy} (M : Memref sig .tc sp s e) (q : PosShare TreeShare)
    (f : Buf (Elt F) (M.view.loc (c : Thread nD τ))) :
    (owns (c : Thread nD τ) M q (M.view.read (Elt F) f) : sProp 𝕄) ⊢ (M.view.loc (c : Thread nD τ) ↦[M.view.set]{q} f) := by
  unfold owns
  iintro ⟨%g, %hg, H⟩
  ihave H := (Entails.of_eq (pointsTo_congr (f := g) (g := f) fun i hi => by
    obtain ⟨x, -, rfl⟩ := Finset.mem_map.mp hi
    exact View.eq_of_read_eq (congrFun hg x))) $$ H
  iexact H

omit [FloatOps F] in
/-- A block owned whole is what is left of it and fifteen read shares, -/
theorem toks_split (c : Dev nD) {sp : Space} {s : Shape} {e : EltTy} (M : Memref sig .tc sp s e) (X : s.Idx → Elt F e) :
    (owns (c : Thread nD τ) M fullShare X : sProp 𝕄)
      ⊢ iprop(owns (c : Thread nD τ) M (Transfers.shareDrop fullShare 15) X
          ∗ bigSep Finset.univ fun j : Fin 15 => owns (c : Thread nD τ) M (Transfers.shareTok fullShare 15 j) X) := by
  conv_lhs => unfold owns
  iintro ⟨%f, %hf, H⟩
  subst hf
  ihave H := (Transfers.pointsTo_toks_split fullShare 15) $$ H
  icases H with ⟨H1, H2⟩
  isplitl [H1]
  · iapply (owns_intro (c : Thread nD τ) M _ f); iexact H1
  · iapply (show (bigSep Finset.univ fun i : Fin 15 => (M.view.loc (c : Thread nD τ) ↦[M.view.set]{Transfers.shareTok fullShare 15 i} f : sProp 𝕄))
        ⊢ bigSep Finset.univ fun j : Fin 15 => owns (c : Thread nD τ) M (Transfers.shareTok fullShare 15 j) (M.view.read (Elt F) f) from
      bigSep_mono fun b _ => owns_intro (c : Thread nD τ) M _ f)
    iexact H2

omit [FloatOps F] in
/-- and back. -/
theorem toks_join (c : Dev nD) {sp : Space} {s : Shape} {e : EltTy} (M : Memref sig .tc sp s e) (X : s.Idx → Elt F e) :
    iprop(owns (c : Thread nD τ) M (Transfers.shareDrop fullShare 15) X
          ∗ bigSep Finset.univ fun j : Fin 15 => owns (c : Thread nD τ) M (Transfers.shareTok fullShare 15 j) X)
      ⊢ (owns (c : Thread nD τ) M fullShare X : sProp 𝕄) := by
  iintro ⟨H1, H2⟩
  ihave H1 := (show (owns (c : Thread nD τ) M (Transfers.shareDrop fullShare 15) X : sProp 𝕄)
    ⊢ iprop(∃ f, ⌜M.view.read (Elt F) f = X⌝ ∗ (M.view.loc (c : Thread nD τ) ↦[M.view.set]{Transfers.shareDrop fullShare 15} f)) from
      Entails.of_eq (by unfold owns; rfl)) $$ H1
  icases H1 with ⟨%f, %hf, H1⟩
  subst hf
  ihave H2 := (show (bigSep Finset.univ fun j : Fin 15 => owns (c : Thread nD τ) M (Transfers.shareTok fullShare 15 j) (M.view.read (Elt F) f))
        ⊢ bigSep Finset.univ fun i : Fin 15 => (M.view.loc (c : Thread nD τ) ↦[M.view.set]{Transfers.shareTok fullShare 15 i} f : sProp 𝕄) from
      bigSep_mono fun b _ => owns_at c M _ f) $$ H2
  iapply (owns_intro (c : Thread nD τ) M fullShare f)
  iapply (Transfers.pointsTo_toks_join fullShare 15)
  isplitl [H1]; · iexact H1
  iexact H2

/-! ## Blocks by distance -/

omit [FloatOps F] in
/-- Over the devices is over the device itself and the devices it sends to, -/
theorem bigSep_tgt (c : Dev nD) (Φ : Dev nD → sProp 𝕄) : bigSep Finset.univ Φ = iprop(Φ c ∗ bigSep Finset.univ fun j => Φ (tgt c j)) := by
  rw [univ_tgt c, bigSep_insert (by simp [tgt_ne]), bigSep_image_of_injOn (tgt_inj c).injOn]
  rfl
omit [FloatOps F] in
/-- or the devices it receives from. -/
theorem bigSep_src (c : Dev nD) (Φ : Dev nD → sProp 𝕄) : bigSep Finset.univ Φ = iprop(Φ c ∗ bigSep Finset.univ fun j => Φ (src c j)) := by
  rw [univ_src c, bigSep_insert (by simp [src_ne]), bigSep_image_of_injOn (src_inj c).injOn]
  rfl

omit [FloatOps F] in
/-- An exchange buffer at any contents is the place kept for the device itself and those kept for the others. -/
theorem land_split (p : Fin 5) (c : Dev nD) :
    (iprop(∃ X, owns (c : Thread nD τ) (bufM p) fullShare X) : sProp 𝕄) ⊢ iprop(land p c c ∗ bigSep Finset.univ fun j => land p c (tgt c j)) := by
  rw [← bigSep_tgt c (fun e => land p c e)]
  iintro ⟨%X, H⟩
  ihave H := (owns_split offS S1x4x512.size inbS squeezes_S1x4x512_S4x512 c (bufM p) fullShare disjS covS X) $$ H
  iapply (show (bigSep Finset.univ fun b => owns (c : Thread nD τ) (slot (bufM p) b) fullShare (slotV X b)) ⊢ (bigSep Finset.univ fun e => land p c e : sProp 𝕄) from
    bigSep_mono fun b _ => show _ ⊢ iprop(∃ X, owns (c : Thread nD τ) (slot (bufM p) b) fullShare X) from exists_intro (slotV X b))
  iexact H

/-- A landing buffer whose own block and received blocks are in place holds what the exchange leaves. -/
theorem land_join [∀ e, Nonempty (Elt F e)] (p : Fin 5) (c : Dev nD) :
    iprop(owns (c : Thread nD τ) (slot (bufM p) c) fullShare (slotV (landV m p c) c) ∗ bigSep Finset.univ fun j => recvPay m p c j)
      ⊢ owns (c : Thread nD τ) (bufM p) fullShare (landV m p c) := by
  refine (Entails.of_eq (bigSep_src c (fun e => owns (c : Thread nD τ) (slot (bufM p) e) fullShare (slotV (landV m p c) e))).symm).trans ?_
  exact owns_join offS S1x4x512.size inbS squeezes_S1x4x512_S4x512 c (bufM p) fullShare disjS covS (landV m p c)

/-! ## The sources of an exchange -/

/-- What device `c` sends from in a scattering exchange. -/
def sndV (p : Fin 5) (c : Dev nD) : S16x4x512.Idx → Elt F .bf16 :=
  match p with
  | 0 => snd0 m c
  | 1 => snd0 m c
  | 2 => snd1 m c
  | 3 => snd1 m c
  | 4 => snd2 m c

theorem land_snd (p : Fin 5) (hp : p = 0 ∨ p = 2 ∨ p = 4) (c e : Dev nD) : slotV (landV m p e) c = slotV (sndV m p c) e := by
  rcases hp with rfl | rfl | rfl
  · exact slotV_stack (fun e' => slotV (snd0 m e') e) c
  · exact slotV_stack (fun e' => slotV (snd1 m e') e) c
  · exact slotV_stack (fun e' => slotV (snd2 m e') e) c

/-- In a scattering exchange: the send buffer is its own block and the sources of the fifteen copies, -/
theorem scatter_split (p : Fin 5) (hp : p = 0 ∨ p = 2 ∨ p = 4) (c : Dev nD) :
    owns (c : Thread nD τ) sndM fullShare (sndV m p c)
      ⊢ iprop(owns (c : Thread nD τ) (slot sndM c) fullShare (slotV (landV m p c) c) ∗ bigSep Finset.univ fun j => srcPts m p c j) := by
  refine (owns_split offS S1x4x512.size inbS squeezes_S1x4x512_S4x512 c sndM fullShare disjS covS (sndV m p c)).trans (Entails.of_eq ?_)
  rw [bigSep_tgt c, land_snd m p hp]
  rcases hp with rfl | rfl | rfl <;> exact congrArg _ (bigSep_congr fun j _ => by
    unfold srcPts
    rw [land_snd m _ (by decide)])
/-- and back. -/
theorem scatter_join [∀ e, Nonempty (Elt F e)] (p : Fin 5) (hp : p = 0 ∨ p = 2 ∨ p = 4) (c : Dev nD) :
    iprop(owns (c : Thread nD τ) (slot sndM c) fullShare (slotV (landV m p c) c) ∗ bigSep Finset.univ fun j => srcPts m p c j)
      ⊢ owns (c : Thread nD τ) sndM fullShare (sndV m p c) := by
  refine Entails.trans (Entails.of_eq ?_) (owns_join offS S1x4x512.size inbS squeezes_S1x4x512_S4x512 c sndM fullShare disjS covS (sndV m p c))
  rw [bigSep_tgt c, land_snd m p hp]
  rcases hp with rfl | rfl | rfl <;> exact congrArg _ (bigSep_congr fun j _ => by
    unfold srcPts
    rw [land_snd m _ (by decide)])

/-- In a gathering exchange: the own block is what is left of it and the sources of the fifteen copies, -/
theorem gather_split (p : Fin 5) (hp : p = 1 ∨ p = 3) (c : Dev nD) :
    owns (c : Thread nD τ) (slot (bufM p) c) fullShare (slotV (landV m p c) c)
      ⊢ iprop(owns (c : Thread nD τ) (slot (bufM p) c) (Transfers.shareDrop fullShare 15) (slotV (landV m p c) c) ∗ bigSep Finset.univ fun j => srcPts m p c j) := by
  rcases hp with rfl | rfl <;> exact toks_split c _ _
/-- and back. -/
theorem gather_join (p : Fin 5) (hp : p = 1 ∨ p = 3) (c : Dev nD) :
    iprop(owns (c : Thread nD τ) (slot (bufM p) c) (Transfers.shareDrop fullShare 15) (slotV (landV m p c) c) ∗ bigSep Finset.univ fun j => srcPts m p c j)
      ⊢ owns (c : Thread nD τ) (slot (bufM p) c) fullShare (slotV (landV m p c) c) := by
  rcases hp with rfl | rfl <;> exact toks_join c _ _

/-! ## From run to run -/

variable (c : Dev nD)

/-- The places for `c` in the other devices' landing buffers of exchange `p`, -/
def Lands (p : Fin 5) : sProp 𝕄 := bigSep Finset.univ fun j => land p (tgt c j) c
/-- the right to signal each of the fifteen copies of exchange `p`, -/
def Toks (p : Fin 5) : sProp 𝕄 :=
  bigSep Finset.univ fun i => iprop(dutyTok ER (kcell c .send) p.val i ∗ dutyTok ER (kcell (tgt c i) (.recv p)) 0 i)
/-- and the right to wait for those of the other devices. -/
def Wts (p : Fin 5) : sProp 𝕄 := iprop(atPos ER (kcell c (.recv p)) 0 ∅ 0 ∗ cred (tallyAt (kcell c (.recv p)) () (15 * N)))

omit [FloatOps F] in
theorem sig_begin : iprop(OwO c (Obar c 15) ∗ bigSep Finset.univ fun i => iprop(dutyTok ER (kcell (tgt c i) .bar) 0 i.rev
    ∗ bigSep Finset.univ fun p : Fin 5 => land p c (tgt c i))) ⊢ (SigSt c 0 : sProp 𝕄) := by
  unfold SigSt
  rw [fromF_zero]
omit [FloatOps F] in
theorem sig_end : (SigSt c 15 : sProp 𝕄) ⊢ OwO c (Orem c 75) := by
  unfold SigSt
  rw [← Obar_zero]
  iintro ⟨H, -⟩
  iexact H

/-- The barrier hands over the places in the other devices' buffers. -/
theorem bar_end (O : CellTallies nD τ sig Unit) : WaitEnd m .bar 0 c O
    ⊢ iprop(OwO c O ∗ atPos ER (kcell c .bar) 1 ∅ 0 ∗ bigSep Finset.univ fun p => Lands c p) := by
  unfold WaitEnd
  iintro ⟨H1, H2, -, H3⟩
  isplitl [H1]; · iexact H1
  isplitl [H2]; · iexact H2
  ihave H3 := (Entails.of_eq (show bigSep (dutiesK .bar 0) (fun d => payloadK m c .bar 0 d) = bigSep Finset.univ fun p => Lands c p from
    Pipeline.bigSep_univ_comm fun (j : Fin 15) (p : Fin 5) => land p (tgt c j) c)) $$ H3
  iexact H3

/-- Before the first copy of exchange `p`; -/
theorem send_begin (p : Fin 5) :
    iprop(OwO c (Orem c (75 - 15 * p.val)) ∗ reached ER (kcell c .send) p.val ∗ (bigSep Finset.univ fun j => srcPts m p c j) ∗ Lands c p ∗ Toks c p)
      ⊢ SendSt m p c 0 := by
  unfold SendSt Lands Toks
  rw [fromF_zero, Nat.zero_mul, tallyAt_zero, cred_zero, Nat.add_zero]
  iintro ⟨HO, Hr, H1, H2, H3⟩
  isplitl [HO]; · iexact HO
  isplitl [H1 H2 H3]
  · simp only [bigSep_sep']
    isplitl [H1]; · iexact H1
    isplitl [H2]; · iexact H2
    iexact H3
  isplitr; · iempintro
  iexact Hr
/-- after the last. -/
theorem send_end (p : Fin 5) : SendSt m p c 15
    ⊢ iprop(OwO c (Orem c (75 - 15 * (p.val + 1))) ∗ cred (tallyAt (kcell c .send) () (15 * N))) := by
  unfold SendSt
  iintro ⟨HO, -, Hc, -⟩
  isplitl [HO]; · iexact HO
  iexact Hc

/-- Before the first wait of a round; -/
theorem wait_begin (k : KK) (r : ℕ) (O : CellTallies nD τ sig Unit) :
    iprop(OwO c O ∗ atPos ER (kcell c k) r ∅ 0 ∗ cred (tallyAt (kcell c k) () (15 * amountK k))) ⊢ WaitSt m k r c O 0 := by
  unfold WaitSt
  iintro ⟨HO, Ha, Hc⟩
  isplitl [HO]; · iexact HO
  isplitl [Ha]
  · iexists ∅
    rw [Nat.zero_mul, bigSep_empty]
    isplitl [Ha]; · iexact Ha
    iempintro
  iexact Hc
/-- after the last, on a receive semaphore, -/
theorem recv_end (p : Fin 5) (O : CellTallies nD τ sig Unit) : WaitEnd m (.recv p) 0 c O
    ⊢ iprop(OwO c O ∗ atPos ER (kcell c (.recv p)) 1 ∅ 0 ∗ bigSep Finset.univ fun j => recvPay m p c j) := by
  unfold WaitEnd
  iintro ⟨H1, H2, -, H3⟩
  isplitl [H1]; · iexact H1
  isplitl [H2]; · iexact H2
  iexact H3
/-- and on the send semaphore. -/
theorem sent_end (p : Fin 5) (O : CellTallies nD τ sig Unit) : WaitEnd m .send p.val c O
    ⊢ iprop(OwO c O ∗ atPos ER (kcell c .send) (p.val + 1) ∅ 0 ∗ reached ER (kcell c .send) (p.val + 1) ∗ bigSep Finset.univ fun j => srcPts m p c j) := by
  unfold WaitEnd
  iintro ⟨H1, H2, H4, H3⟩
  isplitl [H1]; · iexact H1
  isplitl [H2]; · iexact H2
  isplitl [H4]; · iexact H4
  ihave H3 := (Entails.of_eq (show bigSep (dutiesK .send p.val) (fun d => payloadK m c .send p.val d) = bigSep Finset.univ fun j => srcPts m p c j by
    rw [show dutiesK .send p.val = Finset.univ from if_pos p.isLt]
    exact bigSep_congr fun j _ => dif_pos p.isLt)) $$ H3
  iexact H3

/-! ## The weights -/

/-- What the copies of a layer's weights take, -/
def LdIn (l : Fin 3) : sProp 𝕄 :=
  iprop(owns (c : Thread nD τ) (argI l) fullShare (wI m c l) ∗ (∃ Y, owns (c : Thread nD τ) (layI wfI l) fullShare Y) ∗ dutyTok ER (kcell c (.lin l)) 0 0)
def LdOut (l : Fin 3) : sProp 𝕄 :=
  iprop(owns (c : Thread nD τ) (argO l) fullShare (wO m c l) ∗ (∃ Y, owns (c : Thread nD τ) (layO wfO l) fullShare Y) ∗ dutyTok ER (kcell c (.lout l)) 0 0)
/-- and what the waits for them and the narrowing take; -/
def Cst (l : Fin 3) : sProp 𝕄 :=
  iprop((∃ Y, owns (c : Thread nD τ) (layI wbI l) fullShare Y) ∗ (∃ Y, owns (c : Thread nD τ) (layO wbO l) fullShare Y)
    ∗ atPos ER (kcell c (.lin l)) 0 ∅ 0 ∗ atPos ER (kcell c (.lout l)) 0 ∅ 0)
/-- what is then there for good, -/
def Lde (l : Fin 3) : sProp 𝕄 :=
  iprop(linPay m l c ∗ loutPay m l c ∗ atPos ER (kcell c (.lin l)) 1 ∅ 0 ∗ atPos ER (kcell c (.lout l)) 1 ∅ 0)
/-- and the narrow weights. -/
def Wb (l : Fin 3) : sProp 𝕄 :=
  iprop(owns (c : Thread nD τ) (layI wbI l) fullShare (reI (wbi m c l)) ∗ owns (c : Thread nD τ) (layO wbO l) fullShare (reO (wbo m c l)))

end Cert.MlpProof
-- ==== Proof.Local.lean ====
/-
# A device's own work

Narrowing a layer's weights, as one rule: the two waits for the weights, the loads, and the two stores.
-/
module

public import proofs.«01_k».proof.Proof.Moves
public import proofs.«01_k».proof.Proof.Gen.KernelIdeal.Points
public import proofs.«01_k».proof.Proof.Gen.KernelIdeal.Launch

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × KK → ℕ) (c : Dev nD)

/-! ## Rules as steps: from what is held before to what is held after, with the rest kept aside -/

omit [FloatOps F] in
theorem shift {A C : sProp 𝕄} (B : sProp 𝕄) (h : A ⊢ B) (hk : B ⊢ C) : A ⊢ C := h.trans hk

theorem step {A P P' R W W' : sProp 𝕄} (h : A ∗ P ⊢ iprop((P' -∗ W') -∗ W)) [Persistent A] (hk : A ∗ P' ∗ R ⊢ W') : A ∗ P ∗ R ⊢ W := by
  iintro ⟨#HA, HP, HR⟩
  iapply h $$ [HP]
  · isplitr; · iexact HA
    iexact HP
  iintro HP
  iapply hk
  isplitr; · iexact HA
  isplitl [HP]; · iexact HP
  iexact HR

theorem stepL {A P P' R W W' : sProp 𝕄} (h : P ⊢ iprop((P' -∗ W') -∗ W)) (hk : A ∗ P' ∗ R ⊢ W') : A ∗ P ∗ R ⊢ W := by
  iintro ⟨HA, HP, HR⟩
  iapply h $$ HP
  iintro HP
  iapply hk
  isplitl [HA]; · iexact HA
  isplitl [HP]; · iexact HP
  iexact HR

theorem dev_step {α : Type} {Q : α → sProp 𝕄} {P : sProp 𝕄} {k : Dev nD → Prog (TpuEff nD τ sig (Elt F) Λ₀ .tc) α} (hk : P ⊢ WP c (k c) Q) :
    P ⊢ WP c (Prog.lift .deviceId >>= k) Q :=
  hk.trans (Entails.of_eq (wp_deviceId _ _ _ _).symm)

theorem ex_step {A R W : sProp 𝕄} {β : Type} {Φ : β → sProp 𝕄} (h : ∀ x, iprop(A ∗ Φ x ∗ R) ⊢ W) : iprop(A ∗ (∃ x, Φ x) ∗ R) ⊢ W := by
  iintro ⟨HA, ⟨%x, Hx⟩, HR⟩
  iapply (h x)
  isplitl [HA]; · iexact HA
  isplitl [Hx]; · iexact Hx
  iexact HR

/-- Loading a memref's whole, -/
theorem ld_whole {α : Type} {Q : α → sProp 𝕄} {A R : sProp 𝕄} {sp : CoreSpace} {s : Shape} {e : EltTy} {M : Memref sig .tc sp s e} (N : Memref sig .tc sp s e) (hM : M = N)
    {X : s.Idx → Elt F e} {off : Fin s.rank → ℕ} (hz : off = fun _ => 0) {inb : ∀ a, off a + s.size a ≤ s.size a} {hl}
    {k : (s.Idx → Elt F e) → Prog (TpuEff nD τ sig (Elt F) Λ₀ .tc) α}
    (hk : iprop(A ∗ owns (c : Thread nD τ) N fullShare X ∗ R) ⊢ WP c (k X) Q) :
    iprop(A ∗ owns (c : Thread nD τ) N fullShare X ∗ R) ⊢ WP c (Prog.lift (.load M (Rect.unit off s.size inb).toLoadRect hl) >>= k) Q := by
  subst hM
  exact stepL (load_whole c M hz) hk
/-- whatever it holds; -/
theorem ldx_whole {α : Type} {Q : α → sProp 𝕄} {A R : sProp 𝕄} {sp : CoreSpace} {s : Shape} {e : EltTy} {M : Memref sig .tc sp s e} (N : Memref sig .tc sp s e) (hM : M = N)
    {off : Fin s.rank → ℕ} (hz : off = fun _ => 0) {inb : ∀ a, off a + s.size a ≤ s.size a} {hl}
    {k : (s.Idx → Elt F e) → Prog (TpuEff nD τ sig (Elt F) Λ₀ .tc) α}
    (hk : ∀ X, iprop(A ∗ owns (c : Thread nD τ) N fullShare X ∗ R) ⊢ WP c (k X) Q) :
    iprop(A ∗ (∃ X, owns (c : Thread nD τ) N fullShare X) ∗ R) ⊢ WP c (Prog.lift (.load M (Rect.unit off s.size inb).toLoadRect hl) >>= k) Q :=
  ex_step fun X => ld_whole c N hM hz (hk X)
/-- storing it. -/
theorem st_whole {α : Type} {Q : α → sProp 𝕄} {A R : sProp 𝕄} {sp : CoreSpace} {s : Shape} {e : EltTy} {M : Memref sig .tc sp s e} (N : Memref sig .tc sp s e) (hM : M = N)
    {X : s.Idx → Elt F e} {off : Fin s.rank → ℕ} (hz : off = fun _ => 0) {inb : ∀ a, off a + s.size a ≤ s.size a} {w : s.Idx → Elt F e} {hs} {hm}
    (Y : s.Idx → Elt F e) (hw : w = Y) {k : PUnit → Prog (TpuEff nD τ sig (Elt F) Λ₀ .tc) α}
    (hk : iprop(A ∗ owns (c : Thread nD τ) N fullShare Y ∗ R) ⊢ WP c (k ⟨⟩) Q) :
    iprop(A ∗ owns (c : Thread nD τ) N fullShare X ∗ R) ⊢ WP c (Prog.lift (.store M (Rect.unit off s.size inb) w Finset.univ hs hm) >>= k) Q := by
  subst hM hw
  exact stepL (store_whole c M hz) hk

/-- Loading a block of an exchange buffer, -/
theorem ld_slot {α : Type} {Q : α → sProp 𝕄} {A R : sProp 𝕄} {M : Memref sig .tc .vmem S16x4x512 .bf16} (N : Memref sig .tc .vmem S16x4x512 .bf16) (hM : M = N) (d : Fin 16)
    {X : S4x512.Idx → Elt F .bf16} {off : Fin S16x4x512.rank → ℕ} (ho : off = offS d) {inb : ∀ a, off a + S1x4x512.size a ≤ S16x4x512.size a} {hl}
    {k : (S1x4x512.Idx → Elt F .bf16) → Prog (TpuEff nD τ sig (Elt F) Λ₀ .tc) α}
    (hk : iprop(A ∗ owns (c : Thread nD τ) (slot N d) fullShare X ∗ R) ⊢ WP c (k (unS X)) Q) :
    iprop(A ∗ owns (c : Thread nD τ) (slot N d) fullShare X ∗ R) ⊢ WP c (Prog.lift (.load M (Rect.unit off S1x4x512.size inb).toLoadRect hl) >>= k) Q := by
  subst hM
  exact stepL (load_piece c offS S1x4x512.size inbS squeezes_S1x4x512_S4x512 M d ho) hk
/-- whatever it holds; -/
theorem ldx_slot {α : Type} {Q : α → sProp 𝕄} {A R : sProp 𝕄} {M : Memref sig .tc .vmem S16x4x512 .bf16} (N : Memref sig .tc .vmem S16x4x512 .bf16) (hM : M = N) (d : Fin 16)
    {off : Fin S16x4x512.rank → ℕ} (ho : off = offS d) {inb : ∀ a, off a + S1x4x512.size a ≤ S16x4x512.size a} {hl}
    {k : (S1x4x512.Idx → Elt F .bf16) → Prog (TpuEff nD τ sig (Elt F) Λ₀ .tc) α}
    (hk : ∀ X, iprop(A ∗ owns (c : Thread nD τ) (slot N d) fullShare X ∗ R) ⊢ WP c (k (unS X)) Q) :
    iprop(A ∗ (∃ X, owns (c : Thread nD τ) (slot N d) fullShare X) ∗ R) ⊢ WP c (Prog.lift (.load M (Rect.unit off S1x4x512.size inb).toLoadRect hl) >>= k) Q :=
  ex_step fun X => ld_slot c N hM d ho (hk X)
/-- storing it. -/
theorem st_slot {α : Type} {Q : α → sProp 𝕄} {A R : sProp 𝕄} {M : Memref sig .tc .vmem S16x4x512 .bf16} (N : Memref sig .tc .vmem S16x4x512 .bf16) (hM : M = N) (d : Fin 16)
    {X : S4x512.Idx → Elt F .bf16} {off : Fin S16x4x512.rank → ℕ} (ho : off = offS d) {inb : ∀ a, off a + S1x4x512.size a ≤ S16x4x512.size a}
    {w : S1x4x512.Idx → Elt F .bf16} {hs} {hm} (Y : S4x512.Idx → Elt F .bf16) (hw : reS w = Y) {k : PUnit → Prog (TpuEff nD τ sig (Elt F) Λ₀ .tc) α}
    (hk : iprop(A ∗ owns (c : Thread nD τ) (slot N d) fullShare Y ∗ R) ⊢ WP c (k ⟨⟩) Q) :
    iprop(A ∗ owns (c : Thread nD τ) (slot N d) fullShare X ∗ R) ⊢ WP c (Prog.lift (.store M (Rect.unit off S1x4x512.size inb) w Finset.univ hs hm) >>= k) Q := by
  subst hM hw
  exact stepL (store_piece c offS S1x4x512.size inbS squeezes_S1x4x512_S4x512 M d ho) hk

theorem unI_reI {β : Type} (w : S1x512x1024.Idx → β) : unI (reI w) = w := funext fun j => congrArg w ((Shape.reshapeEquiv _).apply_symm_apply j)
theorem unO_reO {β : Type} (w : S1x1024x512.Idx → β) : unO (reO w) = w := funext fun j => congrArg w ((Shape.reshapeEquiv _).apply_symm_apply j)

/-- Loading a layer's narrow weights, the first, -/
theorem ld_wbI {α : Type} {Q : α → sProp 𝕄} {A R : sProp 𝕄} {M : Memref sig .tc .vmem S3x512x1024 .bf16} (hM : M = wbI) (l : Fin 3)
    {w : S1x512x1024.Idx → Elt F .bf16} {off : Fin S3x512x1024.rank → ℕ} (ho : off = offI l) {inb : ∀ a, off a + S1x512x1024.size a ≤ S3x512x1024.size a} {hl}
    {k : (S1x512x1024.Idx → Elt F .bf16) → Prog (TpuEff nD τ sig (Elt F) Λ₀ .tc) α}
    (hk : iprop(A ∗ owns (c : Thread nD τ) (layI wbI l) fullShare (reI w) ∗ R) ⊢ WP c (k w) Q) :
    iprop(A ∗ owns (c : Thread nD τ) (layI wbI l) fullShare (reI w) ∗ R) ⊢ WP c (Prog.lift (.load M (Rect.unit off S1x512x1024.size inb).toLoadRect hl) >>= k) Q := by
  subst hM
  exact stepL (load_piece c offI S1x512x1024.size inbI squeezes_S1x512x1024_S512x1024 wbI l ho) (hk.trans (Entails.of_eq (congrArg (fun v => WP c (k v) Q) (unI_reI w).symm)))
/-- and the second. -/
theorem ld_wbO {α : Type} {Q : α → sProp 𝕄} {A R : sProp 𝕄} {M : Memref sig .tc .vmem S3x1024x512 .bf16} (hM : M = wbO) (l : Fin 3)
    {w : S1x1024x512.Idx → Elt F .bf16} {off : Fin S3x1024x512.rank → ℕ} (ho : off = offO l) {inb : ∀ a, off a + S1x1024x512.size a ≤ S3x1024x512.size a} {hl}
    {k : (S1x1024x512.Idx → Elt F .bf16) → Prog (TpuEff nD τ sig (Elt F) Λ₀ .tc) α}
    (hk : iprop(A ∗ owns (c : Thread nD τ) (layO wbO l) fullShare (reO w) ∗ R) ⊢ WP c (k w) Q) :
    iprop(A ∗ owns (c : Thread nD τ) (layO wbO l) fullShare (reO w) ∗ R) ⊢ WP c (Prog.lift (.load M (Rect.unit off S1x1024x512.size inb).toLoadRect hl) >>= k) Q := by
  subst hM
  exact stepL (load_piece c offO S1x1024x512.size inbO squeezes_S1x1024x512_S1024x512 wbO l ho) (hk.trans (Entails.of_eq (congrArg (fun v => WP c (k v) Q) (unO_reO w).symm)))

/-- What a layer's weights are still to come with. -/
def Pend (l : Fin 3) : sProp 𝕄 :=
  iprop(Cst c l ∗ cred (tallyAt (kcell c (.lin l)) () (amountK (.lin l))) ∗ cred (tallyAt (kcell c (.lout l)) () (amountK (.lout l))))

theorem lv_lin (l : Fin 3) : lv ((c : Thread nD τ), csem (.lin l)) () = 0 := lv_k c (.lin l)
theorem lv_lout (l : Fin 3) : lv ((c : Thread nD τ), csem (.lout l)) () = 0 := lv_k c (.lout l)

theorem creditI (l : Fin 3) : (layI wfI l).view.dmaCredit = amountK (.lin l) := by
  match l with | 0 => rfl | 1 => rfl | 2 => rfl
theorem creditO (l : Fin 3) : (layO wfO l).view.dmaCredit = amountK (.lout l) := by
  match l with | 0 => rfl | 1 => rfl | 2 => rfl

/-- The copy of a layer's first weights, -/
theorem ldin_step {α : Type} {Q : α → sProp 𝕄} {R : sProp 𝕄} {k : PUnit → Prog (TpuEff nD τ sig (Elt F) Λ₀ .tc) α} (l : Fin 3)
    {S : Memref sig .tc .hbm S512x1024 .f32} {D : Memref sig .tc .vmem S512x1024 .f32} (hS : S = argI l) (hD : D = layI wfI l)
    {sem : DmaSem sig} (hsem : SemLoc.dma sem = csem (.lin l)) {h1} {h2} {h3}
    (hk : iprop(ctx m K ∗ cred (tallyAt (kcell c (.lin l)) () (amountK (.lin l))) ∗ R) ⊢ WP c (k ⟨⟩) Q) :
    iprop(ctx m K ∗ LdIn m c l ∗ R) ⊢ WP c (Prog.lift (.enqueueDma S (.here D) (.dma sem) h1 h2 h3) >>= k) Q := by
  subst hS hD
  exact step (copy_step m K c (kk := .lin l) (X := wI m c l) hsem (creditI l) rfl rfl) hk
/-- and of its second weights. -/
theorem ldout_step {α : Type} {Q : α → sProp 𝕄} {R : sProp 𝕄} {k : PUnit → Prog (TpuEff nD τ sig (Elt F) Λ₀ .tc) α} (l : Fin 3)
    {S : Memref sig .tc .hbm S1024x512 .f32} {D : Memref sig .tc .vmem S1024x512 .f32} (hS : S = argO l) (hD : D = layO wfO l)
    {sem : DmaSem sig} (hsem : SemLoc.dma sem = csem (.lout l)) {h1} {h2} {h3}
    (hk : iprop(ctx m K ∗ cred (tallyAt (kcell c (.lout l)) () (amountK (.lout l))) ∗ R) ⊢ WP c (k ⟨⟩) Q) :
    iprop(ctx m K ∗ LdOut m c l ∗ R) ⊢ WP c (Prog.lift (.enqueueDma S (.here D) (.dma sem) h1 h2 h3) >>= k) Q := by
  subst hS hD
  exact step (copy_step m K c (kk := .lout l) (X := wO m c l) hsem (creditO l) rfl rfl) hk

/-- The narrowing of layer `l`'s weights. -/
theorem cast_step {α : Type} {Q : α → sProp 𝕄} {k : PUnit → Prog (TpuEff nD τ sig (Elt F) Λ₀ .tc) α} (l : Fin 3) (n : ℕ) (hn : n ≤ 75)
    (f : (S1x512x1024.Idx → Elt F .f32) → S1x512x1024.Idx → Elt F .bf16) (g : (S1x1024x512.Idx → Elt F .f32) → S1x1024x512.Idx → Elt F .bf16)
    (hf : f (unI (wI m c l)) = wbi m c l) (hg : g (unO (wO m c l)) = wbo m c l)
    {sI sO : DmaSem sig} (hsI : SemLoc.dma sI = csem (.lin l)) (hsO : SemLoc.dma sO = csem (.lout l))
    {spI spO : Space} {SI : Memref sig .tc spI S512x1024 .f32} {SO : Memref sig .tc spO S1024x512 .f32}
    {DI : Memref sig .tc .vmem S512x1024 .f32} {DO : Memref sig .tc .vmem S1024x512 .f32}
    (hDI : DI = layI wfI l) (hDO : DO = layO wfO l)
    {oI : Fin S3x512x1024.rank → ℕ} (hoI : oI = offI l) {oO : Fin S3x1024x512.rank → ℕ} (hoO : oO = offO l)
    {iI : ∀ a, oI a + S1x512x1024.size a ≤ S3x512x1024.size a} {iO : ∀ a, oO a + S1x1024x512.size a ≤ S3x1024x512.size a}
    {h1} {h2} {h3} {h4} {h5} {h6} {h7} {h8} {h9} {h10} {h11} {h12} :
    iprop(ctx m K ∗ OwO c (Orem c n) ∗ Pend c l)
      ⊢ iprop(((OwO c (Orem c n) ∗ Lde m c l ∗ Wb m c l) -∗ WP c (k ⟨⟩) Q)
        -∗ WP c (do
            Prog.lift (.waitDma2 sI SI DI h1 h2)
            Prog.lift (.waitDma2 sO SO DO h3 h4)
            let v ← Prog.lift (.load wfI (Rect.unit oI S1x512x1024.size iI).toLoadRect h5)
            let _ ← Prog.lift (.load wbI (Rect.unit oI S1x512x1024.size iI).toLoadRect h6)
            Prog.lift (.store wbI (Rect.unit oI S1x512x1024.size iI) (f v) Finset.univ h7 h8)
            let w ← Prog.lift (.load wfO (Rect.unit oO S1x1024x512.size iO).toLoadRect h9)
            let _ ← Prog.lift (.load wbO (Rect.unit oO S1x1024x512.size iO).toLoadRect h10)
            Prog.lift (.store wbO (Rect.unit oO S1x1024x512.size iO) (g w) Finset.univ h11 h12) >>= k) Q) := by
  subst hDI hDO
  unfold Pend Cst Lde Wb
  iintro ⟨#Hc, HO, ⟨⟨%Y, HbI⟩, ⟨%Z, HbO⟩, HaI, HaO⟩, HcI, HcO⟩ Hk
  iapply (copy_wait m K c (kk := .lin l) rfl hsI (creditI l) (mayWait_low c _ (lv_lin c l) n hn)) $$ [HO HaI HcI]
  · isplitr; · iexact Hc
    isplitl [HO]; · iexact HO
    isplitl [HaI]; · iexact HaI
    iexact HcI
  iintro ⟨HO, HaI, HpI⟩
  iapply (copy_wait m K c (kk := .lout l) rfl hsO (creditO l) (mayWait_low c _ (lv_lout c l) n hn)) $$ [HO HaO HcO]
  · isplitr; · iexact Hc
    isplitl [HO]; · iexact HO
    isplitl [HaO]; · iexact HaO
    iexact HcO
  iintro ⟨HO, HaO, HpO⟩
  ihave HpI := (show payloadK m c (.lin l) 0 0 ⊢ iprop(owns (c : Thread nD τ) (layI wfI l) fullShare (wI m c l) ∗ owns (c : Thread nD τ) (argI l) fullShare (wI m c l)) from
    Entails.of_eq (by unfold payloadK linPay; rfl)) $$ HpI
  icases HpI with ⟨HfI, HgI⟩
  ihave HpO := (show payloadK m c (.lout l) 0 0 ⊢ iprop(owns (c : Thread nD τ) (layO wfO l) fullShare (wO m c l) ∗ owns (c : Thread nD τ) (argO l) fullShare (wO m c l)) from
    Entails.of_eq (by unfold payloadK loutPay; rfl)) $$ HpO
  icases HpO with ⟨HfO, HgO⟩
  iapply (load_piece c offI S1x512x1024.size inbI squeezes_S1x512x1024_S512x1024 wfI l hoI) $$ [HfI]
  · iexact HfI
  iintro HfI
  iapply (load_piece c offI S1x512x1024.size inbI squeezes_S1x512x1024_S512x1024 wbI l hoI) $$ [HbI]
  · iexact HbI
  iintro HbI
  iapply (store_piece c offI S1x512x1024.size inbI squeezes_S1x512x1024_S512x1024 wbI l hoI) $$ [HbI]
  · iexact HbI
  iintro HbI
  iapply (load_piece c offO S1x1024x512.size inbO squeezes_S1x1024x512_S1024x512 wfO l hoO) $$ [HfO]
  · iexact HfO
  iintro HfO
  iapply (load_piece c offO S1x1024x512.size inbO squeezes_S1x1024x512_S1024x512 wbO l hoO) $$ [HbO]
  · iexact HbO
  iintro HbO
  iapply (store_piece c offO S1x1024x512.size inbO squeezes_S1x1024x512_S1024x512 wbO l hoO) $$ [HbO]
  · iexact HbO
  iintro HbO
  iapply Hk
  rw [hf, hg]
  isplitl [HO]; · iexact HO
  isplitl [HfI HgI HfO HgO HaI HaO]
  · isplitl [HfI HgI]
    · unfold linPay
      isplitl [HfI]; · iexact HfI
      iexact HgI
    isplitl [HfO HgO]
    · unfold loutPay
      isplitl [HfO]; · iexact HfO
      iexact HgO
    isplitl [HaI]; · iexact HaI
    iexact HaO
  isplitl [HbI]; · iexact HbI
  iexact HbO

end Cert.MlpProof
-- ==== Proof.Phases.lean ====
/-
# An exchange, from its start to its end

What a device holds between the runs of steps of one exchange, and how it passes from one run to the next.
-/
module

public import proofs.«01_k».proof.Proof.Local
public import proofs.«01_k».proof.Proof.Gen.KernelIdeal.Points
public import proofs.«01_k».proof.Proof.Gen.KernelIdeal.Launch

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD)

/-- Between two exchanges: what is still owed, and the send semaphore at rest. -/
def Thr (r : ℕ) : sProp 𝕄 := iprop(OwO c (Orem c (75 - 15 * r)) ∗ atPos ER (kcell c .send) r ∅ 0 ∗ reached ER (kcell c .send) r)
/-- What exchange `p` is yet to use. -/
def Ph (p : Fin 5) : sProp 𝕄 := iprop(Lands c p ∗ land p c c ∗ Toks c p ∗ Wts c p)
/-- While the copies of exchange `p` are started: the rights to wait. -/
def WA (p : Fin 5) : sProp 𝕄 := iprop(Wts c p ∗ atPos ER (kcell c .send) p.val ∅ 0)
/-- Once they are, -/
def Pd (p : Fin 5) : sProp 𝕄 := iprop(cred (tallyAt (kcell c .send) () (15 * N)) ∗ WA c p)
/-- while the other devices' copies are waited for, -/
def Sn (p : Fin 5) : sProp 𝕄 := iprop(cred (tallyAt (kcell c .send) () (15 * N)) ∗ atPos ER (kcell c .send) p.val ∅ 0)
/-- and once they have landed. -/
def Got (p : Fin 5) : sProp 𝕄 := iprop((bigSep Finset.univ fun j => recvPay m p c j) ∗ atPos ER (kcell c (.recv p)) 1 ∅ 0)

omit [FloatOps F] in
theorem swap {A X Y R : sProp 𝕄} : iprop(A ∗ X ∗ (Y ∗ R)) ⊢ iprop(A ∗ Y ∗ (X ∗ R)) := by
  iintro ⟨HA, HX, HY, HR⟩
  isplitl [HA]; · iexact HA
  isplitl [HY]; · iexact HY
  isplitl [HX]; · iexact HX
  iexact HR

/-- A scattering exchange starts from the full send buffer, -/
theorem scatter_begin {A R : sProp 𝕄} (p : Fin 5) (hp : p = 0 ∨ p = 2 ∨ p = 4) :
    iprop(A ∗ owns (c : Thread nD τ) sndM fullShare (sndV m p c) ∗ (Thr c p.val ∗ Ph c p ∗ R))
      ⊢ iprop(A ∗ SendSt m p c 0 ∗ (WA c p ∗ owns (c : Thread nD τ) (slot sndM c) fullShare (slotV (landV m p c) c) ∗ land p c c ∗ R)) := by
  unfold Thr Ph WA
  iintro ⟨HA, Hs, ⟨HO, Hat, Hr⟩, ⟨Hl, Hc, Ht, Hw⟩, HR⟩
  ihave Hs := (scatter_split m p hp c) $$ Hs
  icases Hs with ⟨Hs, Hp⟩
  isplitl [HA]; · iexact HA
  isplitl [HO Hr Hl Ht Hp]
  · iapply (send_begin m c p)
    isplitl [HO]; · iexact HO
    isplitl [Hr]; · iexact Hr
    isplitl [Hp]; · iexact Hp
    isplitl [Hl]; · iexact Hl
    iexact Ht
  isplitl [Hw Hat]
  · isplitl [Hw]; · iexact Hw
    iexact Hat
  isplitl [Hs]; · iexact Hs
  isplitl [Hc]; · iexact Hc
  iexact HR

/-- a gathering one from the device's own block. -/
theorem gather_begin {A R : sProp 𝕄} (p : Fin 5) (hp : p = 1 ∨ p = 3) :
    iprop(A ∗ owns (c : Thread nD τ) (slot (bufM p) c) fullShare (slotV (landV m p c) c) ∗ (Thr c p.val ∗ Lands c p ∗ Toks c p ∗ Wts c p ∗ R))
      ⊢ iprop(A ∗ SendSt m p c 0 ∗ (WA c p ∗ owns (c : Thread nD τ) (slot (bufM p) c) (Transfers.shareDrop fullShare 15) (slotV (landV m p c) c) ∗ R)) := by
  unfold Thr WA
  iintro ⟨HA, Hs, ⟨HO, Hat, Hr⟩, Hl, Ht, Hw, HR⟩
  ihave Hs := (gather_split m p hp c) $$ Hs
  icases Hs with ⟨Hs, Hp⟩
  isplitl [HA]; · iexact HA
  isplitl [HO Hr Hl Ht Hp]
  · iapply (send_begin m c p)
    isplitl [HO]; · iexact HO
    isplitl [Hr]; · iexact Hr
    isplitl [Hp]; · iexact Hp
    isplitl [Hl]; · iexact Hl
    iexact Ht
  isplitl [Hw Hat]
  · isplitl [Hw]; · iexact Hw
    iexact Hat
  isplitl [Hs]; · iexact Hs
  iexact HR

/-- All copies started: -/
theorem phase_sent {A R : sProp 𝕄} (p : Fin 5) : iprop(A ∗ SendSt m p c 15 ∗ (WA c p ∗ R)) ⊢ iprop(A ∗ OwO c (Orem c (75 - 15 * (p.val + 1))) ∗ (Pd c p ∗ R)) := by
  unfold Pd
  iintro ⟨HA, HS, HW, HR⟩
  ihave HS := (send_end m c p) $$ HS
  icases HS with ⟨HO, Hc⟩
  isplitl [HA]; · iexact HA
  isplitl [HO]; · iexact HO
  isplitl [Hc HW]
  · isplitl [Hc]; · iexact Hc
    iexact HW
  iexact HR
/-- before the waits for those of the other devices, -/
theorem phase_recv {A R : sProp 𝕄} (p : Fin 5) (O : CellTallies nD τ sig Unit) :
    iprop(A ∗ OwO c O ∗ (Pd c p ∗ R)) ⊢ iprop(A ∗ WaitSt m (.recv p) 0 c O 0 ∗ (Sn c p ∗ R)) := by
  unfold Pd Sn WA Wts
  iintro ⟨HA, HO, ⟨Hc, ⟨Hw, Hcr⟩, Hat⟩, HR⟩
  isplitl [HA]; · iexact HA
  isplitl [HO Hw Hcr]
  · iapply (wait_begin m c (.recv p) 0 O)
    isplitl [HO]; · iexact HO
    isplitl [Hw]; · iexact Hw
    iexact Hcr
  isplitl [Hc Hat]
  · isplitl [Hc]; · iexact Hc
    iexact Hat
  iexact HR
/-- before the waits for its own, -/
theorem phase_send {A R : sProp 𝕄} (p : Fin 5) (O : CellTallies nD τ sig Unit) :
    iprop(A ∗ WaitEnd m (.recv p) 0 c O ∗ (Sn c p ∗ R)) ⊢ iprop(A ∗ WaitSt m .send p.val c O 0 ∗ (Got m c p ∗ R)) := by
  unfold Sn Got
  iintro ⟨HA, HW, ⟨Hc, Hat⟩, HR⟩
  ihave HW := (recv_end m c p O) $$ HW
  icases HW with ⟨HO, Ha, Hp⟩
  isplitl [HA]; · iexact HA
  isplitl [HO Hat Hc]
  · iapply (wait_begin m c .send p.val O)
    isplitl [HO]; · iexact HO
    isplitl [Hat]; · iexact Hat
    iexact Hc
  isplitl [Hp Ha]
  · isplitl [Hp]; · iexact Hp
    iexact Ha
  iexact HR
/-- and after all. -/
theorem scatter_end {A R : sProp 𝕄} [∀ e, Nonempty (Elt F e)] (p : Fin 5) (hp : p = 0 ∨ p = 2 ∨ p = 4) :
    iprop(A ∗ WaitEnd m .send p.val c (Orem c (75 - 15 * (p.val + 1))) ∗ (Got m c p
        ∗ owns (c : Thread nD τ) (slot sndM c) fullShare (slotV (landV m p c) c) ∗ owns (c : Thread nD τ) (slot (bufM p) c) fullShare (slotV (landV m p c) c) ∗ R))
      ⊢ iprop(A ∗ owns (c : Thread nD τ) (bufM p) fullShare (landV m p c) ∗ (Thr c (p.val + 1) ∗ owns (c : Thread nD τ) sndM fullShare (sndV m p c)
        ∗ atPos ER (kcell c (.recv p)) 1 ∅ 0 ∗ R)) := by
  unfold Got Thr
  iintro ⟨HA, HW, ⟨Hp, Ha⟩, Hs, Hb, HR⟩
  ihave HW := (sent_end m c p _) $$ HW
  icases HW with ⟨HO, Hat, Hr, Hsp⟩
  isplitl [HA]; · iexact HA
  isplitl [Hb Hp]
  · iapply (land_join m p c)
    isplitl [Hb]; · iexact Hb
    iexact Hp
  isplitl [HO Hat Hr]
  · isplitl [HO]; · iexact HO
    isplitl [Hat]; · iexact Hat
    iexact Hr
  isplitl [Hs Hsp]
  · iapply (scatter_join m p hp c)
    isplitl [Hs]; · iexact Hs
    iexact Hsp
  isplitl [Ha]; · iexact Ha
  iexact HR

theorem gather_end {A R : sProp 𝕄} [∀ e, Nonempty (Elt F e)] (p : Fin 5) (hp : p = 1 ∨ p = 3) :
    iprop(A ∗ WaitEnd m .send p.val c (Orem c (75 - 15 * (p.val + 1))) ∗ (Got m c p
        ∗ owns (c : Thread nD τ) (slot (bufM p) c) (Transfers.shareDrop fullShare 15) (slotV (landV m p c) c) ∗ R))
      ⊢ iprop(A ∗ owns (c : Thread nD τ) (bufM p) fullShare (landV m p c) ∗ (Thr c (p.val + 1) ∗ atPos ER (kcell c (.recv p)) 1 ∅ 0 ∗ R)) := by
  unfold Got Thr
  iintro ⟨HA, HW, ⟨Hp, Ha⟩, Hb, HR⟩
  ihave HW := (sent_end m c p _) $$ HW
  icases HW with ⟨HO, Hat, Hr, Hsp⟩
  isplitl [HA]; · iexact HA
  isplitl [Hb Hp Hsp]
  · iapply (land_join m p c)
    isplitl [Hb Hsp]
    · iapply (gather_join m p hp c)
      isplitl [Hb]; · iexact Hb
      iexact Hsp
    iexact Hp
  isplitl [HO Hat Hr]
  · isplitl [HO]; · iexact HO
    isplitl [Hat]; · iexact Hat
    iexact Hr
  isplitl [Ha]; · iexact Ha
  iexact HR

end Cert.MlpProof
-- ==== Proof.Body.lean ====
/-
# A device's run

The kernel's body at a device, from its start to its end.
-/
module

public import proofs.«01_k».proof.Proof.Phases
public import proofs.«01_k».proof.Proof.Gen.KernelIdeal.Points
public import proofs.«01_k».proof.Proof.Gen.KernelIdeal.Launch
public import Idealize.ShloMosaic.Lib.Pipeline.Value

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × KK → ℕ) (c : Dev nD)

abbrev inM : Memref sig .tc .vmem S64x512 .f32 := Memref.whole cc0_stg0_0
abbrev outM : Memref sig .tc .vmem S4x512 .f32 := Memref.whole cc0_stg1_0

/-! ## The printed offsets -/

theorem off2_eq (d : Dev nD) (j : Fin 15) : k0_off2 d (BitVec.ofNat 32 (j.val + 1)) = offS (tgt d j) := by
  revert d j; decide +kernel

omit [FloatOps F] in
/-- A block cut out at the offsets of block `d` is block `d`. -/
theorem slot_eq {sp : Space} {e : EltTy} (M : Memref sig .tc sp S16x4x512 e) {d : Fin 16} {off : Fin S16x4x512.rank → ℕ} (h : off = offS d)
    {inb : ∀ a, off a + S1x4x512.size a ≤ S16x4x512.size a} {hu} {hs} :
    (M.slice (Rect.unit (s := S16x4x512) off S1x4x512.size inb) hu).squeeze S4x512 hs = slot M d := by
  subst h; rfl

/-! ## The blocks a device keeps for itself -/

theorem re_un {β : Type} (X : S4x512.Idx → β) : reS (unS X) = X := funext fun j => congrArg X ((Shape.reshapeEquiv _).symm_apply_apply j)
theorem own0 (X : S4x512.Idx → Elt F .bf16) : reS (k0_pay7 (k0_pay6 (unS X))) = X :=
  (congrArg reS (shapeCast_shapeCast (unS X) _ _)).trans (re_un X)
theorem own2 (X : S4x512.Idx → Elt F .bf16) : reS (k0_pay15 (unS X)) = X :=
  (congrArg reS (shapeCast_shapeCast (unS X) _ _)).trans (re_un X)
theorem own4 (X : S4x512.Idx → Elt F .bf16) : reS (k0_pay18 (unS X)) = X :=
  (congrArg reS (shapeCast_shapeCast (unS X) _ _)).trans (re_un X)
theorem own1 : reS (k0_pay10 (rs0 m c)) = slotV (landV m 1 c) c := (slotV_stack (fun e => reS (k0_pay10 (rs0 m e))) c).symm
theorem own3 : reS (k0_pay16 (rs1 m c)) = slotV (landV m 3 c) c := (slotV_stack (fun e => reS (k0_pay16 (rs1 m e))) c).symm

theorem zero2 : (![0, 0] : Fin 2 → ℕ) = fun _ => 0 := by decide
theorem zero3 : (![0, 0, 0] : Fin 3 → ℕ) = fun _ => 0 := by decide

/-! ## The run -/

/-- What device `c` holds when its kernel starts, the weights aside; -/
def Start : sProp 𝕄 :=
  iprop(OwO c (Obar c 15)
    ∗ (bigSep Finset.univ fun i => iprop(dutyTok ER (kcell (tgt c i) .bar) 0 i.rev ∗ bigSep Finset.univ fun p : Fin 5 => land p c (tgt c i)))
    ∗ (atPos ER (kcell c .bar) 0 ∅ 0 ∗ cred (tallyAt (kcell c .bar) () 15))
    ∗ (bigSep Finset.univ fun p : Fin 5 => iprop(land p c c ∗ Toks c p ∗ Wts c p))
    ∗ (atPos ER (kcell c .send) 0 ∅ 0 ∗ reached ER (kcell c .send) 0)
    ∗ owns (c : Thread nD τ) inM fullShare (xV m c) ∗ (∃ X, owns (c : Thread nD τ) outM fullShare X)
    ∗ (∃ X, owns (c : Thread nD τ) sndM fullShare X))
/-- and with them. -/
def Init : sProp 𝕄 :=
  iprop((bigSep Finset.univ fun l => LdIn m c l) ∗ (bigSep Finset.univ fun l => LdOut m c l) ∗ (bigSep Finset.univ fun l => Cst c l) ∗ Start m c)

omit [FloatOps F] in
theorem nxt {A D X R C : sProp 𝕄} : iprop(A ∗ D ∗ ((X ∗ R) ∗ C)) ⊢ iprop(A ∗ X ∗ (R ∗ (D ∗ C))) := by
  iintro ⟨HA, HD, ⟨HX, HR⟩, HC⟩
  isplitl [HA]; · iexact HA
  isplitl [HX]; · iexact HX
  isplitl [HR]; · iexact HR
  isplitl [HD]; · iexact HD
  iexact HC

/-- A layer's weights, in both formats. -/
def Kept (l : Fin 3) : sProp 𝕄 := iprop(Lde m c l ∗ Wb m c l)
/-- What exchange `p` leaves. -/
def Dn (p : Fin 5) : sProp 𝕄 := iprop(owns (c : Thread nD τ) (bufM p) fullShare (landV m p c) ∗ atPos ER (kcell c (.recv p)) 1 ∅ 0)
/-- What only the start and the end touch. -/
def Rest : sProp 𝕄 :=
  iprop(owns (c : Thread nD τ) inM fullShare (xV m c) ∗ (∃ X, owns (c : Thread nD τ) outM fullShare X) ∗ atPos ER (kcell c .bar) 1 ∅ 0)
/-- What the waits for the weights and for the exchanges are still to use. -/
def Pends : sProp 𝕄 :=
  iprop(Pend c 0 ∗ Pend c 1 ∗ Pend c 2 ∗ (bigSep Finset.univ fun p : Fin 5 => iprop(land p c c ∗ Toks c p ∗ Wts c p))
    ∗ (atPos ER (kcell c .send) 0 ∅ 0 ∗ reached ER (kcell c .send) 0))

/-- What device `c` holds when its kernel ends. -/
def Ends : sProp 𝕄 :=
  iprop(Thr c 5 ∗ owns (c : Thread nD τ) inM fullShare (xV m c) ∗ owns (c : Thread nD τ) outM fullShare (outV m c) ∗ atPos ER (kcell c .bar) 1 ∅ 0
    ∗ owns (c : Thread nD τ) sndM fullShare (snd2 m c) ∗ (Dn m c 0 ∗ Dn m c 1 ∗ Dn m c 2 ∗ Dn m c 3 ∗ Dn m c 4) ∗ (Kept m c 0 ∗ Kept m c 1 ∗ Kept m c 2))

set_option maxHeartbeats 0 in
set_option maxRecDepth 65536 in
/-- The kernel's body runs at every device, from what it holds at the start to what it holds at the end. -/
theorem sound [∀ e, Nonempty (Elt F e)] (Q : PUnit → sProp 𝕄) (hQ : iprop(ctx m K ∗ Ends m c) ⊢ |={Set.univ}=> Q ⟨⟩) :
    iprop(ctx m K ∗ Init m c) ⊢ WP c (bodyAt0 t0_0) Q := by
  unfold bodyAt0
  rw [cc0_body_eq_skeleton]
  unfold cc0_body_skel
  rw [k0_part89_eq_skeleton]
  unfold k0_part89_skel
  simp (implicitDefEqProofs := false) only [Prog.pure_eq_ret, Prog.bind_ret, Prog.bind_assoc, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel]
  refine dev_step c ?_
  -- the copies of the weights
  refine shift (iprop(ctx m K ∗ LdIn m c 0 ∗ ((LdOut m c 0 ∗ LdIn m c 1 ∗ LdOut m c 1 ∗ LdIn m c 2 ∗ LdOut m c 2 ∗ emp)
      ∗ (bigSep Finset.univ fun l => Cst c l) ∗ Start m c))) ?_ ?_
  · unfold Init
    simp only [bigSep_three (LdIn m c), bigSep_three (LdOut m c)]
    iintro ⟨#Hc, ⟨H1, H3, H5⟩, ⟨H2, H4, H6⟩, H7, H8⟩
    isplitr; · iexact Hc
    isplitl [H1]; · iexact H1
    isplitl [H2 H3 H4 H5 H6]
    · isplitl [H2]; · iexact H2
      isplitl [H3]; · iexact H3
      isplitl [H4]; · iexact H4
      isplitl [H5]; · iexact H5
      isplitl [H6]; · iexact H6
      iempintro
    isplitl [H7]; · iexact H7
    iexact H8
  refine ldin_step m K c 0 rfl rfl rfl ?_
  refine shift _ nxt ?_
  refine ldout_step m K c 0 rfl rfl rfl ?_
  refine shift _ nxt ?_
  refine ldin_step m K c 1 rfl rfl rfl ?_
  refine shift _ nxt ?_
  refine ldout_step m K c 1 rfl rfl rfl ?_
  refine shift _ nxt ?_
  refine ldin_step m K c 2 rfl rfl rfl ?_
  refine shift _ nxt ?_
  refine ldout_step m K c 2 rfl rfl rfl ?_
  -- the signals of the barrier
  refine shift (iprop(ctx m K ∗ SigSt c 0 ∗ ((atPos ER (kcell c .bar) 0 ∅ 0 ∗ cred (tallyAt (kcell c .bar) () 15))
      ∗ owns (c : Thread nD τ) inM fullShare (xV m c) ∗ (∃ X, owns (c : Thread nD τ) outM fullShare X)
      ∗ (∃ X, owns (c : Thread nD τ) sndM fullShare X) ∗ Pends c))) ?_ ?_
  · unfold Start Pends Pend
    simp only [bigSep_three (Cst c)]
    iintro ⟨#Hc, Hk6, -, Hk5, Hk4, Hk3, Hk2, Hk1, ⟨HC1, HC2, HC3⟩, HO, Hs, Hb, Hp, Hsd, Hi, Ho, Hsn⟩
    isplitr; · iexact Hc
    isplitl [HO Hs]
    · iapply (sig_begin c)
      isplitl [HO]; · iexact HO
      iexact Hs
    isplitl [Hb]; · iexact Hb
    isplitl [Hi]; · iexact Hi
    isplitl [Ho]; · iexact Ho
    isplitl [Hsn]; · iexact Hsn
    isplitl [HC1 Hk1 Hk2]
    · isplitl [HC1]; · iexact HC1
      isplitl [Hk1]; · iexact Hk1
      iexact Hk2
    isplitl [HC2 Hk3 Hk4]
    · isplitl [HC2]; · iexact HC2
      isplitl [Hk3]; · iexact Hk3
      iexact Hk4
    isplitl [HC3 Hk5 Hk6]
    · isplitl [HC3]; · iexact HC3
      isplitl [Hk5]; · iexact Hk5
      iexact Hk6
    isplitl [Hp]; · iexact Hp
    iexact Hsd
  iterate 15 refine sig_step m K c (by decide) (Fin.ext (by clear hQ; revert c; decide +kernel)) rfl ?_
  -- the first layer's product
  refine shift (iprop(ctx m K ∗ owns (c : Thread nD τ) inM fullShare (xV m c) ∗ ((OwO c (Orem c 75) ∗ Pend c 0)
      ∗ (atPos ER (kcell c .bar) 0 ∅ 0 ∗ cred (tallyAt (kcell c .bar) () 15)) ∗ (∃ X, owns (c : Thread nD τ) outM fullShare X)
      ∗ (∃ X, owns (c : Thread nD τ) sndM fullShare X) ∗ Pend c 1 ∗ Pend c 2
      ∗ (bigSep Finset.univ fun p : Fin 5 => iprop(land p c c ∗ Toks c p ∗ Wts c p)) ∗ (atPos ER (kcell c .send) 0 ∅ 0 ∗ reached ER (kcell c .send) 0)))) ?_ ?_
  · unfold Pends
    iintro ⟨#Hc, HS, Hb, Hi, Ho, Hsn, HP0, HP1, HP2, Hp, Hsd⟩
    isplitr; · iexact Hc
    isplitl [Hi]; · iexact Hi
    isplitl [HS HP0]
    · isplitl [HS]
      · iapply (sig_end c)
        iexact HS
      iexact HP0
    isplitl [Hb]; · iexact Hb
    isplitl [Ho]; · iexact Ho
    isplitl [Hsn]; · iexact Hsn
    isplitl [HP1]; · iexact HP1
    isplitl [HP2]; · iexact HP2
    isplitl [Hp]; · iexact Hp
    iexact Hsd
  refine ld_whole c inM rfl zero2 ?_
  refine shift _ swap ?_
  refine step (cast_step m K c 0 75 (le_refl _) k0_pay2 k0_pay3 rfl rfl rfl rfl rfl rfl rfl rfl) ?_
  refine shift (iprop(ctx m K ∗ owns (c : Thread nD τ) (layI wbI 0) fullShare (reI (wbi m c 0)) ∗ (owns (c : Thread nD τ) (layO wbO 0) fullShare (reO (wbo m c 0))
      ∗ (∃ X, owns (c : Thread nD τ) sndM fullShare X)
      ∗ (OwO c (Orem c 75) ∗ atPos ER (kcell c .bar) 0 ∅ 0 ∗ cred (tallyAt (kcell c .bar) () 15))
      ∗ Lde m c 0 ∗ owns (c : Thread nD τ) inM fullShare (xV m c) ∗ (∃ X, owns (c : Thread nD τ) outM fullShare X) ∗ Pend c 1 ∗ Pend c 2
      ∗ (bigSep Finset.univ fun p : Fin 5 => iprop(land p c c ∗ Toks c p ∗ Wts c p)) ∗ (atPos ER (kcell c .send) 0 ∅ 0 ∗ reached ER (kcell c .send) 0)))) ?_ ?_
  · unfold Wb
    iintro ⟨#Hc, ⟨HO, Hl, Hw1, Hw2⟩, Hi, ⟨Hb1, Hb2⟩, Ho, Hsn, HP1, HP2, Hp, Hsd⟩
    isplitr; · iexact Hc
    isplitl [Hw1]; · iexact Hw1
    isplitl [Hw2]; · iexact Hw2
    isplitl [Hsn]; · iexact Hsn
    isplitl [HO Hb1 Hb2]
    · isplitl [HO]; · iexact HO
      isplitl [Hb1]; · iexact Hb1
      iexact Hb2
    isplitl [Hl]; · iexact Hl
    isplitl [Hi]; · iexact Hi
    isplitl [Ho]; · iexact Ho
    isplitl [HP1]; · iexact HP1
    isplitl [HP2]; · iexact HP2
    isplitl [Hp]; · iexact Hp
    iexact Hsd
  refine ld_wbI c rfl 0 rfl ?_
  refine shift _ swap ?_
  refine ld_wbO c rfl 0 rfl ?_
  refine shift (iprop(ctx m K ∗ (∃ X, owns (c : Thread nD τ) sndM fullShare X)
      ∗ ((OwO c (Orem c 75) ∗ atPos ER (kcell c .bar) 0 ∅ 0 ∗ cred (tallyAt (kcell c .bar) () 15))
      ∗ Kept m c 0 ∗ owns (c : Thread nD τ) inM fullShare (xV m c) ∗ (∃ X, owns (c : Thread nD τ) outM fullShare X) ∗ Pend c 1 ∗ Pend c 2
      ∗ (bigSep Finset.univ fun p : Fin 5 => iprop(land p c c ∗ Toks c p ∗ Wts c p)) ∗ (atPos ER (kcell c .send) 0 ∅ 0 ∗ reached ER (kcell c .send) 0)))) ?_ ?_
  · unfold Kept Wb
    iintro ⟨#Hc, Hw2, Hw1, Hsn, Hb, Hl, HR⟩
    isplitr; · iexact Hc
    isplitl [Hsn]; · iexact Hsn
    isplitl [Hb]; · iexact Hb
    isplitl [Hl Hw1 Hw2]
    · isplitl [Hl]; · iexact Hl
      isplitl [Hw1]; · iexact Hw1
      iexact Hw2
    iexact HR
  refine ldx_whole c sndM rfl zero3 fun X0 => ?_
  refine st_whole c sndM rfl zero3 (snd0 m c) rfl ?_
  refine shift _ swap ?_
  -- the barrier
  refine bar_step m K c rfl ?_
  -- exchange 0
  refine shift (iprop(ctx m K ∗ owns (c : Thread nD τ) sndM fullShare (sndV m 0 c) ∗ (Thr c (0 : Fin 5).val ∗ Ph c 0 ∗ (Ph c 1 ∗ Ph c 2 ∗ Ph c 3 ∗ Ph c 4)
      ∗ Pend c 1 ∗ Pend c 2 ∗ Kept m c 0 ∗ Rest m c))) ?_ ?_
  · iintro ⟨#Hc, HW, Hsn, Hk, Hi, Ho, HP1, HP2, Hp, Hs1, Hs2⟩
    ihave HW := (bar_end m c _) $$ HW
    icases HW with ⟨HO, Hb, Hl⟩
    ihave Hp := (Entails.of_eq (bigSep_five (fun p : Fin 5 => iprop(land p c c ∗ Toks c p ∗ Wts c p)))) $$ Hp
    ihave Hl := (Entails.of_eq (bigSep_five (fun p : Fin 5 => Lands c p))) $$ Hl
    icases Hp with ⟨Hp0, Hp1, Hp2, Hp3, Hp4⟩
    icases Hl with ⟨Hl0, Hl1, Hl2, Hl3, Hl4⟩
    unfold Thr Ph Rest
    isplitr; · iexact Hc
    isplitl [Hsn]; · iexact Hsn
    isplitl [HO Hs1 Hs2]
    · isplitl [HO]; · iexact HO
      isplitl [Hs1]; · iexact Hs1
      iexact Hs2
    isplitl [Hp0 Hl0]
    · isplitl [Hl0]; · iexact Hl0
      iexact Hp0
    isplitl [Hp1 Hl1 Hp2 Hl2 Hp3 Hl3 Hp4 Hl4]
    · isplitl [Hp1 Hl1]
      · isplitl [Hl1]; · iexact Hl1
        iexact Hp1
      isplitl [Hp2 Hl2]
      · isplitl [Hl2]; · iexact Hl2
        iexact Hp2
      isplitl [Hp3 Hl3]
      · isplitl [Hl3]; · iexact Hl3
        iexact Hp3
      isplitl [Hl4]; · iexact Hl4
      iexact Hp4
    isplitl [HP1]; · iexact HP1
    isplitl [HP2]; · iexact HP2
    isplitl [Hk]; · iexact Hk
    isplitl [Hi]; · iexact Hi
    isplitl [Ho]; · iexact Ho
    iexact Hb
  refine shift _ (scatter_begin m c 0 (by decide)) ?_
  simp (implicitDefEqProofs := false) only [Prog.pure_eq_ret, Prog.bind_ret, Prog.bind_assoc, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel]
  iterate 15 refine send_step m K c (by decide) (slot_eq sndM (off2_eq c ⟨_, _⟩)) (slot_eq _ (k0_off1_eq c)) (Fin.ext (by clear hQ; revert c; decide +kernel)) rfl rfl ?_
  refine shift _ (phase_sent m c 0) ?_
  refine shift (iprop(ctx m K ∗ owns (c : Thread nD τ) (slot sndM c) fullShare (slotV (landV m 0 c) c) ∗ (land 0 c c ∗ (OwO c (Orem c 60) ∗ Pend c 1) ∗ Pd c 0 ∗ (Ph c 1 ∗ Ph c 2 ∗ Ph c 3 ∗ Ph c 4) ∗ Pend c 2 ∗ Kept m c 0 ∗ Rest m c))) ?_ ?_
  · iintro ⟨#Hc, HO, Hd, Hs, Hl, Hp, HP1, HP2, Hk, Hr⟩
    isplitr; · iexact Hc
    isplitl [Hs]; · iexact Hs
    isplitl [Hl]; · iexact Hl
    isplitl [HO HP1]
    · isplitl [HO]; · iexact HO
      iexact HP1
    isplitl [Hd]; · iexact Hd
    isplitl [Hp]; · iexact Hp
    isplitl [HP2]; · iexact HP2
    isplitl [Hk]; · iexact Hk
    iexact Hr
  refine ld_slot c sndM rfl c (k0_off3_eq c) ?_
  refine shift _ swap ?_
  refine ldx_slot c (bufM 0) rfl c (k0_off3_eq c) fun Y0 => ?_
  refine st_slot c (bufM 0) rfl c (k0_off3_eq c) (slotV (landV m 0 c) c) (own0 _) ?_
  refine shift (iprop(ctx m K ∗ (OwO c (Orem c 60) ∗ Pend c 1) ∗ (owns (c : Thread nD τ) (slot (bufM 0) c) fullShare (slotV (landV m 0 c) c) ∗ owns (c : Thread nD τ) (slot sndM c) fullShare (slotV (landV m 0 c) c) ∗ Pd c 0 ∗ (Ph c 1 ∗ Ph c 2 ∗ Ph c 3 ∗ Ph c 4) ∗ Pend c 2 ∗ Kept m c 0 ∗ Rest m c))) ?_ ?_
  · iintro ⟨#Hc, Hb, Hs, Hq, HR⟩
    isplitr; · iexact Hc
    isplitl [Hq]; · iexact Hq
    isplitl [Hb]; · iexact Hb
    isplitl [Hs]; · iexact Hs
    iexact HR
  refine step (cast_step m K c 1 60 (by decide) k0_pay8 k0_pay9 rfl rfl rfl rfl rfl rfl rfl rfl) ?_
  refine shift (iprop(ctx m K ∗ OwO c (Orem c 60) ∗ (Pd c 0 ∗ owns (c : Thread nD τ) (slot sndM c) fullShare (slotV (landV m 0 c) c) ∗ owns (c : Thread nD τ) (slot (bufM 0) c) fullShare (slotV (landV m 0 c) c) ∗ (Ph c 1 ∗ Ph c 2 ∗ Ph c 3 ∗ Ph c 4) ∗ Pend c 2 ∗ Kept m c 0 ∗ Kept m c 1 ∗ Rest m c))) ?_ ?_
  · unfold Kept
    iintro ⟨#Hc, ⟨HO, Hw⟩, Hb, Hs, Hd, Hp, HP, Hk, Hr⟩
    isplitr; · iexact Hc
    isplitl [HO]; · iexact HO
    isplitl [Hd]; · iexact Hd
    isplitl [Hs]; · iexact Hs
    isplitl [Hb]; · iexact Hb
    isplitl [Hp]; · iexact Hp
    isplitl [HP]; · iexact HP
    isplitl [Hk]; · iexact Hk
    isplitl [Hw]; · iexact Hw
    iexact Hr
  simp (implicitDefEqProofs := false) only [Prog.pure_eq_ret, Prog.bind_ret, Prog.bind_assoc, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel]
  refine shift _ (phase_recv m c 0 _) ?_
  iterate 14 refine wait_step m K c (by decide) rfl rfl (mayWait_recv c 0) ?_
  refine wait_last m K c rfl rfl rfl (mayWait_recv c 0) ?_
  refine shift _ (phase_send m c 0 _) ?_
  iterate 14 refine wait_step m K c (by decide) rfl rfl (mayWait_low c _ (lv_k c .send) 60 (by decide)) ?_
  refine wait_last m K c rfl rfl rfl (mayWait_low c _ (lv_k c .send) 60 (by decide)) ?_
  refine shift _ (scatter_end m c 0 (by decide)) ?_
  -- exchange 1
  refine ld_whole c (bufM 0) rfl zero3 ?_
  refine shift (iprop(ctx m K ∗ land 1 c c ∗ (owns (c : Thread nD τ) (bufM 0) fullShare (landV m 0 c) ∗ Thr c 1 ∗ owns (c : Thread nD τ) sndM fullShare (sndV m 0 c) ∗ atPos ER (kcell c (.recv 0)) 1 ∅ 0 ∗ (Lands c 1 ∗ Toks c 1 ∗ Wts c 1) ∗ (Ph c 2 ∗ Ph c 3 ∗ Ph c 4) ∗ Pend c 2 ∗ Kept m c 0 ∗ Kept m c 1 ∗ Rest m c))) ?_ ?_
  · unfold Ph
    iintro ⟨#Hc, Hb, Ht, Hs, Ha, ⟨⟨H1, H2, H3, H4⟩, Hp⟩, HR⟩
    isplitr; · iexact Hc
    isplitl [H2]; · iexact H2
    isplitl [Hb]; · iexact Hb
    isplitl [Ht]; · iexact Ht
    isplitl [Hs]; · iexact Hs
    isplitl [Ha]; · iexact Ha
    isplitl [H1 H3 H4]
    · isplitl [H1]; · iexact H1
      isplitl [H3]; · iexact H3
      iexact H4
    isplitl [Hp]; · iexact Hp
    iexact HR
  refine ldx_slot c (bufM 1) rfl c (k0_off3_eq c) fun Y1 => ?_
  refine st_slot c (bufM 1) rfl c (k0_off3_eq c) (slotV (landV m 1 c) c) (own1 m c) ?_
  refine shift (iprop(ctx m K ∗ owns (c : Thread nD τ) (slot (bufM 1) c) fullShare (slotV (landV m 1 c) c) ∗ (Thr c (1 : Fin 5).val ∗ Lands c 1 ∗ Toks c 1 ∗ Wts c 1 ∗ (Dn m c 0 ∗ owns (c : Thread nD τ) sndM fullShare (sndV m 0 c) ∗ (Ph c 2 ∗ Ph c 3 ∗ Ph c 4) ∗ Pend c 2 ∗ Kept m c 0 ∗ Kept m c 1 ∗ Rest m c)))) ?_ ?_
  · unfold Dn
    iintro ⟨#Hc, Ho, Hb, Ht, Hs, Ha, ⟨H1, H3, H4⟩, HR⟩
    isplitr; · iexact Hc
    isplitl [Ho]; · iexact Ho
    isplitl [Ht]; · iexact Ht
    isplitl [H1]; · iexact H1
    isplitl [H3]; · iexact H3
    isplitl [H4]; · iexact H4
    isplitl [Hb Ha]
    · isplitl [Hb]; · iexact Hb
      iexact Ha
    isplitl [Hs]; · iexact Hs
    iexact HR
  refine shift _ (gather_begin m c 1 (by decide)) ?_
  simp (implicitDefEqProofs := false) only [Prog.pure_eq_ret, Prog.bind_ret, Prog.bind_assoc, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel]
  iterate 15 refine send_step m K c (by decide) (slot_eq _ (k0_off1_eq c)) (slot_eq _ (k0_off1_eq c)) (Fin.ext (by clear hQ; revert c; decide +kernel)) rfl rfl ?_
  refine shift _ (phase_sent m c 1) ?_
  refine shift (iprop(ctx m K ∗ (OwO c (Orem c 45) ∗ Pend c 2) ∗ (Pd c 1 ∗ owns (c : Thread nD τ) (slot (bufM 1) c) (Transfers.shareDrop fullShare 15) (slotV (landV m 1 c) c) ∗ Dn m c 0 ∗ owns (c : Thread nD τ) sndM fullShare (sndV m 0 c) ∗ (Ph c 2 ∗ Ph c 3 ∗ Ph c 4) ∗ Kept m c 0 ∗ Kept m c 1 ∗ Rest m c))) ?_ ?_
  · iintro ⟨#Hc, HO, Hd, Ho, Hdn, Hs, Hp, HP, HR⟩
    isplitr; · iexact Hc
    isplitl [HO HP]
    · isplitl [HO]; · iexact HO
      iexact HP
    isplitl [Hd]; · iexact Hd
    isplitl [Ho]; · iexact Ho
    isplitl [Hdn]; · iexact Hdn
    isplitl [Hs]; · iexact Hs
    isplitl [Hp]; · iexact Hp
    iexact HR
  refine step (cast_step m K c 2 45 (by decide) k0_pay11 k0_pay12 rfl rfl rfl rfl rfl rfl rfl rfl) ?_
  refine shift (iprop(ctx m K ∗ OwO c (Orem c 45) ∗ (Pd c 1 ∗ owns (c : Thread nD τ) (slot (bufM 1) c) (Transfers.shareDrop fullShare 15) (slotV (landV m 1 c) c) ∗ (Dn m c 0 ∗ owns (c : Thread nD τ) sndM fullShare (sndV m 0 c) ∗ (Ph c 2 ∗ Ph c 3 ∗ Ph c 4) ∗ Kept m c 0 ∗ Kept m c 1 ∗ Kept m c 2 ∗ Rest m c)))) ?_ ?_
  · unfold Kept
    iintro ⟨#Hc, ⟨HO, Hw⟩, Hd, Ho, Hdn, Hs, Hp, Hk0, Hk1, HR⟩
    isplitr; · iexact Hc
    isplitl [HO]; · iexact HO
    isplitl [Hd]; · iexact Hd
    isplitl [Ho]; · iexact Ho
    isplitl [Hdn]; · iexact Hdn
    isplitl [Hs]; · iexact Hs
    isplitl [Hp]; · iexact Hp
    isplitl [Hk0]; · iexact Hk0
    isplitl [Hk1]; · iexact Hk1
    isplitl [Hw]; · iexact Hw
    iexact HR
  simp (implicitDefEqProofs := false) only [Prog.pure_eq_ret, Prog.bind_ret, Prog.bind_assoc, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel]
  refine shift _ (phase_recv m c 1 _) ?_
  iterate 14 refine wait_step m K c (by decide) rfl rfl (mayWait_recv c 1) ?_
  refine wait_last m K c rfl rfl rfl (mayWait_recv c 1) ?_
  refine shift _ (phase_send m c 1 _) ?_
  iterate 14 refine wait_step m K c (by decide) rfl rfl (mayWait_low c _ (lv_k c .send) 45 (by decide)) ?_
  refine wait_last m K c rfl rfl rfl (mayWait_low c _ (lv_k c .send) 45 (by decide)) ?_
  refine shift _ (gather_end m c 1 (by decide)) ?_
  -- exchange 2
  refine ld_whole c (bufM 1) rfl zero3 ?_
  refine shift (iprop(ctx m K ∗ owns (c : Thread nD τ) (layI wbI 1) fullShare (reI (wbi m c 1)) ∗ (owns (c : Thread nD τ) (layO wbO 1) fullShare (reO (wbo m c 1)) ∗ Lde m c 1 ∗ owns (c : Thread nD τ) sndM fullShare (sndV m 0 c) ∗ owns (c : Thread nD τ) (bufM 1) fullShare (landV m 1 c) ∗ Thr c 2 ∗ atPos ER (kcell c (.recv 1)) 1 ∅ 0 ∗ Dn m c 0 ∗ (Ph c 2 ∗ Ph c 3 ∗ Ph c 4) ∗ Kept m c 0 ∗ Kept m c 2 ∗ Rest m c))) ?_ ?_
  · unfold Kept Wb
    iintro ⟨#Hc, Hb, Ht, Ha, Hd, Hs, Hp, Hk0, ⟨Hl, Hw1, Hw2⟩, HR⟩
    isplitr; · iexact Hc
    isplitl [Hw1]; · iexact Hw1
    isplitl [Hw2]; · iexact Hw2
    isplitl [Hl]; · iexact Hl
    isplitl [Hs]; · iexact Hs
    isplitl [Hb]; · iexact Hb
    isplitl [Ht]; · iexact Ht
    isplitl [Ha]; · iexact Ha
    isplitl [Hd]; · iexact Hd
    isplitl [Hp]; · iexact Hp
    isplitl [Hk0]; · iexact Hk0
    iexact HR
  simp (implicitDefEqProofs := false) only [Prog.pure_eq_ret, Prog.bind_ret, Prog.bind_assoc, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel]
  refine ld_wbI c rfl 1 rfl ?_
  refine shift _ swap ?_
  refine ld_wbO c rfl 1 rfl ?_
  refine shift (iprop(ctx m K ∗ owns (c : Thread nD τ) sndM fullShare (sndV m 0 c) ∗ (Thr c (2 : Fin 5).val ∗ Ph c 2 ∗ (Dn m c 0 ∗ Dn m c 1 ∗ (Ph c 3 ∗ Ph c 4) ∗ Kept m c 0 ∗ Kept m c 1 ∗ Kept m c 2 ∗ Rest m c)))) ?_ ?_
  · unfold Kept Wb Dn
    iintro ⟨#Hc, Hw2, Hw1, Hl, Hs, Hb, Ht, Ha, Hd, ⟨Hp2, Hp⟩, Hk0, HR⟩
    isplitr; · iexact Hc
    isplitl [Hs]; · iexact Hs
    isplitl [Ht]; · iexact Ht
    isplitl [Hp2]; · iexact Hp2
    isplitl [Hd]; · iexact Hd
    isplitl [Hb Ha]
    · isplitl [Hb]; · iexact Hb
      iexact Ha
    isplitl [Hp]; · iexact Hp
    isplitl [Hk0]; · iexact Hk0
    isplitl [Hl Hw1 Hw2]
    · isplitl [Hl]; · iexact Hl
      isplitl [Hw1]; · iexact Hw1
      iexact Hw2
    iexact HR
  refine ld_whole c sndM rfl zero3 ?_
  refine st_whole c sndM rfl zero3 (sndV m 2 c) rfl ?_
  refine shift _ (scatter_begin m c 2 (by decide)) ?_
  iterate 15 refine send_step m K c (by decide) (slot_eq sndM (off2_eq c ⟨_, _⟩)) (slot_eq _ (k0_off1_eq c)) (Fin.ext (by clear hQ; revert c; decide +kernel)) rfl rfl ?_
  refine shift _ (phase_sent m c 2) ?_
  refine shift (iprop(ctx m K ∗ owns (c : Thread nD τ) (slot sndM c) fullShare (slotV (landV m 2 c) c) ∗ (land 2 c c ∗ OwO c (Orem c 30) ∗ Pd c 2 ∗ (Dn m c 0 ∗ Dn m c 1 ∗ (Ph c 3 ∗ Ph c 4) ∗ Kept m c 0 ∗ Kept m c 1 ∗ Kept m c 2 ∗ Rest m c)))) ?_ ?_
  · iintro ⟨#Hc, HO, Hd, Hs, Hl, HR⟩
    isplitr; · iexact Hc
    isplitl [Hs]; · iexact Hs
    isplitl [Hl]; · iexact Hl
    isplitl [HO]; · iexact HO
    isplitl [Hd]; · iexact Hd
    iexact HR
  refine ld_slot c sndM rfl c (k0_off3_eq c) ?_
  refine shift _ swap ?_
  refine ldx_slot c (bufM 2) rfl c (k0_off3_eq c) fun Y2 => ?_
  refine st_slot c (bufM 2) rfl c (k0_off3_eq c) (slotV (landV m 2 c) c) (own2 _) ?_
  refine shift (iprop(ctx m K ∗ OwO c (Orem c 30) ∗ (Pd c 2 ∗ owns (c : Thread nD τ) (slot sndM c) fullShare (slotV (landV m 2 c) c) ∗ owns (c : Thread nD τ) (slot (bufM 2) c) fullShare (slotV (landV m 2 c) c) ∗ (Dn m c 0 ∗ Dn m c 1 ∗ (Ph c 3 ∗ Ph c 4) ∗ Kept m c 0 ∗ Kept m c 1 ∗ Kept m c 2 ∗ Rest m c)))) ?_ ?_
  · iintro ⟨#Hc, Hb, Hs, HO, Hd, HR⟩
    isplitr; · iexact Hc
    isplitl [HO]; · iexact HO
    isplitl [Hd]; · iexact Hd
    isplitl [Hs]; · iexact Hs
    isplitl [Hb]; · iexact Hb
    iexact HR
  simp (implicitDefEqProofs := false) only [Prog.pure_eq_ret, Prog.bind_ret, Prog.bind_assoc, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel]
  refine shift _ (phase_recv m c 2 _) ?_
  iterate 14 refine wait_step m K c (by decide) rfl rfl (mayWait_recv c 2) ?_
  refine wait_last m K c rfl rfl rfl (mayWait_recv c 2) ?_
  refine shift _ (phase_send m c 2 _) ?_
  iterate 14 refine wait_step m K c (by decide) rfl rfl (mayWait_low c _ (lv_k c .send) 30 (by decide)) ?_
  refine wait_last m K c rfl rfl rfl (mayWait_low c _ (lv_k c .send) 30 (by decide)) ?_
  refine shift _ (scatter_end m c 2 (by decide)) ?_
  -- exchange 3
  refine ld_whole c (bufM 2) rfl zero3 ?_
  refine shift (iprop(ctx m K ∗ land 3 c c ∗ (owns (c : Thread nD τ) (bufM 2) fullShare (landV m 2 c) ∗ Thr c 3 ∗ owns (c : Thread nD τ) sndM fullShare (sndV m 2 c) ∗ atPos ER (kcell c (.recv 2)) 1 ∅ 0 ∗ (Lands c 3 ∗ Toks c 3 ∗ Wts c 3) ∗ Dn m c 0 ∗ Dn m c 1 ∗ Ph c 4 ∗ Kept m c 0 ∗ Kept m c 1 ∗ Kept m c 2 ∗ Rest m c))) ?_ ?_
  · unfold Ph
    iintro ⟨#Hc, Hb, Ht, Hs, Ha, Hd0, Hd1, ⟨⟨H1, H2, H3, H4⟩, Hp⟩, HR⟩
    isplitr; · iexact Hc
    isplitl [H2]; · iexact H2
    isplitl [Hb]; · iexact Hb
    isplitl [Ht]; · iexact Ht
    isplitl [Hs]; · iexact Hs
    isplitl [Ha]; · iexact Ha
    isplitl [H1 H3 H4]
    · isplitl [H1]; · iexact H1
      isplitl [H3]; · iexact H3
      iexact H4
    isplitl [Hd0]; · iexact Hd0
    isplitl [Hd1]; · iexact Hd1
    isplitl [Hp]; · iexact Hp
    iexact HR
  refine ldx_slot c (bufM 3) rfl c (k0_off3_eq c) fun Y3 => ?_
  refine st_slot c (bufM 3) rfl c (k0_off3_eq c) (slotV (landV m 3 c) c) (own3 m c) ?_
  refine shift (iprop(ctx m K ∗ owns (c : Thread nD τ) (slot (bufM 3) c) fullShare (slotV (landV m 3 c) c) ∗ (Thr c (3 : Fin 5).val ∗ Lands c 3 ∗ Toks c 3 ∗ Wts c 3 ∗ (Dn m c 0 ∗ Dn m c 1 ∗ Dn m c 2 ∗ owns (c : Thread nD τ) sndM fullShare (sndV m 2 c) ∗ Ph c 4 ∗ Kept m c 0 ∗ Kept m c 1 ∗ Kept m c 2 ∗ Rest m c)))) ?_ ?_
  · unfold Dn
    iintro ⟨#Hc, Ho, Hb, Ht, Hs, Ha, ⟨H1, H3, H4⟩, Hd0, Hd1, HR⟩
    isplitr; · iexact Hc
    isplitl [Ho]; · iexact Ho
    isplitl [Ht]; · iexact Ht
    isplitl [H1]; · iexact H1
    isplitl [H3]; · iexact H3
    isplitl [H4]; · iexact H4
    isplitl [Hd0]; · iexact Hd0
    isplitl [Hd1]; · iexact Hd1
    isplitl [Hb Ha]
    · isplitl [Hb]; · iexact Hb
      iexact Ha
    isplitl [Hs]; · iexact Hs
    iexact HR
  refine shift _ (gather_begin m c 3 (by decide)) ?_
  simp (implicitDefEqProofs := false) only [Prog.pure_eq_ret, Prog.bind_ret, Prog.bind_assoc, k0_part58_eq_skeleton, k0_part58_skel, k0_part59_eq_skeleton, k0_part59_skel, k0_part60_eq_skeleton, k0_part60_skel]
  simp (implicitDefEqProofs := false) only [Prog.pure_eq_ret, Prog.bind_ret, Prog.bind_assoc, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel]
  iterate 15 refine send_step m K c (by decide) (slot_eq _ (k0_off1_eq c)) (slot_eq _ (k0_off1_eq c)) (Fin.ext (by clear hQ; revert c; decide +kernel)) rfl rfl ?_
  refine shift _ (phase_sent m c 3) ?_
  simp (implicitDefEqProofs := false) only [Prog.pure_eq_ret, Prog.bind_ret, Prog.bind_assoc, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel]
  refine shift _ (phase_recv m c 3 _) ?_
  iterate 14 refine wait_step m K c (by decide) rfl rfl (mayWait_recv c 3) ?_
  refine wait_last m K c rfl rfl rfl (mayWait_recv c 3) ?_
  refine shift _ (phase_send m c 3 _) ?_
  iterate 14 refine wait_step m K c (by decide) rfl rfl (mayWait_low c _ (lv_k c .send) 15 (by decide)) ?_
  refine wait_last m K c rfl rfl rfl (mayWait_low c _ (lv_k c .send) 15 (by decide)) ?_
  refine shift _ (gather_end m c 3 (by decide)) ?_
  -- exchange 4
  refine ld_whole c (bufM 3) rfl zero3 ?_
  refine shift (iprop(ctx m K ∗ owns (c : Thread nD τ) (layI wbI 2) fullShare (reI (wbi m c 2)) ∗ (owns (c : Thread nD τ) (layO wbO 2) fullShare (reO (wbo m c 2)) ∗ Lde m c 2 ∗ owns (c : Thread nD τ) sndM fullShare (sndV m 2 c) ∗ owns (c : Thread nD τ) (bufM 3) fullShare (landV m 3 c) ∗ Thr c 4 ∗ atPos ER (kcell c (.recv 3)) 1 ∅ 0 ∗ Dn m c 0 ∗ Dn m c 1 ∗ Dn m c 2 ∗ Ph c 4 ∗ Kept m c 0 ∗ Kept m c 1 ∗ Rest m c))) ?_ ?_
  · unfold Kept Wb
    iintro ⟨#Hc, Hb, Ht, Ha, Hd0, Hd1, Hd2, Hs, Hp, Hk0, Hk1, ⟨Hl, Hw1, Hw2⟩, HR⟩
    isplitr; · iexact Hc
    isplitl [Hw1]; · iexact Hw1
    isplitl [Hw2]; · iexact Hw2
    isplitl [Hl]; · iexact Hl
    isplitl [Hs]; · iexact Hs
    isplitl [Hb]; · iexact Hb
    isplitl [Ht]; · iexact Ht
    isplitl [Ha]; · iexact Ha
    isplitl [Hd0]; · iexact Hd0
    isplitl [Hd1]; · iexact Hd1
    isplitl [Hd2]; · iexact Hd2
    isplitl [Hp]; · iexact Hp
    isplitl [Hk0]; · iexact Hk0
    isplitl [Hk1]; · iexact Hk1
    iexact HR
  refine ld_wbI c rfl 2 rfl ?_
  refine shift _ swap ?_
  refine ld_wbO c rfl 2 rfl ?_
  refine shift (iprop(ctx m K ∗ owns (c : Thread nD τ) sndM fullShare (sndV m 2 c) ∗ (Thr c (4 : Fin 5).val ∗ Ph c 4 ∗ (Dn m c 0 ∗ Dn m c 1 ∗ Dn m c 2 ∗ Dn m c 3 ∗ Kept m c 0 ∗ Kept m c 1 ∗ Kept m c 2 ∗ Rest m c)))) ?_ ?_
  · unfold Kept Wb Dn
    iintro ⟨#Hc, Hw2, Hw1, Hl, Hs, Hb, Ht, Ha, Hd0, Hd1, Hd2, Hp, Hk0, Hk1, HR⟩
    isplitr; · iexact Hc
    isplitl [Hs]; · iexact Hs
    isplitl [Ht]; · iexact Ht
    isplitl [Hp]; · iexact Hp
    isplitl [Hd0]; · iexact Hd0
    isplitl [Hd1]; · iexact Hd1
    isplitl [Hd2]; · iexact Hd2
    isplitl [Hb Ha]
    · isplitl [Hb]; · iexact Hb
      iexact Ha
    isplitl [Hk0]; · iexact Hk0
    isplitl [Hk1]; · iexact Hk1
    isplitl [Hl Hw1 Hw2]
    · isplitl [Hl]; · iexact Hl
      isplitl [Hw1]; · iexact Hw1
      iexact Hw2
    iexact HR
  refine ld_whole c sndM rfl zero3 ?_
  refine st_whole c sndM rfl zero3 (sndV m 4 c) rfl ?_
  refine shift _ (scatter_begin m c 4 (by decide)) ?_
  simp (implicitDefEqProofs := false) only [Prog.pure_eq_ret, Prog.bind_ret, Prog.bind_assoc, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel]
  iterate 15 refine send_step m K c (by decide) (slot_eq sndM (off2_eq c ⟨_, _⟩)) (slot_eq _ (k0_off1_eq c)) (Fin.ext (by clear hQ; revert c; decide +kernel)) rfl rfl ?_
  refine shift _ (phase_sent m c 4) ?_
  refine shift (iprop(ctx m K ∗ owns (c : Thread nD τ) (slot sndM c) fullShare (slotV (landV m 4 c) c) ∗ (land 4 c c ∗ OwO c (Orem c 0) ∗ Pd c 4 ∗ (Dn m c 0 ∗ Dn m c 1 ∗ Dn m c 2 ∗ Dn m c 3 ∗ Kept m c 0 ∗ Kept m c 1 ∗ Kept m c 2 ∗ Rest m c)))) ?_ ?_
  · iintro ⟨#Hc, HO, Hd, Hs, Hl, HR⟩
    isplitr; · iexact Hc
    isplitl [Hs]; · iexact Hs
    isplitl [Hl]; · iexact Hl
    isplitl [HO]; · iexact HO
    isplitl [Hd]; · iexact Hd
    iexact HR
  refine ld_slot c sndM rfl c (k0_off3_eq c) ?_
  refine shift _ swap ?_
  refine ldx_slot c (bufM 4) rfl c (k0_off3_eq c) fun Y4 => ?_
  refine st_slot c (bufM 4) rfl c (k0_off3_eq c) (slotV (landV m 4 c) c) (own4 _) ?_
  refine shift (iprop(ctx m K ∗ OwO c (Orem c 0) ∗ (Pd c 4 ∗ owns (c : Thread nD τ) (slot sndM c) fullShare (slotV (landV m 4 c) c) ∗ owns (c : Thread nD τ) (slot (bufM 4) c) fullShare (slotV (landV m 4 c) c) ∗ (Dn m c 0 ∗ Dn m c 1 ∗ Dn m c 2 ∗ Dn m c 3 ∗ Kept m c 0 ∗ Kept m c 1 ∗ Kept m c 2 ∗ Rest m c)))) ?_ ?_
  · iintro ⟨#Hc, Hb, Hs, HO, Hd, HR⟩
    isplitr; · iexact Hc
    isplitl [HO]; · iexact HO
    isplitl [Hd]; · iexact Hd
    isplitl [Hs]; · iexact Hs
    isplitl [Hb]; · iexact Hb
    iexact HR
  simp (implicitDefEqProofs := false) only [Prog.pure_eq_ret, Prog.bind_ret, Prog.bind_assoc, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel]
  refine shift _ (phase_recv m c 4 _) ?_
  iterate 14 refine wait_step m K c (by decide) rfl rfl (mayWait_recv c 4) ?_
  refine wait_last m K c rfl rfl rfl (mayWait_recv c 4) ?_
  refine shift _ (phase_send m c 4 _) ?_
  iterate 14 refine wait_step m K c (by decide) rfl rfl (mayWait_low c _ (lv_k c .send) 0 (by decide)) ?_
  refine wait_last m K c rfl rfl rfl (mayWait_low c _ (lv_k c .send) 0 (by decide)) ?_
  refine shift _ (scatter_end m c 4 (by decide)) ?_
  -- the result
  refine ld_whole c (bufM 4) rfl zero3 ?_
  refine shift (iprop(ctx m K ∗ (∃ X, owns (c : Thread nD τ) outM fullShare X) ∗ (Thr c 5 ∗ owns (c : Thread nD τ) inM fullShare (xV m c) ∗ atPos ER (kcell c .bar) 1 ∅ 0 ∗ owns (c : Thread nD τ) sndM fullShare (sndV m 4 c) ∗ (Dn m c 0 ∗ Dn m c 1 ∗ Dn m c 2 ∗ Dn m c 3 ∗ Dn m c 4) ∗ (Kept m c 0 ∗ Kept m c 1 ∗ Kept m c 2)))) ?_ ?_
  · unfold Dn Rest
    iintro ⟨#Hc, Hb, Ht, Hs, Ha, Hd0, Hd1, Hd2, Hd3, Hk0, Hk1, Hk2, Hi, Ho, Hbar⟩
    isplitr; · iexact Hc
    isplitl [Ho]; · iexact Ho
    isplitl [Ht]; · iexact Ht
    isplitl [Hi]; · iexact Hi
    isplitl [Hbar]; · iexact Hbar
    isplitl [Hs]; · iexact Hs
    isplitl [Hd0 Hd1 Hd2 Hd3 Hb Ha]
    · isplitl [Hd0]; · iexact Hd0
      isplitl [Hd1]; · iexact Hd1
      isplitl [Hd2]; · iexact Hd2
      isplitl [Hd3]; · iexact Hd3
      isplitl [Hb]; · iexact Hb
      iexact Ha
    isplitl [Hk0]; · iexact Hk0
    isplitl [Hk1]; · iexact Hk1
    iexact Hk2
  refine ldx_whole c outM rfl zero2 fun Z => ?_
  refine st_whole c outM rfl zero2 (outV m c) rfl ?_
  refine shift (iprop(ctx m K ∗ Ends m c)) ?_ ?_
  · unfold Ends
    iintro ⟨#Hc, Ho, Ht, Hi, HR⟩
    isplitr; · iexact Hc
    isplitl [Ht]; · iexact Ht
    isplitl [Hi]; · iexact Hi
    isplitl [Ho]; · iexact Ho
    iexact HR
  refine hQ.trans ?_
  unfold WP; rw [wp_ret]

end Cert.MlpProof
-- ==== Proof.Ghost.lean ====
/-
# The launch: what each device's share of the protocol is

The semaphores at zero become the schedule's invariants; the rights to signal are dealt from the owner of a semaphore to
the device that signals it; and what the devices owe each other at launch gives each the right to wait for it.
-/
module

public import proofs.«01_k».proof.Proof.Moves
public import proofs.«01_k».proof.Proof.Gen.KernelIdeal.Launch
public import Idealize.ShloMosaic.Lib.Pipeline.Launch

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kinds but the barrier: the kernel's own semaphores -/

/-- The kernel's own semaphores, -/
abbrev okind : Fin 12 → KK
  | 0 => .send
  | 1 => .recv 0
  | 2 => .recv 1
  | 3 => .recv 2
  | 4 => .recv 3
  | 5 => .recv 4
  | 6 => .lin 0
  | 7 => .lin 1
  | 8 => .lin 2
  | 9 => .lout 0
  | 10 => .lout 1
  | 11 => .lout 2
abbrev osem (i : Fin 12) : SemLoc sig := csem (okind i)
/-- with the barrier semaphore all of the protocol's. -/
theorem okind_univ : (Finset.univ : Finset KK) = insert KK.bar (Finset.univ.image okind) := by decide
theorem okind_inj : Function.Injective okind := by decide
theorem ownSemFacts : Pipeline.OwnSemFacts cfg0.spec osem := by decide

omit [FloatOps F] in
theorem bigSep_kk (Φ : KK → sProp 𝕄) : bigSep Finset.univ Φ = iprop(Φ .bar ∗ bigSep Finset.univ fun i => Φ (okind i)) := by
  rw [okind_univ, bigSep_insert (by decide), bigSep_image_of_injOn okind_inj.injOn]
  rfl
omit [FloatOps F] in
theorem bigSep_flat (Φ : KK → sProp 𝕄) : bigSep Finset.univ Φ
    = iprop(Φ .bar ∗ Φ .send ∗ Φ (.recv 0) ∗ Φ (.recv 1) ∗ Φ (.recv 2) ∗ Φ (.recv 3) ∗ Φ (.recv 4)
      ∗ Φ (.lin 0) ∗ Φ (.lin 1) ∗ Φ (.lin 2) ∗ Φ (.lout 0) ∗ Φ (.lout 1) ∗ Φ (.lout 2)) :=
  bigSep_univ_eq_bigSepL [KK.bar, KK.send, KK.recv 0, KK.recv 1, KK.recv 2, KK.recv 3, KK.recv 4, KK.lin 0, KK.lin 1, KK.lin 2,
    KK.lout 0, KK.lout 1, KK.lout 2] (by decide) (by decide) Φ

theorem kcell_injective : Function.Injective fun ck : Dev nD × KK => kcell ck.1 ck.2 := by
  rintro ⟨c, k⟩ ⟨c', k'⟩ h
  have h1 : c = c' := congrArg (fun g : GSem nD τ sig => g.1.1) h
  have h2 : k = k' := csem_inj _ _ (congrArg Prod.snd h)
  rw [h1, h2]
/-- The protocol's semaphores, -/
def mlpCells : Finset (GSem nD τ sig) := Finset.univ.map ⟨_, kcell_injective⟩

/-- and rights to signal them: by device, kind, round and number. -/
abbrev tokOf (x : (Dev nD × KK) × Fin 5 × Fin 15) : GSem nD τ sig × ℕ × Fin 15 := (kcell x.1.1 x.1.2, x.2.1.val, x.2.2)
theorem tokOf_injective : Function.Injective tokOf := by
  rintro ⟨a, r, j⟩ ⟨a', r', j'⟩ h
  have h1 : a = a' := kcell_injective (congrArg Prod.fst h)
  have h2 : r = r' := Fin.ext (congrArg (fun x : GSem nD τ sig × ℕ × Fin 15 => x.2.1) h)
  have h3 : j = j' := congrArg (fun x : GSem nD τ sig × ℕ × Fin 15 => x.2.2) h
  rw [h1, h2, h3]
def mlpToks : Finset (GSem nD τ sig × ℕ × Fin 15) := Finset.univ.map ⟨tokOf, tokOf_injective⟩

def u₀ : UU :=
  (initOf (Pipeline.cells cfgs cellOf_inj) (Pipeline.launchToks cfgs cellOf_inj), initOf mlpCells mlpToks)

/-! ## What is dealt first -/

/-- Device `c`'s position at a round of its semaphore. -/
def Pos (c : Dev nD) : sProp 𝕄 := bigSep Finset.univ fun k => atPos ER (kcell c k) 0 ∅ 0
def Rch (c : Dev nD) : sProp 𝕄 := bigSep Finset.univ fun k => reached ER (kcell c k) 0
/-- The rights to signal device `c`'s semaphores. -/
def ownToks (c : Dev nD) : sProp 𝕄 :=
  bigSep Finset.univ fun k => bigSep Finset.univ fun x : Fin 5 × Fin 15 => dutyTok ER (kcell c k) x.1.val x.2
def G (c : Dev nD) : sProp 𝕄 :=
  iprop((bigSep Finset.univ fun k => roundState ER (rd m) (kcell c k) 0) ∗ Pos c ∗ Rch c ∗ ownToks c)

theorem fund_mlp : BI.own (ER (initOf mlpCells mlpToks)) ⊢ (|==> bigSep Finset.univ (G m) : sProp 𝕄) := by
  have hX (Φ : GSem nD τ sig → sProp 𝕄) : bigSep mlpCells Φ = bigSep Finset.univ fun c : Dev nD => bigSep Finset.univ fun k => Φ (kcell c k) := by
    unfold mlpCells; rw [bigSep_map, bigSep_univ_prod]; rfl
  have hT : bigSep mlpToks (fun x => (dutyTok ER x.1 x.2.1 x.2.2 : sProp 𝕄)) = bigSep Finset.univ fun c : Dev nD => ownToks c := by
    unfold mlpToks ownToks; rw [bigSep_map, bigSep_univ_prod, bigSep_univ_prod]; rfl
  iintro HX
  imod (Rounds.fund ER (rd m) mlpCells mlpToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G Pos Rch; simp only [bigSep_sep']
  isplitl [Hst]; · iexact Hst
  isplitl [Hat]; · iexact Hat
  isplitl [Hr]; · iexact Hr
  iexact Htok

/-! ## The invariants -/

omit [FloatOps F] in
/-- The barrier semaphore is the launch's one unscoped semaphore. -/
theorem unscopedSems0_eq (c : Dev nD) : (unscopedSems0 c : sProp 𝕄) = semVal (kcell c .bar) 0 := by
  unfold unscopedSems0; rw [bigSep_eq_bigSepL_of_eq [SemLoc.reg barS] (by decide) (by decide)]; rfl
omit [FloatOps F] in
/-- All semaphores of a device at zero: the kernel's own, and the barrier. -/
theorem sems0_eq (c : Dev nD) : (bigSep Finset.univ fun k => semVal (kcell c k) 0 : sProp 𝕄)
    = iprop(unscopedSems0 c ∗ Pipeline.ownSems0 (Ix := Unit) (Name := ℕ) (U := UU) (Lvl := ℕ) (Val := Elt F) (τ := τ) osem c) := by
  rw [bigSep_kk, unscopedSems0_eq]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell c k))) ∗ Pos c ∗ Rch c ∗ ownToks c) := by
  unfold G
  iintro ⟨Hos, Hus, Hst, Hat⟩
  ihave Hv := (Entails.of_eq (sems0_eq (F := F) c).symm) $$ [Hos Hus]
  · isplitl [Hus] <;> iassumption
  imod (show iprop((bigSep Finset.univ fun k => semVal (kcell c k) 0) ∗ bigSep Finset.univ fun k => roundState ER (rd m) (kcell c k) 0)
      ⊢ (|={Set.univ}=> bigSep Finset.univ fun k => iprop(∃ κ : ℕ, cellInv ER (rd m) κ (kcell c k)) : sProp 𝕄) from by
        rw [← bigSep_sep']
        exact (bigSep_mono fun k _ => (Rounds.body_intro ER (rd m) (kcell c k)).trans inv_alloc).trans (bigSep_fupd _ _)) $$ [Hv Hst] with Hinv
  · isplitl [Hv] <;> iassumption
  imodintro
  isplitl [Hinv]; · iexact Hinv
  iexact Hat

/-! ## The rights to signal, dealt to those who signal -/

/-- The rights to signal that device `c` uses. -/
def payToks (c : Dev nD) : sProp 𝕄 :=
  iprop((bigSep Finset.univ fun j : Fin 15 => dutyTok ER (kcell (tgt c j) .bar) 0 j.rev) ∗ (bigSep Finset.univ fun p : Fin 5 => Toks c p)
    ∗ (bigSep Finset.univ fun l : Fin 3 => dutyTok ER (kcell c (.lin l)) 0 0) ∗ bigSep Finset.univ fun l : Fin 3 => dutyTok ER (kcell c (.lout l)) 0 0)

omit [FloatOps F] in
theorem pick0 (Φ : Fin 5 × Fin 15 → sProp 𝕄) : bigSep Finset.univ Φ ⊢ bigSep Finset.univ fun j => Φ (0, j) := by
  rw [bigSep_univ_prod]
  exact bigSep_elim (Φ := fun r : Fin 5 => bigSep Finset.univ fun j => Φ (r, j)) (Finset.mem_univ 0)

omit [FloatOps F] in
theorem pick00 (Φ : Fin 5 × Fin 15 → sProp 𝕄) : bigSep Finset.univ Φ ⊢ Φ (0, 0) := bigSep_elim (Finset.mem_univ (0, 0))

/-- The same by owner. -/
def sigToks (c : Dev nD) : sProp 𝕄 :=
  iprop((bigSep Finset.univ fun j : Fin 15 => dutyTok ER (kcell c .bar) 0 j)
    ∗ (bigSep Finset.univ fun p : Fin 5 => bigSep Finset.univ fun j : Fin 15 => dutyTok ER (kcell c .send) p.val j)
    ∗ (bigSep Finset.univ fun p : Fin 5 => bigSep Finset.univ fun j : Fin 15 => dutyTok ER (kcell c (.recv p)) 0 j)
    ∗ (bigSep Finset.univ fun l : Fin 3 => dutyTok ER (kcell c (.lin l)) 0 0) ∗ bigSep Finset.univ fun l : Fin 3 => dutyTok ER (kcell c (.lout l)) 0 0)

omit [FloatOps F] in
theorem ownToks_sig (c : Dev nD) : (ownToks c : sProp 𝕄) ⊢ sigToks c := by
  unfold ownToks sigToks
  rw [bigSep_flat, bigSep_three, bigSep_three, bigSep_five (fun p => bigSep Finset.univ fun j : Fin 15 => dutyTok ER (kcell c (.recv p)) 0 j)]
  iintro ⟨Hb, Hs, H0, H1, H2, H3, H4, Hi0, Hi1, Hi2, Ho0, Ho1, Ho2⟩
  isplitl [Hb]; · iapply (pick0 fun x => dutyTok ER (kcell c .bar) x.1.val x.2); iexact Hb
  isplitl [Hs]
  · iapply (Entails.of_eq (bigSep_univ_prod fun x : Fin 5 × Fin 15 => dutyTok ER (kcell c .send) x.1.val x.2)); iexact Hs
  isplitl [H0 H1 H2 H3 H4]
  · isplitl [H0]; · iapply (pick0 fun x => dutyTok ER (kcell c (.recv 0)) x.1.val x.2); iexact H0
    isplitl [H1]; · iapply (pick0 fun x => dutyTok ER (kcell c (.recv 1)) x.1.val x.2); iexact H1
    isplitl [H2]; · iapply (pick0 fun x => dutyTok ER (kcell c (.recv 2)) x.1.val x.2); iexact H2
    isplitl [H3]; · iapply (pick0 fun x => dutyTok ER (kcell c (.recv 3)) x.1.val x.2); iexact H3
    iapply (pick0 fun x => dutyTok ER (kcell c (.recv 4)) x.1.val x.2); iexact H4
  isplitl [Hi0 Hi1 Hi2]
  · isplitl [Hi0]; · iapply (pick00 fun x => dutyTok ER (kcell c (.lin 0)) x.1.val x.2); iexact Hi0
    isplitl [Hi1]; · iapply (pick00 fun x => dutyTok ER (kcell c (.lin 1)) x.1.val x.2); iexact Hi1
    iapply (pick00 fun x => dutyTok ER (kcell c (.lin 2)) x.1.val x.2); iexact Hi2
  · isplitl [Ho0]; · iapply (pick00 fun x => dutyTok ER (kcell c (.lout 0)) x.1.val x.2); iexact Ho0
    isplitl [Ho1]; · iapply (pick00 fun x => dutyTok ER (kcell c (.lout 1)) x.1.val x.2); iexact Ho1
    iapply (pick00 fun x => dutyTok ER (kcell c (.lout 2)) x.1.val x.2); iexact Ho2

omit [FloatOps F] in
/-- What is held by owner and distance, held by the device at that distance before. -/
theorem spread (Φ : Dev nD → Fin 15 → sProp 𝕄) :
    (bigSep Finset.univ fun c => bigSep Finset.univ fun j => Φ c j) = bigSep Finset.univ fun c => bigSep Finset.univ fun j => Φ (tgt c j) j := by
  rw [Pipeline.bigSep_univ_comm, Pipeline.bigSep_univ_comm (fun (c : Dev nD) (j : Fin 15) => Φ (tgt c j) j)]
  exact bigSep_congr fun j _ => bigSep_univ_equiv (rot j) (fun c => Φ c j)

omit [FloatOps F] in
theorem toks_around : (bigSep Finset.univ fun c : Dev nD => (ownToks c : sProp 𝕄)) ⊢ bigSep Finset.univ fun c : Dev nD => payToks c := by
  refine (show (bigSep Finset.univ fun c : Dev nD => (ownToks c : sProp 𝕄)) ⊢ bigSep Finset.univ fun c : Dev nD => sigToks c from
    bigSep_mono fun c _ => ownToks_sig c).trans ?_
  unfold sigToks payToks Toks
  simp only [bigSep_sep']
  have h1 : (bigSep Finset.univ fun c : Dev nD => bigSep Finset.univ fun j : Fin 15 => (dutyTok ER (kcell c .bar) 0 j : sProp 𝕄))
      = bigSep Finset.univ fun c : Dev nD => bigSep Finset.univ fun j : Fin 15 => dutyTok ER (kcell (tgt c j) .bar) 0 j.rev :=
    (bigSep_congr fun c _ => bigSep_univ_equiv Fin.revPerm fun j => (dutyTok ER (kcell c .bar) 0 j : sProp 𝕄)).trans
      (spread fun c j => (dutyTok ER (kcell c .bar) 0 j.rev : sProp 𝕄))
  have h2 : (bigSep Finset.univ fun c : Dev nD => bigSep Finset.univ fun p : Fin 5 => bigSep Finset.univ fun j : Fin 15 => (dutyTok ER (kcell c (.recv p)) 0 j : sProp 𝕄))
      = bigSep Finset.univ fun c : Dev nD => bigSep Finset.univ fun p : Fin 5 => bigSep Finset.univ fun j : Fin 15 => dutyTok ER (kcell (tgt c j) (.recv p)) 0 j := by
    rw [Pipeline.bigSep_univ_comm, Pipeline.bigSep_univ_comm (fun (c : Dev nD) (p : Fin 5) =>
      bigSep Finset.univ fun j : Fin 15 => (dutyTok ER (kcell (tgt c j) (.recv p)) 0 j : sProp 𝕄))]
    exact bigSep_congr fun p _ => spread fun c j => (dutyTok ER (kcell c (.recv p)) 0 j : sProp 𝕄)
  rw [h1, h2]
  iintro ⟨H1, H2, H3, H4, H5⟩
  isplitl [H1]; · iexact H1
  isplitl [H2 H3]
  · isplitl [H2]; · iexact H2
    iexact H3
  isplitl [H4]; · iexact H4
  iexact H5

/-! ## What each device starts from -/

/-- Every semaphore's invariant, and that its round 0 is reached. -/
def recs (K : Dev nD × KK → ℕ) : sProp 𝕄 :=
  iprop((bigSep Finset.univ fun ck : Dev nD × KK => cellInv ER (rd m) (K ck) (kcell ck.1 ck.2))
    ∗ bigSep Finset.univ fun ck : Dev nD × KK => reached ER (kcell ck.1 ck.2) 0)
instance recs_persistent (K : Dev nD × KK → ℕ) : BI.Persistent (recs m K) := by unfold recs; infer_instance

theorem ctx_intro (K : Dev nD × KK → ℕ) : iprop(recs m K ∗ levAts L lv) ⊢ ctx m K := by
  unfold recs ctx
  iintro ⟨⟨H1, H2⟩, H3⟩
  isplitl [H1]; · iexact H1
  isplitl [H2]; · iexact H2
  iexact H3

def G' (c : Dev nD) : sProp 𝕄 := iprop(∃ K, recs m K ∗ Pos c ∗ payToks c)

theorem G'_intro (K : Dev nD × KK → ℕ) (c : Dev nD) : iprop(recs m K ∗ Pos c ∗ payToks c) ⊢ G' m c :=
  exists_intro (Φ := fun K => iprop(recs m K ∗ Pos c ∗ payToks c)) K

theorem regroup :
    (bigSep Finset.univ fun c : Dev nD => iprop((bigSep Finset.univ fun k => iprop(∃ κ : ℕ, cellInv ER (rd m) κ (kcell c k))) ∗ Pos c ∗ Rch c ∗ ownToks c) : sProp 𝕄)
      ⊢ bigSep Finset.univ (G' m) := by
  rw [bigSep_sep', bigSep_sep', bigSep_sep', ← bigSep_univ_prod (fun ck : Dev nD × KK => iprop(∃ κ : ℕ, cellInv ER (rd m) κ (kcell ck.1 ck.2)))]
  iintro ⟨HI, Hat, Hr, Htok⟩
  ihave Hr := (Entails.of_eq (show (bigSep Finset.univ fun c : Dev nD => Rch c) = (bigSep Finset.univ fun ck : Dev nD × KK => (reached ER (kcell ck.1 ck.2) 0 : sProp 𝕄)) by
    unfold Rch; rw [bigSep_univ_prod])) $$ Hr
  icases Hr with #HR
  ihave HK := (BI.bigSep_exists_pi Finset.univ (fun (ck : Dev nD × KK) (κ : ℕ) => (cellInv ER (rd m) κ (kcell ck.1 ck.2) : sProp 𝕄))) $$ HI
  icases HK with ⟨%K, #HI⟩
  ihave Htk := (toks_around (F := F)) $$ Htok
  iapply (show iprop(recs m K ∗ bigSep Finset.univ fun c => iprop(Pos c ∗ payToks c)) ⊢ bigSep Finset.univ (G' m) from
    bigSep_with_persistent fun c _ => G'_intro m K c)
  isplitr
  · unfold recs; isplitl; · iexact HI
    iexact HR
  · rw [bigSep_sep']
    isplitl [Hat]; · iexact Hat
    iexact Htk

/-- The semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The rights to wait -/

omit [FloatOps F] in
/-- A sum of dues, each to the device a fixed distance on, gives each device the right to wait for their sum. -/
theorem creds_sum (n q : ℕ) (k : ℕ → KK) (j : ℕ → Fin 15) (c : Dev nD) :
    (Pipeline.launchCred (fun d => ∑ r ∈ Finset.range n, tallyAt (kcell (tgt d (j r)) (k r)) () q) c : sProp 𝕄)
      ⊢ cred (∑ r ∈ Finset.range n, tallyAt (kcell c (k r)) () q) := by
  rw [Pipeline.launchCred_sum, Pipeline.cred_finsetSum]
  exact bigSep_mono fun r _ => Pipeline.launchCred_tallyAt (csem (k r)) (fun d => tgt d (j r)) (fun d => src d (j r))
    (fun c => tgt_src c _) (fun c => src_tgt c _) () q c

omit [FloatOps F] in
theorem nsmul_tally (g : GSem nD τ sig) (q n : ℕ) : n • (tallyAt g () q : CellTallies nD τ sig Unit) = tallyAt g () (n * q) := by
  induction n with
  | zero => rw [zero_nsmul, Nat.zero_mul, tallyAt_zero]
  | succ n ih => rw [succ_nsmul, ih, Nat.succ_mul, tallyAt_add]

theorem recv_count (p : Fin 5) :
    ((Finset.range 75).filter fun r => (⟨(74 - r) / 15 % 5, Nat.mod_lt _ (by decide)⟩ : Fin 5) = p).card = 15 := by
  revert p; decide
theorem recv_image : (Finset.range 75).image (fun r => (⟨(74 - r) / 15 % 5, Nat.mod_lt _ (by decide)⟩ : Fin 5)) = Finset.univ := by decide

omit [FloatOps F] in
theorem creds (c : Dev nD) : (Pipeline.launchCred (fun d => Obar d 15) c : sProp 𝕄)
    ⊢ iprop(cred (tallyAt (kcell c .bar) () 15) ∗ bigSep Finset.univ fun p : Fin 5 => cred (tallyAt (kcell c (.recv p)) () (15 * N))) := by
  refine (Entails.of_eq (Pipeline.launchCred_add (fun d => Orem d 75) (fun d => ∑ k ∈ Finset.range 15, sigT d (14 - k)) c)).trans ?_
  iintro ⟨H1, H2⟩
  isplitl [H2]
  · ihave H := (show (Pipeline.launchCred (fun d => ∑ k ∈ Finset.range 15, sigT d (14 - k)) c : sProp 𝕄)
        ⊢ cred (∑ r ∈ Finset.range 15, tallyAt (kcell c .bar) () 1) from
      creds_sum 15 1 (fun _ => .bar) (fun r => ⟨(14 - r) % 15, Nat.mod_lt _ (by decide)⟩) c) $$ H2
    rw [Finset.sum_const, Finset.card_range, nsmul_tally]
    iexact H
  · ihave H := (show (Pipeline.launchCred (fun d => Orem d 75) c : sProp 𝕄)
        ⊢ cred (∑ r ∈ Finset.range 75, tallyAt (kcell c (.recv ⟨(74 - r) / 15 % 5, Nat.mod_lt _ (by decide)⟩)) () N) from
      creds_sum 75 N (fun r => .recv ⟨(74 - r) / 15 % 5, Nat.mod_lt _ (by decide)⟩) (fun r => ⟨(74 - r) % 15, Nat.mod_lt _ (by decide)⟩) c) $$ H1
    ihave H := (Entails.of_eq (congrArg cred (show (∑ r ∈ Finset.range 75, (tallyAt (kcell c (.recv ⟨(74 - r) / 15 % 5, Nat.mod_lt _ (by decide)⟩)) () N : CellTallies nD τ sig Unit))
        = ∑ p : Fin 5, tallyAt (kcell c (.recv p)) () (15 * N) from
      (Finset.sum_comp (fun p : Fin 5 => (tallyAt (kcell c (.recv p)) () N : CellTallies nD τ sig Unit)) _).trans (by
        rw [recv_image]
        exact Finset.sum_congr rfl fun p _ => by rw [recv_count, nsmul_tally])))) $$ H
    ihave H := (Entails.of_eq (Pipeline.cred_finsetSum Finset.univ fun p : Fin 5 => (tallyAt (kcell c (.recv p)) () (15 * N) : CellTallies nD τ sig Unit))) $$ H
    iexact H

end Cert.MlpProof
-- ==== Proof.Ends.lean ====
/-
# What a device's kernel starts and ends with

At launch a device's share of the protocol, its weights and its scratch buffers are what the kernel's body needs; when
the body has run, every semaphore is back at zero and the weights and the scratch buffers are whole again.
-/
module

public import proofs.«01_k».proof.Proof.Body
public import proofs.«01_k».proof.Proof.Ghost

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KK → ℕ) (c : Dev nD)

/-! ## Whole buffers -/

omit [FloatOps F] in
/-- A buffer held whole is its memref owned, -/
theorem own_whole (b : Ref sig .tc) (f : Buf (Elt F) ((c : Thread nD τ).loc b)) :
    (((c : Thread nD τ).loc b) ↦{fullShare} f : sProp 𝕄) ⊢ owns (c : Thread nD τ) (Memref.whole b) fullShare f := by
  rw [owns_whole_eq]
  iintro H
  iexists f
  isplitr; · ipureintro; rfl
  iexact H
omit [FloatOps F] in
/-- and back, -/
theorem whole_own (b : Ref sig .tc) (f : Buf (Elt F) ((c : Thread nD τ).loc b)) :
    (owns (c : Thread nD τ) (Memref.whole b) fullShare f : sProp 𝕄) ⊢ (((c : Thread nD τ).loc b) ↦{fullShare} f) := by
  rw [owns_whole_eq]
  iintro ⟨%g, %hg, H⟩
  rw [hg]
  iexact H
omit [FloatOps F] in
/-- at any contents too. -/
theorem own_any (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  iintro ⟨%f, H⟩
  iexists f
  iapply (own_whole c b f)
  iexact H
omit [FloatOps F] in
theorem any_own (b : Ref sig .tc) :
    (iprop(∃ X, owns (c : Thread nD τ) (Memref.whole b) fullShare X) : sProp 𝕄)
      ⊢ iprop(∃ f : Buf (Elt F) ((c : Thread nD τ).loc b), ((c : Thread nD τ).loc b) ↦{fullShare} f) := by
  iintro ⟨%f, H⟩
  iexists f
  iapply (whole_own c b f)
  iexact H

section Parts

variable {s t : Shape} {n : ℕ} (off : Fin n → Fin s.rank → ℕ) (size : Fin s.rank → ℕ)
  (inb : ∀ b, ∀ a, off b a + size a ≤ s.size a) (h : Shape.Squeezes ⟨s.rank, size⟩ t)
  (hd : ∀ b b', b ≠ b' → Disjoint (pieceR off size inb b).set (pieceR off size inb b').set)
  (hc : Finset.univ.biUnion (fun b => (pieceR off size inb b).set) = Finset.univ)
  {sp : Space} {e : EltTy} (M : Memref sig .tc sp s e)

omit [FloatOps F] in
include hd hc in
/-- A memref at any contents is its blocks at any contents. -/
theorem any_split : (iprop(∃ X, owns (c : Thread nD τ) M fullShare X) : sProp 𝕄)
    ⊢ bigSep Finset.univ fun b => iprop(∃ X, owns (c : Thread nD τ) (pieceM off size inb h M b) fullShare X) := by
  iintro ⟨%X, H⟩
  ihave H := (owns_split off size inb h c M fullShare hd hc X) $$ H
  iapply (show (bigSep Finset.univ fun b => owns (c : Thread nD τ) (pieceM off size inb h M b) fullShare (pieceV off size inb h X b))
      ⊢ (bigSep Finset.univ fun b => iprop(∃ X, owns (c : Thread nD τ) (pieceM off size inb h M b) fullShare X) : sProp 𝕄) from
    bigSep_mono fun b _ => show _ ⊢ iprop(∃ X, owns (c : Thread nD τ) (pieceM off size inb h M b) fullShare X) from exists_intro _)
  iexact H

end Parts

/-! ## The weights -/

/-- The arrays of weights. -/
def wRefs : Finset (Ref sig .tc) := {main_arg1, main_arg2, main_arg3, main_arg4, main_arg5, main_arg6}
/-- Device `c`'s weights as launched. -/
def Wgt : sProp 𝕄 := bigSep wRefs fun b => ((c : Thread nD τ).loc b) ↦{fullShare} m ((c : Thread nD τ).loc b)

omit [FloatOps F] in
theorem wgt_eq : (Wgt m c : sProp 𝕄)
    = iprop((((c : Thread nD τ).loc main_arg1) ↦{fullShare} m ((c : Thread nD τ).loc main_arg1))
      ∗ (((c : Thread nD τ).loc main_arg2) ↦{fullShare} m ((c : Thread nD τ).loc main_arg2))
      ∗ (((c : Thread nD τ).loc main_arg3) ↦{fullShare} m ((c : Thread nD τ).loc main_arg3))
      ∗ (((c : Thread nD τ).loc main_arg4) ↦{fullShare} m ((c : Thread nD τ).loc main_arg4))
      ∗ (((c : Thread nD τ).loc main_arg5) ↦{fullShare} m ((c : Thread nD τ).loc main_arg5))
      ∗ (((c : Thread nD τ).loc main_arg6) ↦{fullShare} m ((c : Thread nD τ).loc main_arg6))) :=
  bigSep_eq_bigSepL_of_eq [main_arg1, main_arg2, main_arg3, main_arg4, main_arg5, main_arg6] (by decide) (by decide) _

omit [FloatOps F] in
/-- They are the launch's buffers that the pipeline does not move. -/
theorem rest_wgt : (Pipeline.unscopedRestP Pipeline.Prefetch.none cfg0.spec c (fun b => m ((c : Thread nD τ).loc b)) : sProp 𝕄) = Wgt m c := by
  rw [wgt_eq]
  exact Pipeline.unscopedRestP_eq_of_list (win := spec0) (c := c) Pipeline.Prefetch.none _ [main_arg1, main_arg2, main_arg3, main_arg4, main_arg5, main_arg6] (by decide) (by decide)

/-- Each layer's weights, owned. -/
theorem wgt_own : (Wgt m c : sProp 𝕄)
    ⊢ iprop((bigSep Finset.univ fun l => owns (c : Thread nD τ) (argI l) fullShare (wI m c l)) ∗ bigSep Finset.univ fun l => owns (c : Thread nD τ) (argO l) fullShare (wO m c l)) := by
  rw [wgt_eq, bigSep_three, bigSep_three]
  iintro ⟨H1, H2, H3, H4, H5, H6⟩
  isplitl [H1 H2 H3]
  · isplitl [H1]; · iapply (own_whole c main_arg1 _); iexact H1
    isplitl [H2]; · iapply (own_whole c main_arg2 _); iexact H2
    iapply (own_whole c main_arg3 _); iexact H3
  · isplitl [H4]; · iapply (own_whole c main_arg4 _); iexact H4
    isplitl [H5]; · iapply (own_whole c main_arg5 _); iexact H5
    iapply (own_whole c main_arg6 _); iexact H6
theorem own_wgt : iprop((bigSep Finset.univ fun l => owns (c : Thread nD τ) (argI l) fullShare (wI m c l)) ∗ bigSep Finset.univ fun l => owns (c : Thread nD τ) (argO l) fullShare (wO m c l))
    ⊢ (Wgt m c : sProp 𝕄) := by
  rw [wgt_eq, bigSep_three, bigSep_three]
  iintro ⟨⟨H1, H2, H3⟩, H4, H5, H6⟩
  isplitl [H1]; · iapply (whole_own c main_arg1 (m ((c : Thread nD τ).loc main_arg1))); iexact H1
  isplitl [H2]; · iapply (whole_own c main_arg2 (m ((c : Thread nD τ).loc main_arg2))); iexact H2
  isplitl [H3]; · iapply (whole_own c main_arg3 (m ((c : Thread nD τ).loc main_arg3))); iexact H3
  isplitl [H4]; · iapply (whole_own c main_arg4 (m ((c : Thread nD τ).loc main_arg4))); iexact H4
  isplitl [H5]; · iapply (whole_own c main_arg5 (m ((c : Thread nD τ).loc main_arg5))); iexact H5
  iapply (whole_own c main_arg6 (m ((c : Thread nD τ).loc main_arg6))); iexact H6

/-! ## The scratch buffers -/

/-- The scratch buffers as the body takes them: the weights' by layer, the landing buffers by the device a place is kept for. -/
def Scr : sProp 𝕄 :=
  iprop((bigSep Finset.univ fun l => iprop(∃ X, owns (c : Thread nD τ) (layI wfI l) fullShare X))
    ∗ (bigSep Finset.univ fun l => iprop(∃ X, owns (c : Thread nD τ) (layO wfO l) fullShare X))
    ∗ (bigSep Finset.univ fun l => iprop(∃ X, owns (c : Thread nD τ) (layI wbI l) fullShare X))
    ∗ (bigSep Finset.univ fun l => iprop(∃ X, owns (c : Thread nD τ) (layO wbO l) fullShare X))
    ∗ (∃ X, owns (c : Thread nD τ) sndM fullShare X)
    ∗ bigSep Finset.univ fun p : Fin 5 => iprop(∃ X, owns (c : Thread nD τ) (bufM p) fullShare X))

omit [FloatOps F] in
theorem scr_split : (Pipeline.scopedRest cfg0.spec c : sProp 𝕄) ⊢ Scr c := by
  refine (Entails.of_eq (scopedRest0_eq (Val := Elt F) c)).trans ?_
  unfold Scr
  rw [bigSep_five]
  iintro ⟨H0, H1, H2, H3, H4, H5, H6, H7, H8, H9⟩
  isplitl [H0]
  · iapply (any_split c offI S1x512x1024.size inbI squeezes_S1x512x1024_S512x1024 disjI covI wfI); iapply (own_any c cc0_scratch0); iexact H0
  isplitl [H1]
  · iapply (any_split c offO S1x1024x512.size inbO squeezes_S1x1024x512_S1024x512 disjO covO wfO); iapply (own_any c cc0_scratch1); iexact H1
  isplitl [H2]
  · iapply (any_split c offI S1x512x1024.size inbI squeezes_S1x512x1024_S512x1024 disjI covI wbI); iapply (own_any c cc0_scratch2); iexact H2
  isplitl [H3]
  · iapply (any_split c offO S1x1024x512.size inbO squeezes_S1x1024x512_S1024x512 disjO covO wbO); iapply (own_any c cc0_scratch3); iexact H3
  isplitl [H4]; · iapply (own_any c cc0_scratch4); iexact H4
  isplitl [H5]; · iapply (own_any c cc0_scratch5); iexact H5
  isplitl [H6]; · iapply (own_any c cc0_scratch6); iexact H6
  isplitl [H7]; · iapply (own_any c cc0_scratch7); iexact H7
  isplitl [H8]; · iapply (own_any c cc0_scratch8); iexact H8
  iapply (own_any c cc0_scratch9); iexact H9

omit [FloatOps F] in
theorem scr_join [∀ e, Nonempty (Elt F e)] : (Scr c : sProp 𝕄) ⊢ Pipeline.scopedRest cfg0.spec c := by
  refine (show (Scr c : sProp 𝕄) ⊢ _ from ?_).trans (Entails.of_eq (scopedRest0_eq (Val := Elt F) c).symm)
  unfold Scr
  rw [bigSep_five]
  iintro ⟨H0, H1, H2, H3, H4, H5, H6, H7, H8, H9⟩
  isplitl [H0]
  · iapply (any_own c cc0_scratch0); iapply (owns_join_any offI S1x512x1024.size inbI squeezes_S1x512x1024_S512x1024 c wfI fullShare disjI covI); iexact H0
  isplitl [H1]
  · iapply (any_own c cc0_scratch1); iapply (owns_join_any offO S1x1024x512.size inbO squeezes_S1x1024x512_S1024x512 c wfO fullShare disjO covO); iexact H1
  isplitl [H2]
  · iapply (any_own c cc0_scratch2); iapply (owns_join_any offI S1x512x1024.size inbI squeezes_S1x512x1024_S512x1024 c wbI fullShare disjI covI); iexact H2
  isplitl [H3]
  · iapply (any_own c cc0_scratch3); iapply (owns_join_any offO S1x1024x512.size inbO squeezes_S1x1024x512_S1024x512 c wbO fullShare disjO covO); iexact H3
  isplitl [H4]; · iapply (any_own c cc0_scratch4); iexact H4
  isplitl [H5]; · iapply (any_own c cc0_scratch5); iexact H5
  isplitl [H6]; · iapply (any_own c cc0_scratch6); iexact H6
  isplitl [H7]; · iapply (any_own c cc0_scratch7); iexact H7
  isplitl [H8]; · iapply (any_own c cc0_scratch8); iexact H8
  iapply (any_own c cc0_scratch9); iexact H9

/-! ## In -/

omit [FloatOps F] in
/-- All landing buffers: the places kept for the device itself, and by receiver those kept for the others. -/
theorem lands_split : (bigSep Finset.univ fun p : Fin 5 => iprop(∃ X, owns (c : Thread nD τ) (bufM p) fullShare X) : sProp 𝕄)
    ⊢ iprop((bigSep Finset.univ fun p : Fin 5 => land p c c) ∗ bigSep Finset.univ fun j : Fin 15 => bigSep Finset.univ fun p : Fin 5 => land p c (tgt c j)) := by
  refine (show _ ⊢ (bigSep Finset.univ fun p : Fin 5 => iprop(land p c c ∗ bigSep Finset.univ fun j => land p c (tgt c j)) : sProp 𝕄) from
    bigSep_mono fun p _ => land_split p c).trans ?_
  rw [bigSep_sep', Pipeline.bigSep_univ_comm (fun (p : Fin 5) (j : Fin 15) => (land p c (tgt c j) : sProp 𝕄))]

/-- What the launch gives a device is what the body starts from. -/
theorem enter : iprop(ctx m K ∗ (Pos c ∗ payToks c) ∗ (cred (tallyAt (kcell c .bar) () 15) ∗ bigSep Finset.univ fun p : Fin 5 => cred (tallyAt (kcell c (.recv p)) () (15 * N)))
      ∗ Wgt m c ∗ Pipeline.scopedRest cfg0.spec c ∗ OwO c (Obar c 15)
      ∗ owns (c : Thread nD τ) inM fullShare (xV m c) ∗ (∃ X, owns (c : Thread nD τ) outM fullShare X))
    ⊢ Init m c := by
  conv_lhs => unfold payToks
  iintro ⟨#HK, ⟨HP, Htb, Htk, Hti, Hto⟩, ⟨Hcb, Hcr⟩, HW, HS, HO, Hin, Hout⟩
  unfold Pos
  ihave HP := (Entails.of_eq (bigSep_flat (F := F) fun k => atPos ER (kcell c k) 0 ∅ 0)) $$ HP
  icases HP with ⟨Pb, Ps, P0, P1, P2, P3, P4, Pi0, Pi1, Pi2, Po0, Po1, Po2⟩
  ihave Hr := (ctx_reached m K c .send) $$ HK
  ihave HW := (wgt_own m c) $$ HW
  icases HW with ⟨HWi, HWo⟩
  ihave HS := (scr_split (F := F) c) $$ HS
  unfold Scr
  icases HS with ⟨S0, S1, S2, S3, Sd, HB⟩
  ihave HB := (lands_split (F := F) c) $$ HB
  icases HB with ⟨Hown, Hoth⟩
  unfold Init LdIn LdOut Cst Start Wts
  simp only [bigSep_sep']
  isplitl [HWi S0 Hti]
  · isplitl [HWi]; · iexact HWi
    isplitl [S0]; · iexact S0
    iexact Hti
  isplitl [HWo S1 Hto]
  · isplitl [HWo]; · iexact HWo
    isplitl [S1]; · iexact S1
    iexact Hto
  isplitl [S2 S3 Pi0 Pi1 Pi2 Po0 Po1 Po2]
  · isplitl [S2]; · iexact S2
    isplitl [S3]; · iexact S3
    rw [bigSep_three, bigSep_three]
    isplitl [Pi0 Pi1 Pi2]
    · isplitl [Pi0]; · iexact Pi0
      isplitl [Pi1]; · iexact Pi1
      iexact Pi2
    · isplitl [Po0]; · iexact Po0
      isplitl [Po1]; · iexact Po1
      iexact Po2
  isplitl [HO]; · iexact HO
  isplitl [Htb Hoth]
  · isplitl [Htb]; · iexact Htb
    iexact Hoth
  isplitl [Pb Hcb]
  · isplitl [Pb]; · iexact Pb
    iexact Hcb
  isplitl [Hown Htk P0 P1 P2 P3 P4 Hcr]
  · isplitl [Hown]; · iexact Hown
    isplitl [Htk]; · iexact Htk
    isplitr [Hcr]
    · rw [bigSep_five]
      isplitl [P0]; · iexact P0
      isplitl [P1]; · iexact P1
      isplitl [P2]; · iexact P2
      isplitl [P3]; · iexact P3
      iexact P4
    iexact Hcr
  isplitl [Ps Hr]
  · isplitl [Ps]; · iexact Ps
    iexact Hr
  isplitl [Hin]; · iexact Hin
  isplitl [Hout]; · iexact Hout
  iexact Sd

/-! ## Out -/

/-- A semaphore whose rounds are over is at zero. -/
theorem close_one (k : KK) : iprop(ctx m K ∗ atPos ER (kcell c k) (lastK k) ∅ 0) ⊢ (|={Set.univ}=> semVal (kcell c k) 0 : sProp 𝕄) := by
  iintro ⟨#HK, H⟩
  ihave Hi := (ctx_inv m K c k) $$ HK
  iapply (Rounds.cell_close ER (rd m) (Set.mem_univ (K (c, k))) (fun h => h) (R := lastK k) (fun r hr => by rw [duties_k]; exact duties_last k r hr))
  isplitl [Hi]; · iexact Hi
  iexact H

/-- All of them. -/
theorem close_all : iprop(ctx m K ∗ bigSep Finset.univ fun k => atPos ER (kcell c k) (lastK k) ∅ 0)
    ⊢ (|={Set.univ}=> iprop(unscopedSems0 c ∗ Pipeline.ownSems0 (Ix := Unit) (Name := ℕ) (U := UU) (Lvl := ℕ) (Val := Elt F) (τ := τ) osem c) : sProp 𝕄) := by
  rw [← sems0_eq]
  exact (show _ ⊢ (bigSep Finset.univ fun k => iprop(|={Set.univ}=> semVal (kcell c k) 0) : sProp 𝕄) from
    bigSep_with_persistent fun k _ => close_one m K c k).trans (bigSep_fupd _ _)

/-- What the body ends with, its semaphores closed, is what the launch takes back. -/
theorem leave [∀ e, Nonempty (Elt F e)] : iprop(ctx m K ∗ Ends m c)
    ⊢ |={Set.univ}=> iprop(((unscopedSems0 c ∗ Wgt m c) ∗ Pipeline.ownSems0 (Ix := Unit) (Name := ℕ) (U := UU) (Lvl := ℕ) (Val := Elt F) (τ := τ) osem c ∗ Pipeline.scopedRest cfg0.spec c)
        ∗ OwO c 0 ∗ owns (c : Thread nD τ) inM fullShare (xV m c) ∗ owns (c : Thread nD τ) outM fullShare (outV m c)) := by
  unfold Ends Thr Dn Kept Lde Wb linPay loutPay
  rw [show 75 - 15 * 5 = 0 from rfl, Orem_zero]
  iintro ⟨#HK, ⟨HO, Ps, -⟩, Hin, Hout, Pb, Sd, ⟨⟨B0, P0⟩, ⟨B1, P1⟩, ⟨B2, P2⟩, ⟨B3, P3⟩, B4, P4⟩,
    ⟨⟨⟨Fi0, Wi0⟩, ⟨Fo0, Wo0⟩, Pi0, Po0⟩, Ni0, No0⟩, ⟨⟨⟨Fi1, Wi1⟩, ⟨Fo1, Wo1⟩, Pi1, Po1⟩, Ni1, No1⟩, ⟨⟨Fi2, Wi2⟩, ⟨Fo2, Wo2⟩, Pi2, Po2⟩, Ni2, No2⟩
  imod (close_all m K c) $$ [Ps Pb P0 P1 P2 P3 P4 Pi0 Pi1 Pi2 Po0 Po1 Po2] with ⟨Hu, Hown⟩
  · isplitr; · iexact HK
    rw [bigSep_flat (F := F) fun k => atPos ER (kcell c k) (lastK k) ∅ 0]
    isplitl [Pb]; · iexact Pb
    isplitl [Ps]; · iexact Ps
    isplitl [P0]; · iexact P0
    isplitl [P1]; · iexact P1
    isplitl [P2]; · iexact P2
    isplitl [P3]; · iexact P3
    isplitl [P4]; · iexact P4
    isplitl [Pi0]; · iexact Pi0
    isplitl [Pi1]; · iexact Pi1
    isplitl [Pi2]; · iexact Pi2
    isplitl [Po0]; · iexact Po0
    isplitl [Po1]; · iexact Po1
    iexact Po2
  imodintro
  isplitr [HO Hin Hout]
  · isplitl [Hu Wi0 Wi1 Wi2 Wo0 Wo1 Wo2]
    · isplitl [Hu]; · iexact Hu
      iapply (own_wgt m c)
      rw [bigSep_three, bigSep_three]
      isplitl [Wi0 Wi1 Wi2]
      · isplitl [Wi0]; · iexact Wi0
        isplitl [Wi1]; · iexact Wi1
        iexact Wi2
      · isplitl [Wo0]; · iexact Wo0
        isplitl [Wo1]; · iexact Wo1
        iexact Wo2
    isplitl [Hown]; · iexact Hown
    iapply (scr_join (F := F) c)
    unfold Scr
    rw [bigSep_three, bigSep_three, bigSep_three, bigSep_three, bigSep_five]
    isplitl [Fi0 Fi1 Fi2]
    · isplitl [Fi0]; · iexists (wI m c 0); iexact Fi0
      isplitl [Fi1]; · iexists (wI m c 1); iexact Fi1
      iexists (wI m c 2); iexact Fi2
    isplitl [Fo0 Fo1 Fo2]
    · isplitl [Fo0]; · iexists (wO m c 0); iexact Fo0
      isplitl [Fo1]; · iexists (wO m c 1); iexact Fo1
      iexists (wO m c 2); iexact Fo2
    isplitl [Ni0 Ni1 Ni2]
    · isplitl [Ni0]; · iexists _; iexact Ni0
      isplitl [Ni1]; · iexists _; iexact Ni1
      iexists _; iexact Ni2
    isplitl [No0 No1 No2]
    · isplitl [No0]; · iexists _; iexact No0
      isplitl [No1]; · iexists _; iexact No1
      iexists _; iexact No2
    isplitl [Sd]; · iexists _; iexact Sd
    isplitl [B0]; · iexists _; iexact B0
    isplitl [B1]; · iexists _; iexact B1
    isplitl [B2]; · iexists _; iexact B2
    isplitl [B3]; · iexists _; iexact B3
    iexists _; iexact B4
  isplitl [HO]; · iexact HO
  isplitl [Hin]; · iexact Hin
  iexact Hout

end Cert.MlpProof
-- ==== Proof.Run.lean ====
/-
# The run of the sixteen devices

From any memory with every semaphore at zero the sixteen devices' kernels end; then device `c`'s result holds `outV m c`,
the arguments hold what they held, and every semaphore is back at zero.
-/
module

public import proofs.«01_k».proof.Proof.Ends
public import proofs.«01_k».proof.Proof.Gen.KernelIdeal.Points
public import Idealize.ShloMosaic.Lib.Pipeline.Kit
public import Idealize.ShloMosaic.Lib.Pipeline.CollectiveSegs

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at launch. -/
abbrev s0 : MemSt nD τ sig (Elt F) := ⟨m, fun _ => 0, ρ⟩

/-- What device `c` holds beside its staging buffers when its kernel starts, -/
def Φ₀ (c : Dev nD) : sProp 𝕄 :=
  iprop((G' m c ∗ levAts L lv
      ∗ (cred (tallyAt (kcell c .bar) () 15) ∗ bigSep Finset.univ fun p : Fin 5 => cred (tallyAt (kcell c (.recv p)) () (15 * N)))
      ∗ Wgt m c) ∗ Pipeline.scopedRest cfg0.spec c)
/-- and when it ends. -/
def Φ₁ (c : Dev nD) : sProp 𝕄 :=
  iprop((unscopedSems0 c ∗ Wgt m c) ∗ Pipeline.ownSems0 (Ix := Unit) (Name := ℕ) (U := UU) (Lvl := ℕ) (Val := Elt F) (τ := τ) osem c
    ∗ Pipeline.scopedRest cfg0.spec c)

/-- The pipeline's one point: the input staged whole, the result written whole. -/
def dats (_ : Fin 1) (c : Dev nD) : Dat τ (Elt F) Unit ℕ UU ℕ cfg0 c where
  A w := (s0 m ρ).mem ((cfg0.win w).arr.view.loc (c : Thread nD τ))
  after w _ := match w with
    | ⟨0, _⟩ => xV m c
    | ⟨1, _⟩ => outV m c
  Φ t := match t with
    | ⟨0, _⟩ => Φ₀ m c
    | ⟨_ + 1, _⟩ => Φ₁ m c
  q _ := fullShare
  owed t := match t with
    | ⟨0, _⟩ => Obar c 15
    | ⟨_ + 1, _⟩ => 0

theorem read_in (f : main_arg0.ty.Contents (Elt F)) : (win0_0.blk t0_0).view.read (Elt F) f = f :=
  Memref.read_access_unit_zero (Elt F) main_arg0 (funext fun a => by fin_cases a <;> decide) (fun a => by fin_cases a <;> decide) f
theorem read_out (f : main_v1.ty.Contents (Elt F)) : (win0_1.blk t0_0).view.read (Elt F) f = f :=
  Memref.read_access_unit_zero (Elt F) main_v1 (funext fun a => by fin_cases a <;> decide) (fun a => by fin_cases a <;> decide) f

/-- The body finds the input in its staging buffer. -/
theorem before_in (c : Dev nD) (d) : (dats m ρ 0 c).before (0 : Fin 2) t0_0 d = xV m c := by
  unfold Dat.before
  rw [if_pos (show (cfg0.win (0 : Fin 2)).fetch t0_0 = true by decide)]
  exact read_in (F := F) _

/-- What the pipeline hands the body, -/
def bodyPre (c : Dev nD) : sProp 𝕄 :=
  iprop(Φ₀ m c ∗ (dats m ρ 0 c).owesAt () (t0_0 : Fin cfg0.N).castSucc
    ∗ (∃ d, owns (c : Thread nD τ) inM fullShare ((dats m ρ 0 c).before (0 : Fin 2) t0_0 d))
    ∗ (∃ d, owns (c : Thread nD τ) outM fullShare ((dats m ρ 0 c).before (1 : Fin 2) t0_0 d)))
/-- and takes back. -/
def bodyPost (c : Dev nD) : sProp 𝕄 :=
  iprop(Φ₁ m c ∗ (dats m ρ 0 c).owesAt () (t0_0 : Fin cfg0.N).succ
    ∗ owns (c : Thread nD τ) inM fullShare (xV m c) ∗ owns (c : Thread nD τ) outM fullShare (outV m c))

theorem body_run [∀ e, Nonempty (Elt F e)] (c : Dev nD) : bodyPre m ρ c ⊢ WP c (bodyAt0 t0_0) (fun _ => bodyPost m ρ c) := by
  unfold bodyPre Φ₀ G' Dat.owesAt Pipeline.owesWithin
  iintro ⟨⟨⟨⟨%K, #HR, HP, HT⟩, #HL, HC, HW⟩, HS⟩, ⟨%W, %hW, HO⟩, ⟨%d0, Hin⟩, ⟨%d1, Hout⟩⟩
  iapply (sound m K c (fun _ => bodyPost m ρ c) ((leave m K c).trans (BI.fupd_mono ?_)))
  · unfold bodyPost Φ₁ OwO Dat.owesAt Pipeline.owesWithin
    iintro ⟨H, ⟨%W', HO⟩, Hin, Hout⟩
    isplitl [H]; · iexact H
    isplitl [HO]
    · iexists W'
      isplitr; · ipureintro; exact fun _ _ => Or.inl trivial
      iexact HO
    isplitl [Hin]; · iexact Hin
    iexact Hout
  · ihave HK := (ctx_intro m K) $$ []
    · isplitl; · iexact HR
      iexact HL
    icases HK with #HK
    isplitr; · iexact HK
    iapply (enter m K c)
    isplitr; · iexact HK
    isplitl [HP HT]
    · isplitl [HP]; · iexact HP
      iexact HT
    isplitl [HC]; · iexact HC
    isplitl [HW]; · iexact HW
    isplitl [HS]; · iexact HS
    isplitl [HO]; · unfold OwO; iexists W; iexact HO
    isplitl [Hin]; · rw [before_in]; iexact Hin
    iexists _; iexact Hout

set_option maxRecDepth 65536 in
theorem body_obligation [∀ e, Nonempty (Elt F e)] (c : Dev nD) : BodyObligation (dats m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  exact body_run m ρ c

/-! ## The launch -/

theorem share_eq (c : Dev nD) (w : Fin cfg0.W) : (dats m ρ 0 c).share w = fullShare := by unfold Dat.share; split <;> rfl

/-- A semaphore that is not of the protocol is at the lowest level. -/
theorem lv_other (c : Dev nD) (q : DmaSem sig) (h : ∀ k, csem k ≠ .dma q) : lv ((c : Thread nD τ), .dma q) () = 0 := by
  unfold lv; rw [kindOf_none h]; rfl

set_option maxRecDepth 65536 in
theorem stage_none : ∀ (w : Fin 2) (s : Fin (spec0 w).nbuf) (k : KK), csem k ≠ .dma ((spec0 w).sem s) := by decide +kernel

set_option maxRecDepth 65536 in
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_start c _ (lv_other c _ (stage_none w s)) 15
    · exact (mayWait_low c _ (lv_other c _ (stage_none w s)) 0 (by decide)).trans (Entails.of_eq (by rw [Orem_zero]; rfl))

/-- What a device keeps of the launch until its kernel starts. -/
def Held (c : Dev nD) : sProp 𝕄 :=
  iprop(G' m c ∗ levAts L lv
      ∗ (cred (tallyAt (kcell c .bar) () 15) ∗ bigSep Finset.univ fun p : Fin 5 => cred (tallyAt (kcell c (.recv p)) () (15 * N)))
      ∗ Wgt m c)

theorem held_intro (c : Dev nD) :
    iprop(Pipeline.unscopedRestP Pipeline.Prefetch.none cfg0.spec c (fun b => m ((c : Thread nD τ).loc b)) ∗ levAts L lv
      ∗ Pipeline.launchCred (fun d => Obar d 15) c ∗ prngReg c (ρ c) ∗ G' m c) ⊢ |={Set.univ}=> iprop(Held m c ∗ emp) := by
  rw [rest_wgt]
  unfold Held
  iintro ⟨HW, HL, HC, -, HG⟩
  ihave HC := (creds (F := F) c) $$ HC
  imodintro
  isplitl
  · isplitl [HG]; · iexact HG
    isplitl [HL]; · iexact HL
    isplitl [HC]; · iexact HC
    iexact HW
  iempintro

theorem phi0_intro (c : Dev nD) (X : sProp 𝕄) : iprop(Held m c ∗ X ∗ Pipeline.scopedRest cfg0.spec c) ⊢ Φ₀ m c := by
  unfold Φ₀ Held
  iintro ⟨H1, -, H2⟩
  isplitl [H1]; · iexact H1
  iexact H2

/-- What is read off the memory when all is over. -/
def QY (c : Dev nD) (s : MemSt nD τ sig (Elt F)) : Prop :=
  (∀ b ∈ wRefs, s.mem ((c : Thread nD τ).loc b) = m ((c : Thread nD τ).loc b))
    ∧ ∀ sm : SemLoc sig, sm.isScoped .tc = false → s.sem ((c : Thread nD τ), sm) = 0

theorem read_end (c : Dev nD) (s' : Phys nD τ sig (Elt F)) :
    iprop((unscopedSems0 c ∗ Wgt m c) ∗ emp ∗ SI s') ⊢ (|={Set.univ}=> iprop(⌜QY m c s'.mem⌝ ∗ SI s') : sProp 𝕄) := by
  unfold Wgt QY
  iintro ⟨⟨Hu, HW⟩, -, HSI⟩
  imod (Pipeline.unscopedSems0_read (X := unscopedSems0 c) (c := c) fupd_intro s') $$ [Hu HSI] with ⟨%hu, HSI⟩
  · isplitl [Hu] <;> iassumption
  ihave H := (pointsTo_read_all wRefs (fun b => (c : Thread nD τ).loc b) (fun b => m ((c : Thread nD τ).loc b)) s') $$ [HW HSI]
  · isplitl [HW] <;> iassumption
  icases H with ⟨%hw, HSI⟩
  imodintro
  isplitr; · ipureintro; exact ⟨hw, hu⟩
  iexact HSI

/-! ## The run -/

/-- An array of the pipeline after the run. -/
def finalA (c : Dev nD) (w : Fin cfg0.W) : Buf (Elt F) ((cfg0.win w).arr.view.loc (c : Thread nD τ)) := (dats m ρ 0 c).arrAt w cfg0.N

theorem finalA_x (c : Dev nD) : finalA m ρ c (0 : Fin 2) = m ((c : Thread nD τ).loc main_arg0) :=
  (dats m ρ 0 c).arrAt_in (0 : Fin 2) rfl _

theorem finalA_o (c : Dev nD) : finalA m ρ c (1 : Fin 2) = outV m c := by
  refine (read_out _).symm.trans ?_
  unfold finalA
  rw [show cfg0.N = (t0_0 : Fin cfg0.N).val + 1 from N_0, (dats m ρ 0 c).arrAt_succ (1 : Fin 2) t0_0]
  rw [if_pos (show (cfg0.win (1 : Fin 2)).flush t0_0 = true by decide)]
  exact View.read_write_univ _ _

/-- What holds when all is over. -/
def Post (r : PUnit × MemSt nD τ sig (Elt F)) : Prop :=
  (∀ c : Dev nD, r.2.mem ((c : Thread nD τ).loc main_v1) = outV m c
    ∧ r.2.mem ((c : Thread nD τ).loc main_arg0) = m ((c : Thread nD τ).loc main_arg0)
    ∧ ∀ b ∈ wRefs, r.2.mem ((c : Thread nD τ).loc b) = m ((c : Thread nD τ).loc b))
  ∧ r.2.sem = fun _ => 0

set_option maxRecDepth 65536 in
/-- The sixteen devices' kernels run, and end with device `c`'s result `outV m c`, the arguments as launched and every
    semaphore at zero. -/
theorem run_main [∀ e, Nonempty (Elt F e)] : θ_run defs (onTc (τ := τ) (main (F := F))) (s0 m ρ) (Post m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => Obar c 15) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mlp m) $$ HX with HG
      imodintro
      isplitl [HP] <;> iassumption)
    (hglob := glob m)
    (hA := fun _ _ => rfl) (hpf := fun _ k => k.elim0)
    (X := Held m) (Y := fun c => iprop(unscopedSems0 c ∗ Wgt m c)) (Z := fun _ => iprop(emp))
    (hX := held_intro m ρ) (hin := fun c => phi0_intro m c _) (hout := fun _ => BI.Entails.refl _)
    (QY := QY m) (hY := read_end m)
    (hQ := fun _ h hs => ⟨fun c => ⟨((h c).1 (1 : Fin 2)).trans (finalA_o m ρ c), ((h c).1 (0 : Fin 2)).trans (finalA_x m ρ c), (h c).2.2.1⟩,
      sem_eq_zero hs fun c => (h c).2.2.2⟩)

end Cert.MlpProof
-- ==== Proof.Frames.lean ====
/-
# The frames

Each program runs to its end from any memory with its semaphores at zero, leaves its arguments as they were and every
semaphore at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Init

@[expose] public section

noncomputable section

namespace Cert.MlpProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Cert.KernelIdeal in
/-- What the run leaves the arguments holding, one by one. -/
theorem args_kept {F : FTy → Type} [FloatOps F] {m : (ℓ : Loc nD τ sig) → Buf (Elt F) ℓ} {r : PUnit × MemSt nD τ sig (Elt F)} (h : Post m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  have hw := (h.1 c).2.2
  ⟨(h.1 c).2.1, hw main_arg1 (by decide), hw main_arg2 (by decide), hw main_arg3 (by decide), hw main_arg4 (by decide),
    hw main_arg5 (by decide), hw main_arg6 (by decide)⟩

open Cert.KernelIdeal in
/-- The kernel runs and leaves its arguments alone, whatever its floats are. -/
theorem frame_any {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept h, h.2⟩) (run_main m ρ)

/-- The kernel read over the extended reals runs and leaves its arguments alone. -/
theorem frame_ideal : Cert.quiescent_KernelIdeal := fun m ρ _ => frame_any m ρ

set_option maxRecDepth 65536 in
/-- The kernel as printed is the same program: its body, -/
theorem defs₀_same {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))
/-- and its pipeline. -/
theorem defs_same {F : FTy → Type} [FloatOps F] : Cert.Kernel.defs (F := F) = Cert.KernelIdeal.defs (F := F) :=
  congrArg (Pipeline.defs (Cert.KernelIdeal.pcfgs (F := F))) defs₀_same

set_option maxRecDepth 65536 in
/-- So it runs and leaves its arguments alone too. -/
theorem frame_kernel : Cert.quiescent_Kernel := by
  unfold Cert.quiescent_Kernel
  rw [defs_same]
  exact fun m ρ _ => frame_any (F := Bits) m ρ

/-- And so does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MlpProof
-- ==== Proof.Value.lean ====
/-
  What the kernel computes, read over the extended reals, where a change of format is the identity.

  `layer X W V` is one layer of the reference, max(X·W, 0)·V, entry by entry, for any number of hidden units: a device's
  partial product is `layer` of its 1024 hidden units, and `layer_split` adds the sixteen of them up to `layer` of all
  16384. Addition of extended reals is commutative and associative, so the order of the sum says nothing. Row `r` of
  device `e`'s block is row `4e + r` of the whole (`row`); `sums` reads what an exchange followed by a sum over its slots
  leaves, `gathered` puts the sixteen blocks together again. The three layers follow (`out_value`).
-/
module

public import proofs.«01_k».proof.Proof.Schedule
public import Idealize.ShloMosaic.Lib.Pipeline.Value
public import Idealize.ShloMosaic.Lib.StackMember
public import Idealize.ShloMosaic.Lib.KernelVsHost

@[expose] public section

noncomputable section

namespace Cert.MlpProof

open Cert.KernelIdeal Cert.KernelIdeal.Gen

open Idealize.ShloMosaic Idealize.ShloMosaic.ValueIdx
open Idealize.ShloMosaic.TcCoe
open scoped BigOperators

/-! ## One layer -/

/-- max(X·W, 0)·V, for `K` hidden units. -/
def layer {K : ℕ} (X : (⟨2, ![64, 512]⟩ : Shape).Idx → EReal) (W : (⟨2, ![512, K]⟩ : Shape).Idx → EReal)
    (V : (⟨2, ![K, 512]⟩ : Shape).Idx → EReal) : (⟨2, ![64, 512]⟩ : Shape).Idx → EReal :=
  fun i => ∑ k : Fin K, max (∑ q : Fin 512, X (ix2 (i 0) q) * W (ix2 q k)) 0 * V (ix2 k (i 1))

/-- The two products with the maximum between, as a program writes them. -/
theorem layer_eq {K : ℕ} {φ₁ φ₂ φ₃ φ₄ : FTy} (X : FVec Ideal ⟨2, ![64, 512]⟩ φ₁) (W : FVec Ideal ⟨2, ![512, K]⟩ φ₂)
    (V : FVec Ideal ⟨2, ![K, 512]⟩ φ₄) (H : FVec Ideal ⟨2, ![64, K]⟩ φ₃)
    (hH : ∀ i k, H (ix2 i k) = max (Host.dotGeneral (DotDims.plain 64 512 K) none X W (ix2 i k)) (0 : EReal)) :
    Host.dotGeneral (DotDims.plain 64 K 512) none H V = layer X W V := by
  funext j
  obtain ⟨i, l, rfl⟩ : ∃ (i : Fin 64) (l : Fin 512), j = ix2 i l := ⟨j 0, j 1, eq_ix2 j⟩
  refine (StackMember.dotGeneral_plain_apply none H V i l).trans ?_
  refine Finset.sum_congr rfl fun k _ => ?_
  rw [hH, StackMember.dotGeneral_plain_apply]

/-- A sum over `a · b` numbers, block by block. -/
theorem sum_split (a b : ℕ) (f : Fin (a * b) → EReal) :
    ∑ K, f K = ∑ e : Fin a, ∑ k : Fin b, f (finProdFinEquiv (e, k)) := by
  rw [← Equiv.sum_comp finProdFinEquiv f, Fintype.sum_prod_type]

/-- The layer is the sum of the sixteen devices' partial products. -/
theorem layer_split (X : (⟨2, ![64, 512]⟩ : Shape).Idx → EReal) (W : (⟨2, ![512, 16384]⟩ : Shape).Idx → EReal)
    (V : (⟨2, ![16384, 512]⟩ : Shape).Idx → EReal) (i : (⟨2, ![64, 512]⟩ : Shape).Idx) :
    layer X W V i = ∑ e : Fin 16, layer X (Layout.block ⟨2, ![512, 1024]⟩ ⟨2, ![512, 16384]⟩ 1 16 e W)
      (Layout.block ⟨2, ![1024, 512]⟩ ⟨2, ![16384, 512]⟩ 0 16 e V) i := by
  refine (sum_split 16 1024 _).trans (Finset.sum_congr rfl fun e _ => Finset.sum_congr rfl fun k _ => ?_)
  have hw : ∀ q : Fin 512, W (ix2 q (finProdFinEquiv (e, k))) = (Layout.block ⟨2, ![512, 1024]⟩ ⟨2, ![512, 16384]⟩ 1 16 e W) (ix2 q k) := by
    intro q
    refine congrArg W (funext fun a => Fin.ext ?_)
    match a with
    | ⟨0, _⟩ => rfl
    | ⟨1, _⟩ => show k.val + 1024 * e.val = e.val * 1024 + k.val; omega
  have hv : V (ix2 (finProdFinEquiv (e, k)) (i 1)) = (Layout.block ⟨2, ![1024, 512]⟩ ⟨2, ![16384, 512]⟩ 0 16 e V) (ix2 k (i 1)) := by
    refine congrArg V (funext fun a => Fin.ext ?_)
    match a with
    | ⟨0, _⟩ => show k.val + 1024 * e.val = e.val * 1024 + k.val; omega
    | ⟨1, _⟩ => rfl
  exact congrArg₂ (fun x y => max x 0 * y) (Finset.sum_congr rfl fun q _ => congrArg (X (ix2 (i 0) q) * ·) (hw q)) hv

/-! ## Rows of blocks -/

/-- Row `r` of device `e`'s block. -/
def row (e : Fin 16) (r : Fin 4) : Fin 64 := ⟨e.val * 4 + r.val, by omega⟩

/-- Every row is one. -/
theorem row_all (i : Fin 64) : ∃ e r, i = row e r :=
  ⟨⟨i.val / 4, by omega⟩, ⟨i.val % 4, by omega⟩, Fin.ext (by show i.val = i.val / 4 * 4 + i.val % 4; omega)⟩

theorem slotV_apply {α : Type} (Y : S16x4x512.Idx → α) (e : Fin 16) (r : Fin 4) (l : Fin 512) :
    slotV Y e (ix2 r l) = Y (ix3 e r l) := by
  have h : Shape.reshapeEquiv squeezes_S1x4x512_S4x512.numel_eq (ix2 r l : S4x512.Idx) = (ix3 0 r l : S1x4x512.Idx) := by
    apply Shape.reshapeEquiv_eq_of_rowMajor
    rw [Shape.rowMajor_val_three, Shape.rowMajor_val_two]
    show ((0 : ℕ) * 4 + r.val) * 512 + l.val = r.val * 512 + l.val
    omega
  show Y ((pieceR offS S1x4x512.size inbS e).emb _) = _
  rw [h]
  refine congrArg Y (funext fun a => Fin.ext ?_)
  match a with
  | ⟨0, _⟩ => rfl
  | ⟨1, _⟩ => show 0 + 1 * r.val = r.val; omega
  | ⟨2, _⟩ => show 0 + 1 * l.val = l.val; omega

theorem stack_apply {α : Type} (Xs : Fin 16 → S4x512.Idx → α) (e : Fin 16) (r : Fin 4) (l : Fin 512) :
    stack Xs (ix3 e r l) = Xs e (ix2 r l) := by
  rw [← slotV_apply (stack Xs), slotV_stack]

/-- The whole array cut in sixteen slots; -/
theorem split_apply {α : Type} (Y : S64x512.Idx → α) (e : Fin 16) (r : Fin 4) (l : Fin 512) :
    shapeCast S16x4x512 Y shapeCasts_S64x512_S16x4x512 (ix3 e r l) = Y (ix2 (row e r) l) := by
  refine shapeCast_apply _ _ _ _ ?_
  rw [Shape.rowMajor_val_three, Shape.rowMajor_val_two]
  rfl

/-- and the slots put together. -/
theorem join_apply {α : Type} (Y : S16x4x512.Idx → α) (e : Fin 16) (r : Fin 4) (l : Fin 512) :
    shapeCast S64x512 Y shapeCasts_S16x4x512_S64x512 (ix2 (row e r) l) = Y (ix3 e r l) := by
  refine shapeCast_apply _ _ _ _ ?_
  rw [Shape.rowMajor_val_three, Shape.rowMajor_val_two]
  rfl

/-- The sum over a landing buffer's slots, slot `e` holding block `c` of `Ps e`. -/
theorem sums (Ps : Fin 16 → S64x512.Idx → EReal) (c : Fin 16) (r : Fin 4) (l : Fin 512) :
    multiReduction (F := Ideal) (φ := .f32) .add [0] S4x512
      (stack fun e => slotV (shapeCast S16x4x512 (Ps e) shapeCasts_S64x512_S16x4x512) c) 0x00000000#32
      reduces_S16x4x512_S4x512 (.inl rfl) rfl (ix2 r l) = ∑ e : Fin 16, Ps e (ix2 (row c r) l) := by
  refine (Ideal.multiReduction_add_single _ _ _ _ _ _).trans (Finset.sum_congr rfl fun e _ => ?_)
  have h : (reduces_S16x4x512_S4x512).lift (ix2 r l) e = (ix3 e r l : S16x4x512.Idx) := by
    funext a
    match a with
    | ⟨0, _⟩ => rfl
    | ⟨1, _⟩ => rfl
    | ⟨2, _⟩ => rfl
  rw [h]
  exact (stack_apply _ e r l).trans ((slotV_apply _ c r l).trans (split_apply _ c r l))

/-- What a device sends on is the sum over its slots. -/
theorem sent_on (Y : S16x4x512.Idx → EReal) : reS (k0_pay10 (F := Ideal) Y)
    = multiReduction (F := Ideal) (φ := .f32) .add [0] S4x512 Y 0x00000000#32 reduces_S16x4x512_S4x512 (.inl rfl) rfl := by
  have h : ∀ Z : S4x512.Idx → EReal, reS (shapeCast S1x4x512 Z shapeCasts_S4x512_S1x4x512) = Z := fun Z =>
    funext fun j => congrArg Z (by rw [Shape.reshapeEquiv_reshapeEquiv, Shape.reshapeEquiv_self])
  exact h _

/-- What a device gathers: the sums of the sixteen devices' blocks are the sum of the whole partial products. -/
theorem gathered (Ps : Fin 16 → S64x512.Idx → EReal) (snd : Fin 16 → S16x4x512.Idx → EReal)
    (h : ∀ e, snd e = shapeCast S16x4x512 (Ps e) shapeCasts_S64x512_S16x4x512) :
    shapeCast S64x512 (stack fun c => reS (k0_pay10 (F := Ideal) (stack fun e => slotV (snd e) c))) shapeCasts_S16x4x512_S64x512
      = fun i => ∑ e : Fin 16, Ps e i := by
  obtain rfl : snd = fun e => shapeCast S16x4x512 (Ps e) shapeCasts_S64x512_S16x4x512 := funext h
  simp only [sent_on]
  funext i
  obtain ⟨a, l, rfl⟩ : ∃ (a : Fin 64) (l : Fin 512), i = ix2 a l := ⟨i 0, i 1, eq_ix2 i⟩
  obtain ⟨c, r, rfl⟩ := row_all a
  exact (join_apply _ c r l).trans ((stack_apply _ c r l).trans (sums Ps c r l))

/-! ## A device's partial product -/

/-- The weights that a device multiplies by are those it was launched with: the first -/
theorem weights_in (W : S512x1024.Idx → EReal) :
    shapeCast S512x1024 (k0_pay2 (F := Ideal) (unI W)) shapeCasts_S1x512x1024_S512x1024 = W := by
  refine (shapeCast_shapeCast (t := S1x512x1024) _ shapeCasts_S512x1024_S1x512x1024 shapeCasts_S1x512x1024_S512x1024).trans ?_
  exact funext fun j => congrArg W (Equiv.symm_apply_apply (Shape.reshapeEquiv squeezes_S1x512x1024_S512x1024.numel_eq) j)

/-- and the second. -/
theorem weights_out (V : S1024x512.Idx → EReal) :
    shapeCast S1024x512 (k0_pay3 (F := Ideal) (unO V)) shapeCasts_S1x1024x512_S1024x512 = V := by
  refine (shapeCast_shapeCast (t := S1x1024x512) _ shapeCasts_S1024x512_S1x1024x512 shapeCasts_S1x1024x512_S1024x512).trans ?_
  exact funext fun j => congrArg V (Equiv.symm_apply_apply (Shape.reshapeEquiv squeezes_S1x1024x512_S1024x512.numel_eq) j)

/-- A device's partial product, of the input `X`, is the layer of its own hidden units, cut in sixteen slots. -/
theorem partial_eq (X : FVec Ideal S64x512 .f32) (W : S512x1024.Idx → EReal) (V : S1024x512.Idx → EReal) :
    k0_pay5 (F := Ideal) (k0_pay4 (F := Ideal) X (k0_pay2 (F := Ideal) (unI W))) (k0_pay3 (F := Ideal) (unO V))
      = shapeCast S16x4x512 (layer (K := 1024) X W V) shapeCasts_S64x512_S16x4x512 := by
  have key : matmul (F := Ideal) (φ₁ := .bf16) (φ₂ := .bf16) dot_S64x1024_S1024x512_S64x512_1_0_0_1_n_n none
      (k0_pay4 (F := Ideal) X (k0_pay2 (F := Ideal) (unI W)))
      (shapeCast S1024x512 (k0_pay3 (F := Ideal) (unO V)) shapeCasts_S1x1024x512_S1024x512) (constant S64x512 .f32 0x00000000#32)
      = layer (K := 1024) X W V := by
    rw [weights_out, matmul_zero_eq_dotGeneral]
    refine layer_eq (φ₁ := .bf16) (φ₂ := .bf16) (φ₃ := .bf16) (φ₄ := .bf16) X W V _ fun i k => ?_
    show max (matmul (F := Ideal) (φ₁ := .bf16) (φ₂ := .bf16) dot_S64x512_S512x1024_S64x1024_1_0_0_1_n_n none (shapeCast S64x512 X shapeCasts_S64x512_S64x512)
      (shapeCast S512x1024 (k0_pay2 (F := Ideal) (unI W)) shapeCasts_S1x512x1024_S512x1024) (constant S64x1024 .f32 0x00000000#32) (ix2 i k))
        (Ideal.ofBits .f32 0x00000000#32) = _
    rw [weights_in, Ideal.ofBits_zero_f32, matmul_zero_eq_dotGeneral, shapeCast_self]
    rfl
  refine Eq.trans ?_ (congrArg (fun Y : S64x512.Idx → EReal => shapeCast S16x4x512 Y shapeCasts_S64x512_S16x4x512) key)
  exact shapeCast_self (α := EReal) _ shapeCasts_S16x4x512_S16x4x512

/-- The later layers' first products read the gathered blocks put together, -/
theorem later_in (A : S16x4x512.Idx → EReal) (w : S1x512x1024.Idx → EReal) :
    k0_pay13 (F := Ideal) A w = k0_pay4 (F := Ideal) (shapeCast S64x512 A shapeCasts_S16x4x512_S64x512) w := by
  have h := shapeCast_self (shapeCast S64x512 A shapeCasts_S16x4x512_S64x512) shapeCasts_S64x512_S64x512
  exact (congrArg (fun X : S64x512.Idx → EReal =>
    (maximumf (matmul (F := Ideal) (φ₁ := .bf16) (φ₂ := .bf16) dot_S64x512_S512x1024_S64x1024_1_0_0_1_n_n none X
      (shapeCast S512x1024 w shapeCasts_S1x512x1024_S512x1024) (constant S64x1024 .f32 0x00000000#32))
      (broadcast S64x1024 (Scalar.ofBits .f32 0x00000000#32)) : FVec Ideal S64x1024 .f32)) h).symm

/-- so their partial products are partial products of what was gathered. -/
theorem later_eq (A : S16x4x512.Idx → EReal) (X : S64x512.Idx → EReal) (hA : shapeCast S64x512 A shapeCasts_S16x4x512_S64x512 = X)
    (W : S512x1024.Idx → EReal) (V : S1024x512.Idx → EReal) :
    k0_pay5 (F := Ideal) (k0_pay13 (F := Ideal) A (k0_pay2 (F := Ideal) (unI W))) (k0_pay3 (F := Ideal) (unO V))
      = shapeCast S16x4x512 (layer (K := 1024) X W V) shapeCasts_S64x512_S16x4x512 := by
  rw [later_in, hA]
  exact partial_eq X W V

/-! ## The three layers -/

section Layers

variable (m : (ℓ : Loc nD τ sig) → Buf (Elt Ideal) ℓ)
variable (X : (⟨2, ![64, 512]⟩ : Shape).Idx → EReal) (W : Fin 3 → (⟨2, ![512, 16384]⟩ : Shape).Idx → EReal)
variable (V : Fin 3 → (⟨2, ![16384, 512]⟩ : Shape).Idx → EReal)

/-- The input of layer 1, -/
abbrev X1 : (⟨2, ![64, 512]⟩ : Shape).Idx → EReal := layer X (W 0) (V 0)
/-- of layer 2, -/
abbrev X2 : (⟨2, ![64, 512]⟩ : Shape).Idx → EReal := layer (X1 X W V) (W 1) (V 1)
/-- and the result. -/
abbrev X3 : (⟨2, ![64, 512]⟩ : Shape).Idx → EReal := layer (X2 X W V) (W 2) (V 2)

/-- Every device holds the input and its blocks of the weights. -/
structure Placed : Prop where
  x : ∀ c, xV m c = X
  w : ∀ c l, wI m c l = Layout.block ⟨2, ![512, 1024]⟩ ⟨2, ![512, 16384]⟩ 1 16 c (W l)
  v : ∀ c l, wO m c l = Layout.block ⟨2, ![1024, 512]⟩ ⟨2, ![16384, 512]⟩ 0 16 c (V l)

/-- Device `c`'s partial product in layer `l`, of the input `Y`. -/
def part (Y : (⟨2, ![64, 512]⟩ : Shape).Idx → EReal) (l : Fin 3) (c : Fin 16) : S64x512.Idx → EReal :=
  layer Y (Layout.block ⟨2, ![512, 1024]⟩ ⟨2, ![512, 16384]⟩ 1 16 c (W l)) (Layout.block ⟨2, ![1024, 512]⟩ ⟨2, ![16384, 512]⟩ 0 16 c (V l))

variable {m X W V} (h : Placed m X W V)
include h

theorem snd0_eq (c : Dev nD) : snd0 m c = shapeCast S16x4x512 (part W V X 0 c) shapeCasts_S64x512_S16x4x512 := by
  show k0_pay5 (F := Ideal) (k0_pay4 (F := Ideal) (xV m c) (k0_pay2 (F := Ideal) (unI (wI m c 0)))) (k0_pay3 (F := Ideal) (unO (wO m c 0))) = _
  rw [h.x, h.w, h.v]
  exact partial_eq X _ _
theorem ag0_eq : shapeCast S64x512 (ag0 m) shapeCasts_S16x4x512_S64x512 = X1 X W V :=
  (gathered (part W V X 0) (snd0 m) (snd0_eq h)).trans (funext fun i => (layer_split X (W 0) (V 0) i).symm)

theorem snd1_eq (c : Dev nD) : snd1 m c = shapeCast S16x4x512 (part W V (X1 X W V) 1 c) shapeCasts_S64x512_S16x4x512 := by
  show k0_pay5 (F := Ideal) (k0_pay13 (F := Ideal) (ag0 m) (k0_pay2 (F := Ideal) (unI (wI m c 1)))) (k0_pay3 (F := Ideal) (unO (wO m c 1))) = _
  rw [h.w, h.v]
  exact later_eq _ _ (ag0_eq h) _ _
theorem ag1_eq : shapeCast S64x512 (ag1 m) shapeCasts_S16x4x512_S64x512 = X2 X W V :=
  (gathered (part W V (X1 X W V) 1) (snd1 m) (snd1_eq h)).trans (funext fun i => (layer_split (X1 X W V) (W 1) (V 1) i).symm)

theorem snd2_eq (c : Dev nD) : snd2 m c = shapeCast S16x4x512 (part W V (X2 X W V) 2 c) shapeCasts_S64x512_S16x4x512 := by
  show k0_pay5 (F := Ideal) (k0_pay13 (F := Ideal) (ag1 m) (k0_pay2 (F := Ideal) (unI (wI m c 2)))) (k0_pay3 (F := Ideal) (unO (wO m c 2))) = _
  rw [h.w, h.v]
  exact later_eq _ _ (ag1_eq h) _ _

/-- Device `c`'s result is block `c` of the three layers. -/
theorem out_value (c : Dev nD) : outV m c = Layout.block ⟨2, ![4, 512]⟩ ⟨2, ![64, 512]⟩ 0 16 c (X3 X W V) := by
  have hs : snd2 m = fun e => shapeCast S16x4x512 (part W V (X2 X W V) 2 e) shapeCasts_S64x512_S16x4x512 := funext (snd2_eq h)
  funext j
  obtain ⟨r, l, rfl⟩ : ∃ (r : Fin 4) (l : Fin 512), j = ix2 r l := ⟨j 0, j 1, eq_ix2 j⟩
  have e : outV m c (ix2 r l) = X3 X W V (ix2 (row c r) l) := by
    show multiReduction (F := Ideal) (φ := .f32) .add [0] S4x512 (stack fun e => slotV (snd2 m e) c) 0x00000000#32
      reduces_S16x4x512_S4x512 (.inl rfl) rfl (ix2 r l) = _
    rw [hs]
    exact (sums _ c r l).trans (layer_split (X2 X W V) (W 2) (V 2) _).symm
  refine e.trans (congrArg (X3 X W V) (funext fun a => Fin.ext ?_))
  match a with
  | ⟨0, _⟩ => rfl
  | ⟨1, _⟩ => rfl

end Layers

end Cert.MlpProof
-- ==== Proof.Algebraic.lean ====
/-
  The kernel on sixteen devices against the reference on one: each device's result is its block of the reference's.
-/
module

public import proofs.«01_k».proof.Proof.Value
public import proofs.«01_k».proof.Proof.Frames

@[expose] public section

noncomputable section

namespace Cert.MlpProof

open Idealize.ShloMosaic Idealize.ShloMosaic.ValueIdx Idealize.SL.Sem
open Idealize.ShloMosaic.TcCoe

open Cert.ReferenceIdeal in
/-- One layer as the reference writes it. -/
theorem reference_layer (X : FVec Ideal S64x512 .f32) (W : FVec Ideal S512x16384 .f32) (V : FVec Ideal S16384x512 .f32)
    (hb : S_.BroadcastsInDim S64x16384 ![]) :
    Host.dotGeneral dot_S64x16384_S16384x512_S64x512_1_0_0_1_n_n none
      (maximumf (Host.dotGeneral dot_S64x512_S512x16384_S64x16384_1_0_0_1_n_n none X W)
        (broadcastInDim S64x16384 ![] hb (constant S_ .f32 0x00000000#32))) V
      = layer (K := 16384) X W V := by
  refine layer_eq (K := 16384) (φ₁ := .f32) (φ₂ := .f32) (φ₃ := .f32) (φ₄ := .f32) X W V _ fun i k => ?_
  show max _ (Ideal.ofBits .f32 0x00000000#32) = _
  rw [Ideal.ofBits_zero_f32]
  rfl

section Reference

open Cert.ReferenceIdeal

variable (m : (ℓ : Loc nD τ sig) → Buf (Elt Ideal) ℓ)

/-- The reference's input, and its weights by layer. -/
def refX : S64x512.Idx → EReal := m (((0 : Dev nD).tc : Thread nD τ).loc main_arg0)
def refW : Fin 3 → S512x16384.Idx → EReal
  | 0 => m (((0 : Dev nD).tc : Thread nD τ).loc main_arg1)
  | 1 => m (((0 : Dev nD).tc : Thread nD τ).loc main_arg2)
  | 2 => m (((0 : Dev nD).tc : Thread nD τ).loc main_arg3)
def refV : Fin 3 → S16384x512.Idx → EReal
  | 0 => m (((0 : Dev nD).tc : Thread nD τ).loc main_arg4)
  | 1 => m (((0 : Dev nD).tc : Thread nD τ).loc main_arg5)
  | 2 => m (((0 : Dev nD).tc : Thread nD τ).loc main_arg6)

end Reference

/-- The claim: each device's result is its block of the reference's. -/
theorem algebraic : Cert.algebraic_KernelIdeal_ReferenceIdeal := by
  intro m g m' g' _ hm
  refine ⟨X3 (refX m') (refW m') (refV m'), ?_, ?_⟩
  · have hp : Placed m (refX m') (refW m') (refV m') := by
      refine ⟨fun c => (hm c).1, fun c l => ?_, fun c l => ?_⟩
      · match l with
        | 0 => exact (hm c).2.1
        | 1 => exact (hm c).2.2.1
        | 2 => exact (hm c).2.2.2.1
      · match l with
        | 0 => exact (hm c).2.2.2.2.1
        | 1 => exact (hm c).2.2.2.2.2.1
        | 2 => exact (hm c).2.2.2.2.2.2
    exact (θ_run Cert.KernelIdeal.defs _ _).mono
      (fun r h c => ⟨(h.1 c).1.trans (out_value hp c), args_kept h c⟩) (run_main (F := Ideal) m g)
  · refine (θ_run Cert.ReferenceIdeal.defs _ _).mono (fun r h => ⟨(h 0).1.trans ?_, (h 0).2⟩)
      (Cert.ReferenceIdeal.Value.run (F := Ideal) m' g')
    rw [reference_layer, reference_layer, reference_layer]
    rfl

end Cert.MlpProof
-- ==== Proof.lean ====
/-
The proof of the certificate's claims: the three frames, that the kernel read over the extended reals is the kernel as
printed, and that each device's result is its block of the reference's. The parts are in the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims: the three programs run and leave their arguments alone, the kernel read over the extended reals is the
kernel as printed, and each device's result is its block of the reference's. -/
theorem claim : Cert.Claim := ⟨Cert.Kernel.Gen.facts, Cert.KernelIdeal.Gen.facts, Cert.ReferenceIdeal.Gen.facts,
  Cert.MlpProof.frame_kernel, Cert.MlpProof.frame_ideal, Cert.MlpProof.frame_reference, trivial, Cert.MlpProof.algebraic⟩

end Cert.Proof

end
